-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "noise1" .f32 0xBA1AA45B#32 (((-1 / 1175) * (Real.log 2) : ℝ) : EReal)
  ∧ IdealRules.named_const.Statement Cert.KernelIdeal.κ "noise2" .f32 0xB9632166#32 (((-1 / 3200) * (Real.log 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x376 : Shape := ⟨2, ![128, 376]⟩
abbrev S376x1024 : Shape := ⟨2, ![376, 1024]⟩
abbrev S1024 : Shape := ⟨1, ![1024]⟩
abbrev S1024x17 : Shape := ⟨2, ![1024, 17]⟩
abbrev S17 : Shape := ⟨1, ![17]⟩
abbrev S1 : Shape := ⟨1, ![1]⟩
abbrev S_ : Shape := ⟨0, ![]⟩
abbrev S128x384 : Shape := ⟨2, ![128, 384]⟩
abbrev S384x1024 : Shape := ⟨2, ![384, 1024]⟩
abbrev S384x4x256 : Shape := ⟨3, ![384, 4, 256]⟩
abbrev S4x384x256 : Shape := ⟨3, ![4, 384, 256]⟩
abbrev S4x1x256 : Shape := ⟨3, ![4, 1, 256]⟩
abbrev S17x1024 : Shape := ⟨2, ![17, 1024]⟩
abbrev S32x1024 : Shape := ⟨2, ![32, 1024]⟩
abbrev S32 : Shape := ⟨1, ![32]⟩
abbrev S32x1 : Shape := ⟨2, ![32, 1]⟩
abbrev S1x32 : Shape := ⟨2, ![1, 32]⟩
abbrev S512x2x128x17 : Shape := ⟨4, ![512, 2, 128, 17]⟩
abbrev S1x2x128x17 : Shape := ⟨4, ![1, 2, 128, 17]⟩
abbrev S24x1024 : Shape := ⟨2, ![24, 1024]⟩
abbrev S2x384x256 : Shape := ⟨3, ![2, 384, 256]⟩
abbrev S2x2x4x32x256 : Shape := ⟨5, ![2, 2, 4, 32, 256]⟩
abbrev S2x2x4x128x256 : Shape := ⟨5, ![2, 2, 4, 128, 256]⟩
abbrev S16x128 : Shape := ⟨2, ![16, 128]⟩
abbrev S1x32x256 : Shape := ⟨3, ![1, 32, 256]⟩
abbrev S32x256 : Shape := ⟨2, ![32, 256]⟩
abbrev S1x1x256 : Shape := ⟨3, ![1, 1, 256]⟩
abbrev S1x256 : Shape := ⟨2, ![1, 256]⟩
abbrev S1x384x256 : Shape := ⟨3, ![1, 384, 256]⟩
abbrev S384x256 : Shape := ⟨2, ![384, 256]⟩
abbrev S128x256 : Shape := ⟨2, ![128, 256]⟩
abbrev S1x1x1x128x256 : Shape := ⟨5, ![1, 1, 1, 128, 256]⟩
abbrev S1x16x128 : Shape := ⟨3, ![1, 16, 128]⟩
abbrev S8x128 : Shape := ⟨2, ![8, 128]⟩
abbrev S1x8x128 : Shape := ⟨3, ![1, 8, 128]⟩
abbrev S128x32 : Shape := ⟨2, ![128, 32]⟩
abbrev S1x1x1x32x256 : Shape := ⟨5, ![1, 1, 1, 32, 256]⟩
abbrev S128x17 : Shape := ⟨2, ![128, 17]⟩
abbrev S1x1x128x17 : Shape := ⟨4, ![1, 1, 128, 17]⟩
abbrev S24x128 : Shape := ⟨2, ![24, 128]⟩
abbrev S32x128 : Shape := ⟨2, ![32, 128]⟩
abbrev S1x1x1x32x128 : Shape := ⟨5, ![1, 1, 1, 32, 128]⟩

abbrev nBuf : Space → Nat
  | .hbm => 30
  | .vmem => 16
  | .smem => 1
  | _ => 0

abbrev bufTy : (tb : Table) → Fin (tcTables nBuf tb) → BufTy
  | .hbm, ⟨0, _⟩ => ⟨S128x376, .bf16⟩
  | .hbm, ⟨1, _⟩ => ⟨S376x1024, .fp8e4m3⟩
  | .hbm, ⟨2, _⟩ => ⟨S1024, .f32⟩
  | .hbm, ⟨3, _⟩ => ⟨S1024, .f32⟩
  | .hbm, ⟨4, _⟩ => ⟨S1024x17, .fp8e4m3⟩
  | .hbm, ⟨5, _⟩ => ⟨S17, .f32⟩
  | .hbm, ⟨6, _⟩ => ⟨S17, .f32⟩
  | .hbm, ⟨7, _⟩ => ⟨S1, .i32⟩
  | .hbm, ⟨8, _⟩ => ⟨S_, .i32⟩
  | .hbm, ⟨9, _⟩ => ⟨S_, .bf16⟩
  | .hbm, ⟨10, _⟩ => ⟨S128x384, .bf16⟩
  | .hbm, ⟨11, _⟩ => ⟨S_, .i8⟩
  | .hbm, ⟨12, _⟩ => ⟨S_, .fp8e4m3⟩
  | .hbm, ⟨13, _⟩ => ⟨S384x1024, .fp8e4m3⟩
  | .hbm, ⟨14, _⟩ => ⟨S384x4x256, .fp8e4m3⟩
  | .hbm, ⟨15, _⟩ => ⟨S4x384x256, .fp8e4m3⟩
  | .hbm, ⟨16, _⟩ => ⟨S4x1x256, .f32⟩
  | .hbm, ⟨17, _⟩ => ⟨S4x1x256, .f32⟩
  | .hbm, ⟨18, _⟩ => ⟨S17x1024, .fp8e4m3⟩
  | .hbm, ⟨19, _⟩ => ⟨S32x1024, .fp8e4m3⟩
  | .hbm, ⟨20, _⟩ => ⟨S_, .i32⟩
  | .hbm, ⟨21, _⟩ => ⟨S_, .f32⟩
  | .hbm, ⟨22, _⟩ => ⟨S32, .f32⟩
  | .hbm, ⟨23, _⟩ => ⟨S32x1, .f32⟩
  | .hbm, ⟨24, _⟩ => ⟨S_, .i32⟩
  | .hbm, ⟨25, _⟩ => ⟨S_, .f32⟩
  | .hbm, ⟨26, _⟩ => ⟨S32, .f32⟩
  | .hbm, ⟨27, _⟩ => ⟨S1x32, .f32⟩
  | .hbm, ⟨28, _⟩ => ⟨S1, .i32⟩
  | .hbm, ⟨29, _⟩ => ⟨S512x2x128x17, .bf16⟩
  | .local _ .vmem, ⟨0, _⟩ => ⟨S128x384, .bf16⟩
  | .local _ .vmem, ⟨1, _⟩ => ⟨S4x384x256, .fp8e4m3⟩
  | .local _ .vmem, ⟨2, _⟩ => ⟨S4x1x256, .f32⟩
  | .local _ .vmem, ⟨3, _⟩ => ⟨S4x1x256, .f32⟩
  | .local _ .vmem, ⟨4, _⟩ => ⟨S32x1024, .fp8e4m3⟩
  | .local _ .vmem, ⟨5, _⟩ => ⟨S32x1, .f32⟩
  | .local _ .vmem, ⟨6, _⟩ => ⟨S1x32, .f32⟩
  | .local _ .vmem, ⟨7, _⟩ => ⟨S1x2x128x17, .bf16⟩
  | .local _ .vmem, ⟨8, _⟩ => ⟨S1x2x128x17, .bf16⟩
  | .local _ .vmem, ⟨9, _⟩ => ⟨S4x384x256, .f32⟩
  | .local _ .vmem, ⟨10, _⟩ => ⟨S32x1024, .f32⟩
  | .local _ .vmem, ⟨11, _⟩ => ⟨S24x1024, .i32⟩
  | .local _ .vmem, ⟨12, _⟩ => ⟨S2x384x256, .bf16⟩
  | .local _ .vmem, ⟨13, _⟩ => ⟨S2x384x256, .bf16⟩
  | .local _ .vmem, ⟨14, _⟩ => ⟨S2x2x4x32x256, .bf16⟩
  | .local _ .vmem, ⟨15, _⟩ => ⟨S2x2x4x128x256, .bf16⟩
  | .local _ .smem, ⟨0, _⟩ => ⟨S1, .i32⟩
  | _, _ => ⟨S128x376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9

abbrev nD : Nat := 1
abbrev τ : Topo := Topo.v7x

variable {F : FTy → Type} [FloatOps F]

abbrev grid0 : Pipeline.Grid := ⟨1, ![513], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_386 : BitVec 32 := 0#32
  let c48_i32 : BitVec 32 := 48#32
  let v770 : BitVec 32 := Scalar.addi c0_i32_386 c48_i32
  let c1_i32_387 : BitVec 32 := 1#32
  ⟨c0_i32_386, v770, c1_i32_387⟩
def k0_mult1 (k0_t1 : Fin k0_t1_loop.trips) : BitVec 32 :=
  let c0_i32_386 : BitVec 32 := 0#32
  let c1_i32_387 : BitVec 32 := 1#32
  let arg17 : BitVec 32 := Scf.iv c0_i32_386 c1_i32_387 k0_t1
  let c12_i32_424 : BitVec 32 := 12#32
  let c0_i32_425 : BitVec 32 := 0#32
  let v824 : BitVec 1 := Scalar.cmpi .eq c12_i32_424 c0_i32_425
  let c1_i32_426 : BitVec 32 := 1#32
  let v825 : BitVec 32 := Scalar.select v824 c1_i32_426 c12_i32_424
  let v826 : BitVec 32 := Scalar.remsi arg17 v825
  let c0_i32_428 : BitVec 32 := 0#32
  let v828 : BitVec 1 := Scalar.cmpi .slt v826 c0_i32_428
  let c0_i32_429 : BitVec 32 := 0#32
  let v829 : BitVec 1 := Scalar.cmpi .slt v825 c0_i32_429
  let v830 : BitVec 1 := Scalar.xori v828 v829
  let c0_i32_427 : BitVec 32 := 0#32
  let v827 : BitVec 1 := Scalar.cmpi .ne v826 c0_i32_427
  let v831 : BitVec 1 := Scalar.andi v830 v827
  let v832 : BitVec 32 := Scalar.addi v826 v825
  let v833 : BitVec 32 := Scalar.select v831 v832 v826
  let c32_i32 : BitVec 32 := 32#32
  let v834 : BitVec 32 := Scalar.muli v833 c32_i32
  v834
def k0_off1 (k0_t1 : Fin k0_t1_loop.trips) : Fin 3 → Nat :=
  let c0_i32_386 : BitVec 32 := 0#32
  let c1_i32_387 : BitVec 32 := 1#32
  let arg17 : BitVec 32 := Scf.iv c0_i32_386 c1_i32_387 k0_t1
  let c0_i32_418 : BitVec 32 := 0#32
  let v808 : BitVec 1 := Scalar.cmpi .sgt arg17 c0_i32_418
  let v809 : BitVec 32 := Scalar.extui v808
  let c0_i32_419 : BitVec 32 := 0#32
  let v810 : BitVec 1 := Scalar.cmpi .slt arg17 c0_i32_419
  let v811 : BitVec 32 := Scalar.extui v810
  let v812 : BitVec 32 := Scalar.subi v809 v811
  let c12_i32 : BitVec 32 := 12#32
  let c0_i32_420 : BitVec 32 := 0#32
  let v813 : BitVec 1 := Scalar.cmpi .sgt c12_i32 c0_i32_420
  let v814 : BitVec 32 := Scalar.extui v813
  let c0_i32_421 : BitVec 32 := 0#32
  let v815 : BitVec 1 := Scalar.cmpi .slt c12_i32 c0_i32_421
  let v816 : BitVec 32 := Scalar.extui v815
  let v817 : BitVec 32 := Scalar.subi v814 v816
  let v818 : BitVec 1 := Scalar.cmpi .ne v812 v817
  let v819 : BitVec 32 := Scalar.remsi arg17 c12_i32
  let c0_i32_422 : BitVec 32 := 0#32
  let v820 : BitVec 1 := Scalar.cmpi .ne v819 c0_i32_422
  let v821 : BitVec 1 := Scalar.andi v818 v820
  let v807 : BitVec 32 := Scalar.divsi arg17 c12_i32
  let c1_i32_423 : BitVec 32 := 1#32
  let v822 : BitVec 32 := Scalar.subi v807 c1_i32_423
  let v823 : BitVec 32 := Scalar.select v821 v822 v807
  let v836 : Index := Scalar.indexCast v823
  let c12_i32_424 : BitVec 32 := 12#32
  let c0_i32_425 : BitVec 32 := 0#32
  let v824 : BitVec 1 := Scalar.cmpi .eq c12_i32_424 c0_i32_425
  let c1_i32_426 : BitVec 32 := 1#32
  let v825 : BitVec 32 := Scalar.select v824 c1_i32_426 c12_i32_424
  let v826 : BitVec 32 := Scalar.remsi arg17 v825
  let c0_i32_428 : BitVec 32 := 0#32
  let v828 : BitVec 1 := Scalar.cmpi .slt v826 c0_i32_428
  let c0_i32_429 : BitVec 32 := 0#32
  let v829 : BitVec 1 := Scalar.cmpi .slt v825 c0_i32_429
  let v830 : BitVec 1 := Scalar.xori v828 v829
  let c0_i32_427 : BitVec 32 := 0#32
  let v827 : BitVec 1 := Scalar.cmpi .ne v826 c0_i32_427
  let v831 : BitVec 1 := Scalar.andi v830 v827
  let v832 : BitVec 32 := Scalar.addi v826 v825
  let v833 : BitVec 32 := Scalar.select v831 v832 v826
  let c32_i32 : BitVec 32 := 32#32
  let v834 : BitVec 32 := Scalar.muli v833 c32_i32
  let v835 : BitVec 32 := v834
  let v837 : Index := Scalar.indexCast v835
  let c0_430 : Index := 0#32
  ![v836.toNat, v837.toNat, 0]
def k0_off2 (k0_t1 : Fin k0_t1_loop.trips) : Fin 3 → Nat :=
  let c0_i32_386 : BitVec 32 := 0#32
  let c1_i32_387 : BitVec 32 := 1#32
  let arg17 : BitVec 32 := Scf.iv c0_i32_386 c1_i32_387 k0_t1
  let c0_i32_418 : BitVec 32 := 0#32
  let v808 : BitVec 1 := Scalar.cmpi .sgt arg17 c0_i32_418
  let v809 : BitVec 32 := Scalar.extui v808
  let c0_i32_419 : BitVec 32 := 0#32
  let v810 : BitVec 1 := Scalar.cmpi .slt arg17 c0_i32_419
  let v811 : BitVec 32 := Scalar.extui v810
  let v812 : BitVec 32 := Scalar.subi v809 v811
  let c12_i32 : BitVec 32 := 12#32
  let c0_i32_420 : BitVec 32 := 0#32
  let v813 : BitVec 1 := Scalar.cmpi .sgt c12_i32 c0_i32_420
  let v814 : BitVec 32 := Scalar.extui v813
  let c0_i32_421 : BitVec 32 := 0#32
  let v815 : BitVec 1 := Scalar.cmpi .slt c12_i32 c0_i32_421
  let v816 : BitVec 32 := Scalar.extui v815
  let v817 : BitVec 32 := Scalar.subi v814 v816
  let v818 : BitVec 1 := Scalar.cmpi .ne v812 v817
  let v819 : BitVec 32 := Scalar.remsi arg17 c12_i32
  let c0_i32_422 : BitVec 32 := 0#32
  let v820 : BitVec 1 := Scalar.cmpi .ne v819 c0_i32_422
  let v821 : BitVec 1 := Scalar.andi v818 v820
  let v807 : BitVec 32 := Scalar.divsi arg17 c12_i32
  let c1_i32_423 : BitVec 32 := 1#32
  let v822 : BitVec 32 := Scalar.subi v807 c1_i32_423
  let v823 : BitVec 32 := Scalar.select v821 v822 v807
  let v841 : Index := Scalar.indexCast v823
  let c0_431 : Index := 0#32
  let c0_432 : Index := 0#32
  ![v841.toNat, 0, 0]
@[reducible] def k0_t2_loop : Scf.Loop 32 :=
  let c0_i32_14 : BitVec 32 := 0#32
  let c2_i32_15 : BitVec 32 := 2#32
  let v36 : BitVec 32 := Scalar.addi c0_i32_14 c2_i32_15
  let c1_i32_16 : BitVec 32 := 1#32
  ⟨c0_i32_14, v36, c1_i32_16⟩
def k0_off3 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c0_i32_387 : BitVec 32 := 0#32
  let v771 : BitVec 1 := Scalar.cmpi .eq arg17 c0_i32_387
  let c3_i32 : BitVec 32 := 3#32
  let c2_i32_386 : BitVec 32 := 2#32
  let v770 : BitVec 32 := Scalar.muli arg17 c2_i32_386
  let c1_i32_388 : BitVec 32 := 1#32
  let v772 : BitVec 32 := Scalar.subi v770 c1_i32_388
  let v773 : BitVec 32 := Scalar.select v771 c3_i32 v772
  let v782 : Index := Scalar.indexCast v773
  let c0_397 : Index := 0#32
  let c0_398 : Index := 0#32
  ![v782.toNat, 0, 0]
def k0_off4 (i : grid0.Coords) (k0_t2 : Fin k0_t2_loop.trips) : Fin 5 → Nat :=
  let c0_i32_14 : BitVec 32 := 0#32
  let c1_i32_16 : BitVec 32 := 1#32
  let arg17 : BitVec 32 := Scf.iv c0_i32_14 c1_i32_16 k0_t2
  let c0_i32_389 : BitVec 32 := 0#32
  let v774 : BitVec 1 := Scalar.cmpi .eq arg17 c0_i32_389
  let c1_i32_390 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v775 : BitVec 32 := Scalar.subi c1_i32_390 v15
  let v776 : BitVec 32 := Scalar.select v774 v775 v15
  let v789 : Index := Scalar.indexCast v776
  let c0_399 : Index := 0#32
  let c0_i32_387 : BitVec 32 := 0#32
  let v771 : BitVec 1 := Scalar.cmpi .eq arg17 c0_i32_387
  let c3_i32 : BitVec 32 := 3#32
  let c2_i32_386 : BitVec 32 := 2#32
  let v770 : BitVec 32 := Scalar.muli arg17 c2_i32_386
  let c1_i32_388 : BitVec 32 := 1#32
  let v772 : BitVec 32 := Scalar.subi v770 c1_i32_388
  let v773 : BitVec 32 := Scalar.select v771 c3_i32 v772
  let v790 : Index := Scalar.indexCast v773
  let c0_400 : Index := 0#32
  let c0_401 : Index := 0#32
  ![v789.toNat, 0, v790.toNat, 0, 0]
def k0_off5 (i : grid0.Coords) (k0_t2 : Fin k0_t2_loop.trips) : Fin 5 → Nat :=
  let c0_i32_14 : BitVec 32 := 0#32
  let c1_i32_16 : BitVec 32 := 1#32
  let arg17 : BitVec 32 := Scf.iv c0_i32_14 c1_i32_16 k0_t2
  let c0_i32_389 : BitVec 32 := 0#32
  let v774 : BitVec 1 := Scalar.cmpi .eq arg17 c0_i32_389
  let c1_i32_390 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v775 : BitVec 32 := Scalar.subi c1_i32_390 v15
  let v776 : BitVec 32 := Scalar.select v774 v775 v15
  let v806 : Index := Scalar.indexCast v776
  let c1_410 : Index := 1#32
  let c0_i32_387 : BitVec 32 := 0#32
  let v771 : BitVec 1 := Scalar.cmpi .eq arg17 c0_i32_387
  let c3_i32 : BitVec 32 := 3#32
  let c2_i32_386 : BitVec 32 := 2#32
  let v770 : BitVec 32 := Scalar.muli arg17 c2_i32_386
  let c1_i32_388 : BitVec 32 := 1#32
  let v772 : BitVec 32 := Scalar.subi v770 c1_i32_388
  let v773 : BitVec 32 := Scalar.select v771 c3_i32 v772
  let v807 : Index := Scalar.indexCast v773
  let c0_411 : Index := 0#32
  let c0_412 : Index := 0#32
  ![v806.toNat, 1, v807.toNat, 0, 0]
def k0_off6 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v895 : Index := Scalar.indexCast v770
  let c0_444 : Index := 0#32
  let c0_445 : Index := 0#32
  ![v895.toNat, 0, 0]
def k0_off7 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v965 : Index := Scalar.indexCast v770
  let c0_470 : Index := 0#32
  let c128_471 : Index := 128#32
  ![v965.toNat, 0, 128]
def k0_off8 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1044 : Index := Scalar.indexCast v770
  let c16 : Index := 16#32
  let c0_500 : Index := 0#32
  ![v1044.toNat, 16, 0]
def k0_off9 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1114 : Index := Scalar.indexCast v770
  let c16_525 : Index := 16#32
  let c128_526 : Index := 128#32
  ![v1114.toNat, 16, 128]
def k0_off10 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1193 : Index := Scalar.indexCast v770
  let c32 : Index := 32#32
  let c0_555 : Index := 0#32
  ![v1193.toNat, 32, 0]
def k0_off11 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1263 : Index := Scalar.indexCast v770
  let c32_580 : Index := 32#32
  let c128_581 : Index := 128#32
  ![v1263.toNat, 32, 128]
def k0_off12 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1342 : Index := Scalar.indexCast v770
  let c48 : Index := 48#32
  let c0_610 : Index := 0#32
  ![v1342.toNat, 48, 0]
def k0_off13 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1412 : Index := Scalar.indexCast v770
  let c48_635 : Index := 48#32
  let c128_636 : Index := 128#32
  ![v1412.toNat, 48, 128]
def k0_off14 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1491 : Index := Scalar.indexCast v770
  let c64 : Index := 64#32
  let c0_665 : Index := 0#32
  ![v1491.toNat, 64, 0]
def k0_off15 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1561 : Index := Scalar.indexCast v770
  let c64_690 : Index := 64#32
  let c128_691 : Index := 128#32
  ![v1561.toNat, 64, 128]
def k0_off16 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1640 : Index := Scalar.indexCast v770
  let c80 : Index := 80#32
  let c0_720 : Index := 0#32
  ![v1640.toNat, 80, 0]
def k0_off17 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1710 : Index := Scalar.indexCast v770
  let c80_745 : Index := 80#32
  let c128_746 : Index := 128#32
  ![v1710.toNat, 80, 128]
def k0_off18 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1789 : Index := Scalar.indexCast v770
  let c96 : Index := 96#32
  let c0_775 : Index := 0#32
  ![v1789.toNat, 96, 0]
def k0_off19 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1859 : Index := Scalar.indexCast v770
  let c96_800 : Index := 96#32
  let c128_801 : Index := 128#32
  ![v1859.toNat, 96, 128]
def k0_off20 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v1938 : Index := Scalar.indexCast v770
  let c112 : Index := 112#32
  let c0_830 : Index := 0#32
  ![v1938.toNat, 112, 0]
def k0_off21 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2008 : Index := Scalar.indexCast v770
  let c112_855 : Index := 112#32
  let c128_856 : Index := 128#32
  ![v2008.toNat, 112, 128]
def k0_off22 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2087 : Index := Scalar.indexCast v770
  let c128_884 : Index := 128#32
  let c0_885 : Index := 0#32
  ![v2087.toNat, 128, 0]
def k0_off23 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2157 : Index := Scalar.indexCast v770
  let c128_910 : Index := 128#32
  let c128_911 : Index := 128#32
  ![v2157.toNat, 128, 128]
def k0_off24 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2236 : Index := Scalar.indexCast v770
  let c144 : Index := 144#32
  let c0_940 : Index := 0#32
  ![v2236.toNat, 144, 0]
def k0_off25 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2306 : Index := Scalar.indexCast v770
  let c144_965 : Index := 144#32
  let c128_966 : Index := 128#32
  ![v2306.toNat, 144, 128]
def k0_off26 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2385 : Index := Scalar.indexCast v770
  let c160 : Index := 160#32
  let c0_994 : Index := 0#32
  ![v2385.toNat, 160, 0]
def k0_off27 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2455 : Index := Scalar.indexCast v770
  let c160_1019 : Index := 160#32
  let c128_1020 : Index := 128#32
  ![v2455.toNat, 160, 128]
def k0_off28 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2534 : Index := Scalar.indexCast v770
  let c176 : Index := 176#32
  let c0_1049 : Index := 0#32
  ![v2534.toNat, 176, 0]
def k0_off29 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2604 : Index := Scalar.indexCast v770
  let c176_1074 : Index := 176#32
  let c128_1075 : Index := 128#32
  ![v2604.toNat, 176, 128]
def k0_off30 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2683 : Index := Scalar.indexCast v770
  let c192 : Index := 192#32
  let c0_1103 : Index := 0#32
  ![v2683.toNat, 192, 0]
def k0_off31 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2753 : Index := Scalar.indexCast v770
  let c192_1128 : Index := 192#32
  let c128_1129 : Index := 128#32
  ![v2753.toNat, 192, 128]
def k0_off32 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2832 : Index := Scalar.indexCast v770
  let c208 : Index := 208#32
  let c0_1158 : Index := 0#32
  ![v2832.toNat, 208, 0]
def k0_off33 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2902 : Index := Scalar.indexCast v770
  let c208_1183 : Index := 208#32
  let c128_1184 : Index := 128#32
  ![v2902.toNat, 208, 128]
def k0_off34 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v2981 : Index := Scalar.indexCast v770
  let c224 : Index := 224#32
  let c0_1212 : Index := 0#32
  ![v2981.toNat, 224, 0]
def k0_off35 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3051 : Index := Scalar.indexCast v770
  let c224_1237 : Index := 224#32
  let c128_1238 : Index := 128#32
  ![v3051.toNat, 224, 128]
def k0_off36 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3130 : Index := Scalar.indexCast v770
  let c240 : Index := 240#32
  let c0_1267 : Index := 0#32
  ![v3130.toNat, 240, 0]
def k0_off37 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3200 : Index := Scalar.indexCast v770
  let c240_1292 : Index := 240#32
  let c128_1293 : Index := 128#32
  ![v3200.toNat, 240, 128]
def k0_off38 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3279 : Index := Scalar.indexCast v770
  let c256_1322 : Index := 256#32
  let c0_1323 : Index := 0#32
  ![v3279.toNat, 256, 0]
def k0_off39 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3349 : Index := Scalar.indexCast v770
  let c256_1348 : Index := 256#32
  let c128_1349 : Index := 128#32
  ![v3349.toNat, 256, 128]
def k0_off40 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3428 : Index := Scalar.indexCast v770
  let c272 : Index := 272#32
  let c0_1378 : Index := 0#32
  ![v3428.toNat, 272, 0]
def k0_off41 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3498 : Index := Scalar.indexCast v770
  let c272_1403 : Index := 272#32
  let c128_1404 : Index := 128#32
  ![v3498.toNat, 272, 128]
def k0_off42 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3577 : Index := Scalar.indexCast v770
  let c288 : Index := 288#32
  let c0_1432 : Index := 0#32
  ![v3577.toNat, 288, 0]
def k0_off43 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3647 : Index := Scalar.indexCast v770
  let c288_1457 : Index := 288#32
  let c128_1458 : Index := 128#32
  ![v3647.toNat, 288, 128]
def k0_off44 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3726 : Index := Scalar.indexCast v770
  let c304 : Index := 304#32
  let c0_1487 : Index := 0#32
  ![v3726.toNat, 304, 0]
def k0_off45 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3796 : Index := Scalar.indexCast v770
  let c304_1512 : Index := 304#32
  let c128_1513 : Index := 128#32
  ![v3796.toNat, 304, 128]
def k0_off46 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3875 : Index := Scalar.indexCast v770
  let c320 : Index := 320#32
  let c0_1541 : Index := 0#32
  ![v3875.toNat, 320, 0]
def k0_off47 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v3945 : Index := Scalar.indexCast v770
  let c320_1566 : Index := 320#32
  let c128_1567 : Index := 128#32
  ![v3945.toNat, 320, 128]
def k0_off48 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4024 : Index := Scalar.indexCast v770
  let c336 : Index := 336#32
  let c0_1596 : Index := 0#32
  ![v4024.toNat, 336, 0]
def k0_off49 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4094 : Index := Scalar.indexCast v770
  let c336_1621 : Index := 336#32
  let c128_1622 : Index := 128#32
  ![v4094.toNat, 336, 128]
def k0_off50 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4173 : Index := Scalar.indexCast v770
  let c352 : Index := 352#32
  let c0_1651 : Index := 0#32
  ![v4173.toNat, 352, 0]
def k0_off51 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4243 : Index := Scalar.indexCast v770
  let c352_1676 : Index := 352#32
  let c128_1677 : Index := 128#32
  ![v4243.toNat, 352, 128]
def k0_off52 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4323 : Index := Scalar.indexCast v770
  let c368 : Index := 368#32
  let c0_1706 : Index := 0#32
  ![v4323.toNat, 368, 0]
def k0_off53 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4397 : Index := Scalar.indexCast v770
  let c368_1733 : Index := 368#32
  let c128_1734 : Index := 128#32
  ![v4397.toNat, 368, 128]
def k0_off54 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4419 : Index := Scalar.indexCast v770
  let c0_1749 : Index := 0#32
  let c0_1750 : Index := 0#32
  ![v4419.toNat, 0, 0]
def k0_off55 (i : grid0.Coords) (k0_t2 : Fin k0_t2_loop.trips) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v4426 : Index := Scalar.indexCast v15
  let c0_1751 : Index := 0#32
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4427 : Index := Scalar.indexCast v770
  let c0_1752 : Index := 0#32
  let c0_1753 : Index := 0#32
  ![v4426.toNat, 0, v4427.toNat, 0, 0]
def k0_off56 (i : grid0.Coords) (k0_t2 : Fin k0_t2_loop.trips) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v4443 : Index := Scalar.indexCast v15
  let c1_1762 : Index := 1#32
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let v4444 : Index := Scalar.indexCast v770
  let c0_1763 : Index := 0#32
  let c0_1764 : Index := 0#32
  ![v4443.toNat, 1, v4444.toNat, 0, 0]
def k0_off57 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4533 : Index := Scalar.indexCast v4448
  let c0_1800 : Index := 0#32
  let c0_1801 : Index := 0#32
  ![v4533.toNat, 0, 0]
def k0_off58 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4603 : Index := Scalar.indexCast v4448
  let c0_1826 : Index := 0#32
  let c128_1827 : Index := 128#32
  ![v4603.toNat, 0, 128]
def k0_off59 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4682 : Index := Scalar.indexCast v4448
  let c16_1857 : Index := 16#32
  let c0_1858 : Index := 0#32
  ![v4682.toNat, 16, 0]
def k0_off60 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4752 : Index := Scalar.indexCast v4448
  let c16_1883 : Index := 16#32
  let c128_1884 : Index := 128#32
  ![v4752.toNat, 16, 128]
def k0_off61 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4831 : Index := Scalar.indexCast v4448
  let c32_1914 : Index := 32#32
  let c0_1915 : Index := 0#32
  ![v4831.toNat, 32, 0]
def k0_off62 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4901 : Index := Scalar.indexCast v4448
  let c32_1940 : Index := 32#32
  let c128_1941 : Index := 128#32
  ![v4901.toNat, 32, 128]
def k0_off63 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v4980 : Index := Scalar.indexCast v4448
  let c48_1971 : Index := 48#32
  let c0_1972 : Index := 0#32
  ![v4980.toNat, 48, 0]
def k0_off64 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5050 : Index := Scalar.indexCast v4448
  let c48_1997 : Index := 48#32
  let c128_1998 : Index := 128#32
  ![v5050.toNat, 48, 128]
def k0_off65 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5129 : Index := Scalar.indexCast v4448
  let c64_2028 : Index := 64#32
  let c0_2029 : Index := 0#32
  ![v5129.toNat, 64, 0]
def k0_off66 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5199 : Index := Scalar.indexCast v4448
  let c64_2054 : Index := 64#32
  let c128_2055 : Index := 128#32
  ![v5199.toNat, 64, 128]
def k0_off67 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5278 : Index := Scalar.indexCast v4448
  let c80_2085 : Index := 80#32
  let c0_2086 : Index := 0#32
  ![v5278.toNat, 80, 0]
def k0_off68 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5348 : Index := Scalar.indexCast v4448
  let c80_2111 : Index := 80#32
  let c128_2112 : Index := 128#32
  ![v5348.toNat, 80, 128]
def k0_off69 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5427 : Index := Scalar.indexCast v4448
  let c96_2142 : Index := 96#32
  let c0_2143 : Index := 0#32
  ![v5427.toNat, 96, 0]
def k0_off70 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5497 : Index := Scalar.indexCast v4448
  let c96_2168 : Index := 96#32
  let c128_2169 : Index := 128#32
  ![v5497.toNat, 96, 128]
def k0_off71 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5576 : Index := Scalar.indexCast v4448
  let c112_2199 : Index := 112#32
  let c0_2200 : Index := 0#32
  ![v5576.toNat, 112, 0]
def k0_off72 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5646 : Index := Scalar.indexCast v4448
  let c112_2225 : Index := 112#32
  let c128_2226 : Index := 128#32
  ![v5646.toNat, 112, 128]
def k0_off73 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5725 : Index := Scalar.indexCast v4448
  let c128_2256 : Index := 128#32
  let c0_2257 : Index := 0#32
  ![v5725.toNat, 128, 0]
def k0_off74 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5795 : Index := Scalar.indexCast v4448
  let c128_2282 : Index := 128#32
  let c128_2283 : Index := 128#32
  ![v5795.toNat, 128, 128]
def k0_off75 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5874 : Index := Scalar.indexCast v4448
  let c144_2313 : Index := 144#32
  let c0_2314 : Index := 0#32
  ![v5874.toNat, 144, 0]
def k0_off76 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v5944 : Index := Scalar.indexCast v4448
  let c144_2339 : Index := 144#32
  let c128_2340 : Index := 128#32
  ![v5944.toNat, 144, 128]
def k0_off77 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6023 : Index := Scalar.indexCast v4448
  let c160_2370 : Index := 160#32
  let c0_2371 : Index := 0#32
  ![v6023.toNat, 160, 0]
def k0_off78 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6093 : Index := Scalar.indexCast v4448
  let c160_2396 : Index := 160#32
  let c128_2397 : Index := 128#32
  ![v6093.toNat, 160, 128]
def k0_off79 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6172 : Index := Scalar.indexCast v4448
  let c176_2427 : Index := 176#32
  let c0_2428 : Index := 0#32
  ![v6172.toNat, 176, 0]
def k0_off80 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6242 : Index := Scalar.indexCast v4448
  let c176_2453 : Index := 176#32
  let c128_2454 : Index := 128#32
  ![v6242.toNat, 176, 128]
def k0_off81 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6321 : Index := Scalar.indexCast v4448
  let c192_2484 : Index := 192#32
  let c0_2485 : Index := 0#32
  ![v6321.toNat, 192, 0]
def k0_off82 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6391 : Index := Scalar.indexCast v4448
  let c192_2510 : Index := 192#32
  let c128_2511 : Index := 128#32
  ![v6391.toNat, 192, 128]
def k0_off83 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6470 : Index := Scalar.indexCast v4448
  let c208_2541 : Index := 208#32
  let c0_2542 : Index := 0#32
  ![v6470.toNat, 208, 0]
def k0_off84 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6540 : Index := Scalar.indexCast v4448
  let c208_2567 : Index := 208#32
  let c128_2568 : Index := 128#32
  ![v6540.toNat, 208, 128]
def k0_off85 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6619 : Index := Scalar.indexCast v4448
  let c224_2598 : Index := 224#32
  let c0_2599 : Index := 0#32
  ![v6619.toNat, 224, 0]
def k0_off86 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6689 : Index := Scalar.indexCast v4448
  let c224_2624 : Index := 224#32
  let c128_2625 : Index := 128#32
  ![v6689.toNat, 224, 128]
def k0_off87 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6768 : Index := Scalar.indexCast v4448
  let c240_2655 : Index := 240#32
  let c0_2656 : Index := 0#32
  ![v6768.toNat, 240, 0]
def k0_off88 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6838 : Index := Scalar.indexCast v4448
  let c240_2681 : Index := 240#32
  let c128_2682 : Index := 128#32
  ![v6838.toNat, 240, 128]
def k0_off89 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6917 : Index := Scalar.indexCast v4448
  let c256_2712 : Index := 256#32
  let c0_2713 : Index := 0#32
  ![v6917.toNat, 256, 0]
def k0_off90 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v6987 : Index := Scalar.indexCast v4448
  let c256_2738 : Index := 256#32
  let c128_2739 : Index := 128#32
  ![v6987.toNat, 256, 128]
def k0_off91 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7066 : Index := Scalar.indexCast v4448
  let c272_2769 : Index := 272#32
  let c0_2770 : Index := 0#32
  ![v7066.toNat, 272, 0]
def k0_off92 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7136 : Index := Scalar.indexCast v4448
  let c272_2795 : Index := 272#32
  let c128_2796 : Index := 128#32
  ![v7136.toNat, 272, 128]
def k0_off93 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7215 : Index := Scalar.indexCast v4448
  let c288_2826 : Index := 288#32
  let c0_2827 : Index := 0#32
  ![v7215.toNat, 288, 0]
def k0_off94 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7285 : Index := Scalar.indexCast v4448
  let c288_2852 : Index := 288#32
  let c128_2853 : Index := 128#32
  ![v7285.toNat, 288, 128]
def k0_off95 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7364 : Index := Scalar.indexCast v4448
  let c304_2883 : Index := 304#32
  let c0_2884 : Index := 0#32
  ![v7364.toNat, 304, 0]
def k0_off96 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7434 : Index := Scalar.indexCast v4448
  let c304_2909 : Index := 304#32
  let c128_2910 : Index := 128#32
  ![v7434.toNat, 304, 128]
def k0_off97 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7513 : Index := Scalar.indexCast v4448
  let c320_2940 : Index := 320#32
  let c0_2941 : Index := 0#32
  ![v7513.toNat, 320, 0]
def k0_off98 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7583 : Index := Scalar.indexCast v4448
  let c320_2966 : Index := 320#32
  let c128_2967 : Index := 128#32
  ![v7583.toNat, 320, 128]
def k0_off99 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7662 : Index := Scalar.indexCast v4448
  let c336_2997 : Index := 336#32
  let c0_2998 : Index := 0#32
  ![v7662.toNat, 336, 0]
def k0_off100 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7732 : Index := Scalar.indexCast v4448
  let c336_3023 : Index := 336#32
  let c128_3024 : Index := 128#32
  ![v7732.toNat, 336, 128]
def k0_off101 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7811 : Index := Scalar.indexCast v4448
  let c352_3054 : Index := 352#32
  let c0_3055 : Index := 0#32
  ![v7811.toNat, 352, 0]
def k0_off102 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7881 : Index := Scalar.indexCast v4448
  let c352_3080 : Index := 352#32
  let c128_3081 : Index := 128#32
  ![v7881.toNat, 352, 128]
def k0_off103 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v7961 : Index := Scalar.indexCast v4448
  let c368_3111 : Index := 368#32
  let c0_3112 : Index := 0#32
  ![v7961.toNat, 368, 0]
def k0_off104 (k0_t2 : Fin k0_t2_loop.trips) : Fin 3 → Nat :=
  let c0_i32_14 : BitVec 32 := 0#32
  let c1_i32_16 : BitVec 32 := 1#32
  let arg17 : BitVec 32 := Scf.iv c0_i32_14 c1_i32_16 k0_t2
  let c2_i32_386 : BitVec 32 := 2#32
  let v770 : BitVec 32 := Scalar.muli arg17 c2_i32_386
  let c1_i32_1765 : BitVec 32 := 1#32
  let v4448 : BitVec 32 := Scalar.addi v770 c1_i32_1765
  let v8035 : Index := Scalar.indexCast v4448
  let c368_3139 : Index := 368#32
  let c128_3140 : Index := 128#32
  ![v8035.toNat, 368, 128]
def k0_off105 (i : grid0.Coords) : Fin 5 → Nat :=
  let c1_i32_18 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v38 : BitVec 32 := Scalar.subi c1_i32_18 v15
  let v39 : Index := Scalar.indexCast v38
  let c0_19 : Index := 0#32
  let c0_20 : Index := 0#32
  let c0_21 : Index := 0#32
  let c0_22 : Index := 0#32
  ![v39.toNat, 0, 0, 0, 0]
def k0_off106 (i : grid0.Coords) : Fin 5 → Nat :=
  let c1_i32_23 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v42 : BitVec 32 := Scalar.subi c1_i32_23 v15
  let v43 : Index := Scalar.indexCast v42
  let c0_24 : Index := 0#32
  let c0_25 : Index := 0#32
  let c0_26 : Index := 0#32
  let c0_27 : Index := 0#32
  ![v43.toNat, 0, 0, 0, 0]
def k0_off107 (i : grid0.Coords) : Fin 5 → Nat :=
  let c1_i32_29 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v48 : BitVec 32 := Scalar.subi c1_i32_29 v15
  let v49 : Index := Scalar.indexCast v48
  let c0_30 : Index := 0#32
  let c1 : Index := 1#32
  let c0_31 : Index := 0#32
  let c0_32 : Index := 0#32
  ![v49.toNat, 0, 1, 0, 0]
def k0_off108 (i : grid0.Coords) : Fin 5 → Nat :=
  let c1_i32_33 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v52 : BitVec 32 := Scalar.subi c1_i32_33 v15
  let v53 : Index := Scalar.indexCast v52
  let c0_34 : Index := 0#32
  let c1_35 : Index := 1#32
  let c0_36 : Index := 0#32
  let c0_37 : Index := 0#32
  ![v53.toNat, 0, 1, 0, 0]
def k0_off109 (i : grid0.Coords) : Fin 5 → Nat :=
  let c1_i32_39 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v58 : BitVec 32 := Scalar.subi c1_i32_39 v15
  let v59 : Index := Scalar.indexCast v58
  let c0_40 : Index := 0#32
  let c2 : Index := 2#32
  let c0_41 : Index := 0#32
  let c0_42 : Index := 0#32
  ![v59.toNat, 0, 2, 0, 0]
def k0_off110 (i : grid0.Coords) : Fin 5 → Nat :=
  let c1_i32_43 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v62 : BitVec 32 := Scalar.subi c1_i32_43 v15
  let v63 : Index := Scalar.indexCast v62
  let c0_44 : Index := 0#32
  let c2_45 : Index := 2#32
  let c0_46 : Index := 0#32
  let c0_47 : Index := 0#32
  ![v63.toNat, 0, 2, 0, 0]
def k0_off111 (i : grid0.Coords) : Fin 5 → Nat :=
  let c1_i32_49 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v68 : BitVec 32 := Scalar.subi c1_i32_49 v15
  let v69 : Index := Scalar.indexCast v68
  let c0_50 : Index := 0#32
  let c3 : Index := 3#32
  let c0_51 : Index := 0#32
  let c0_52 : Index := 0#32
  ![v69.toNat, 0, 3, 0, 0]
def k0_off112 (i : grid0.Coords) : Fin 5 → Nat :=
  let c1_i32_53 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v72 : BitVec 32 := Scalar.subi c1_i32_53 v15
  let v73 : Index := Scalar.indexCast v72
  let c0_54 : Index := 0#32
  let c3_55 : Index := 3#32
  let c0_56 : Index := 0#32
  let c0_57 : Index := 0#32
  ![v73.toNat, 0, 3, 0, 0]
def k0_off113 (i : grid0.Coords) : Fin 5 → Nat :=
  let c1_i32_66 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v89 : BitVec 32 := Scalar.subi c1_i32_66 v15
  let v90 : Index := Scalar.indexCast v89
  let c1_67 : Index := 1#32
  let c0_68 : Index := 0#32
  let c0_69 : Index := 0#32
  let c0_70 : Index := 0#32
  ![v90.toNat, 1, 0, 0, 0]
def k0_off114 (i : grid0.Coords) : Fin 5 → Nat :=
  let c1_i32_71 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v93 : BitVec 32 := Scalar.subi c1_i32_71 v15
  let v94 : Index := Scalar.indexCast v93
  let c1_72 : Index := 1#32
  let c0_73 : Index := 0#32
  let c0_74 : Index := 0#32
  let c0_75 : Index := 0#32
  ![v94.toNat, 1, 0, 0, 0]
def k0_off115 (i : grid0.Coords) : Fin 5 → Nat :=
  let c1_i32_77 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v99 : BitVec 32 := Scalar.subi c1_i32_77 v15
  let v100 : Index := Scalar.indexCast v99
  let c1_78 : Index := 1#32
  let c1_79 : Index := 1#32
  let c0_80 : Index := 0#32
  let c0_81 : Index := 0#32
  ![v100.toNat, 1, 1, 0, 0]
def k0_off116 (i : grid0.Coords) : Fin 5 → Nat :=
  let c1_i32_82 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v103 : BitVec 32 := Scalar.subi c1_i32_82 v15
  let v104 : Index := Scalar.indexCast v103
  let c1_83 : Index := 1#32
  let c1_84 : Index := 1#32
  let c0_85 : Index := 0#32
  let c0_86 : Index := 0#32
  ![v104.toNat, 1, 1, 0, 0]
def k0_off117 (i : grid0.Coords) : Fin 5 → Nat :=
  let c1_i32_88 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v109 : BitVec 32 := Scalar.subi c1_i32_88 v15
  let v110 : Index := Scalar.indexCast v109
  let c1_89 : Index := 1#32
  let c2_90 : Index := 2#32
  let c0_91 : Index := 0#32
  let c0_92 : Index := 0#32
  ![v110.toNat, 1, 2, 0, 0]
def k0_off118 (i : grid0.Coords) : Fin 5 → Nat :=
  let c1_i32_93 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v113 : BitVec 32 := Scalar.subi c1_i32_93 v15
  let v114 : Index := Scalar.indexCast v113
  let c1_94 : Index := 1#32
  let c2_95 : Index := 2#32
  let c0_96 : Index := 0#32
  let c0_97 : Index := 0#32
  ![v114.toNat, 1, 2, 0, 0]
def k0_off119 (i : grid0.Coords) : Fin 5 → Nat :=
  let c1_i32_99 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v119 : BitVec 32 := Scalar.subi c1_i32_99 v15
  let v120 : Index := Scalar.indexCast v119
  let c1_100 : Index := 1#32
  let c3_101 : Index := 3#32
  let c0_102 : Index := 0#32
  let c0_103 : Index := 0#32
  ![v120.toNat, 1, 3, 0, 0]
def k0_off120 (i : grid0.Coords) : Fin 5 → Nat :=
  let c1_i32_104 : BitVec 32 := 1#32
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v123 : BitVec 32 := Scalar.subi c1_i32_104 v15
  let v124 : Index := Scalar.indexCast v123
  let c1_105 : Index := 1#32
  let c3_106 : Index := 3#32
  let c0_107 : Index := 0#32
  let c0_108 : Index := 0#32
  ![v124.toNat, 1, 3, 0, 0]
def k0_off121 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v227 : Index := Scalar.indexCast v15
  let c0_153 : Index := 0#32
  let c0_154 : Index := 0#32
  let c0_155 : Index := 0#32
  let c0_156 : Index := 0#32
  ![v227.toNat, 0, 0, 0, 0]
def k0_off122 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v234 : Index := Scalar.indexCast v15
  let c1_158 : Index := 1#32
  let c0_159 : Index := 0#32
  let c0_160 : Index := 0#32
  let c0_161 : Index := 0#32
  ![v234.toNat, 1, 0, 0, 0]
def k0_off123 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v303 : Index := Scalar.indexCast v15
  let c0_185 : Index := 0#32
  let c0_186 : Index := 0#32
  let c0_187 : Index := 0#32
  let c128_188 : Index := 128#32
  ![v303.toNat, 0, 0, 0, 128]
def k0_off124 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v310 : Index := Scalar.indexCast v15
  let c1_190 : Index := 1#32
  let c0_191 : Index := 0#32
  let c0_192 : Index := 0#32
  let c128_193 : Index := 128#32
  ![v310.toNat, 1, 0, 0, 128]
def k0_off125 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v379 : Index := Scalar.indexCast v15
  let c0_217 : Index := 0#32
  let c1_218 : Index := 1#32
  let c0_219 : Index := 0#32
  let c0_220 : Index := 0#32
  ![v379.toNat, 0, 1, 0, 0]
def k0_off126 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v386 : Index := Scalar.indexCast v15
  let c1_222 : Index := 1#32
  let c1_223 : Index := 1#32
  let c0_224 : Index := 0#32
  let c0_225 : Index := 0#32
  ![v386.toNat, 1, 1, 0, 0]
def k0_off127 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v455 : Index := Scalar.indexCast v15
  let c0_249 : Index := 0#32
  let c1_250 : Index := 1#32
  let c0_251 : Index := 0#32
  let c128_252 : Index := 128#32
  ![v455.toNat, 0, 1, 0, 128]
def k0_off128 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v462 : Index := Scalar.indexCast v15
  let c1_254 : Index := 1#32
  let c1_255 : Index := 1#32
  let c0_256 : Index := 0#32
  let c128_257 : Index := 128#32
  ![v462.toNat, 1, 1, 0, 128]
def k0_off129 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v531 : Index := Scalar.indexCast v15
  let c0_281 : Index := 0#32
  let c2_282 : Index := 2#32
  let c0_283 : Index := 0#32
  let c0_284 : Index := 0#32
  ![v531.toNat, 0, 2, 0, 0]
def k0_off130 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v538 : Index := Scalar.indexCast v15
  let c1_286 : Index := 1#32
  let c2_287 : Index := 2#32
  let c0_288 : Index := 0#32
  let c0_289 : Index := 0#32
  ![v538.toNat, 1, 2, 0, 0]
def k0_off131 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v607 : Index := Scalar.indexCast v15
  let c0_313 : Index := 0#32
  let c2_314 : Index := 2#32
  let c0_315 : Index := 0#32
  let c128_316 : Index := 128#32
  ![v607.toNat, 0, 2, 0, 128]
def k0_off132 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v614 : Index := Scalar.indexCast v15
  let c1_318 : Index := 1#32
  let c2_319 : Index := 2#32
  let c0_320 : Index := 0#32
  let c128_321 : Index := 128#32
  ![v614.toNat, 1, 2, 0, 128]
def k0_off133 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v683 : Index := Scalar.indexCast v15
  let c0_345 : Index := 0#32
  let c3_346 : Index := 3#32
  let c0_347 : Index := 0#32
  let c0_348 : Index := 0#32
  ![v683.toNat, 0, 3, 0, 0]
def k0_off134 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v690 : Index := Scalar.indexCast v15
  let c1_350 : Index := 1#32
  let c3_351 : Index := 3#32
  let c0_352 : Index := 0#32
  let c0_353 : Index := 0#32
  ![v690.toNat, 1, 3, 0, 0]
def k0_off135 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v759 : Index := Scalar.indexCast v15
  let c0_377 : Index := 0#32
  let c3_378 : Index := 3#32
  let c0_379 : Index := 0#32
  let c128_380 : Index := 128#32
  ![v759.toNat, 0, 3, 0, 128]
def k0_off136 (i : grid0.Coords) : Fin 5 → Nat :=
  let arg0 : BitVec 32 := BitVec.ofNat 32 (i 0).val
  let c2_i32 : BitVec 32 := 2#32
  let c0_i32_1 : BitVec 32 := 0#32
  let v6 : BitVec 1 := Scalar.cmpi .eq c2_i32 c0_i32_1
  let c1_i32 : BitVec 32 := 1#32
  let v7 : BitVec 32 := Scalar.select v6 c1_i32 c2_i32
  let v8 : BitVec 32 := Scalar.remsi arg0 v7
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let c0_i32_2 : BitVec 32 := 0#32
  let v9 : BitVec 1 := Scalar.cmpi .ne v8 c0_i32_2
  let v13 : BitVec 1 := Scalar.andi v12 v9
  let v14 : BitVec 32 := Scalar.addi v8 v7
  let v15 : BitVec 32 := Scalar.select v13 v14 v8
  let v766 : Index := Scalar.indexCast v15
  let c1_382 : Index := 1#32
  let c3_383 : Index := 3#32
  let c0_384 : Index := 0#32
  let c128_385 : Index := 128#32
  ![v766.toNat, 1, 3, 0, 128]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x384x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x128x17 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_ln2" => some (((Real.log 2)⁻¹ : ℝ) : EReal)
  | "noise1" => some (((-1 / 1175) * (Real.log 2) : ℝ) : EReal)
  | "noise2" => some (((-1 / 3200) * (Real.log 2) : ℝ) : EReal)
  | _ => none
-- ==== ReferenceIdeal.lean ====
abbrev S128x376 : Shape := ⟨2, ![128, 376]⟩
abbrev S376x1024 : Shape := ⟨2, ![376, 1024]⟩
abbrev S1024 : Shape := ⟨1, ![1024]⟩
abbrev S1024x17 : Shape := ⟨2, ![1024, 17]⟩
abbrev S17 : Shape := ⟨1, ![17]⟩
abbrev S1 : Shape := ⟨1, ![1]⟩
abbrev S_ : Shape := ⟨0, ![]⟩
abbrev S512 : Shape := ⟨1, ![512]⟩
abbrev S512x1x1 : Shape := ⟨3, ![512, 1, 1]⟩
abbrev S376 : Shape := ⟨1, ![376]⟩
abbrev S376x1 : Shape := ⟨2, ![376, 1]⟩
abbrev S1x1024 : Shape := ⟨2, ![1, 1024]⟩
abbrev S1x376x1024 : Shape := ⟨3, ![1, 376, 1024]⟩
abbrev S512x376x1024 : Shape := ⟨3, ![512, 376, 1024]⟩
abbrev S1024x1 : Shape := ⟨2, ![1024, 1]⟩
abbrev S1x17 : Shape := ⟨2, ![1, 17]⟩
abbrev S1x1024x17 : Shape := ⟨3, ![1, 1024, 17]⟩
abbrev S512x1024x17 : Shape := ⟨3, ![512, 1024, 17]⟩
abbrev S512x2x128x17 : Shape := ⟨4, ![512, 2, 128, 17]⟩
abbrev S1x128x376 : Shape := ⟨3, ![1, 128, 376]⟩
abbrev S512x128x376 : Shape := ⟨3, ![512, 128, 376]⟩
abbrev S512x128x1024 : Shape := ⟨3, ![512, 128, 1024]⟩
abbrev S1x1x1024 : Shape := ⟨3, ![1, 1, 1024]⟩
abbrev S512x128x17 : Shape := ⟨3, ![512, 128, 17]⟩
abbrev S1x1x17 : Shape := ⟨3, ![1, 1, 17]⟩
abbrev S512x1x128x17 : Shape := ⟨4, ![512, 1, 128, 17]⟩

abbrev nBuf : Space → Nat
  | .hbm => 319
  | .vmem => 10
  | .smem => 0
  | _ => 0

abbrev hbmTy0_0 (i : Nat) : BufTy := match i % 128 with
  | 0 => ⟨S128x376, .bf16⟩
  | 1 => ⟨S376x1024, .fp8e4m3⟩
  | 2 => ⟨S1024, .f32⟩
  | 3 => ⟨S1024, .f32⟩
  | 4 => ⟨S1024x17, .fp8e4m3⟩
  | 5 => ⟨S17, .f32⟩
  | 6 => ⟨S17, .f32⟩
  | 7 => ⟨S1, .i32⟩
  | 8 => ⟨S_, .i32⟩
  | 9 => ⟨S512, .i32⟩
  | 10 => ⟨S512, .i32⟩
  | 11 => ⟨S512, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i32⟩
  | 19 => ⟨S_, .i32⟩
  | 20 => ⟨S512, .i32⟩
  | 21 => ⟨S512, .i32⟩
  | 22 => ⟨S512, .i32⟩
  | 23 => ⟨S_, .i32⟩
  | 24 => ⟨S512, .i32⟩
  | 25 => ⟨S512, .i32⟩
  | 26 => ⟨S_, .i32⟩
  | 27 => ⟨S512, .i32⟩
  | 28 => ⟨S512, .i32⟩
  | 29 => ⟨S512, .i32⟩
  | 30 => ⟨S_, .i32⟩
  | 31 => ⟨S512, .i32⟩
  | 32 => ⟨S512, .i32⟩
  | 33 => ⟨S_, .i32⟩
  | 34 => ⟨S512, .i32⟩
  | 35 => ⟨S512, .i32⟩
  | 36 => ⟨S512, .i32⟩
  | 37 => ⟨S_, .i32⟩
  | 38 => ⟨S512, .i32⟩
  | 39 => ⟨S512, .i32⟩
  | 40 => ⟨S_, .i32⟩
  | 41 => ⟨S512, .i32⟩
  | 42 => ⟨S512, .i32⟩
  | 43 => ⟨S512, .i32⟩
  | 44 => ⟨S_, .i32⟩
  | 45 => ⟨S512, .i32⟩
  | 46 => ⟨S512, .i32⟩
  | 47 => ⟨S_, .i32⟩
  | 48 => ⟨S512, .i32⟩
  | 49 => ⟨S512, .i32⟩
  | 50 => ⟨S512, .i32⟩
  | 51 => ⟨S512x1x1, .i32⟩
  | 52 => ⟨S376, .i32⟩
  | 53 => ⟨S376x1, .i32⟩
  | 54 => ⟨S_, .i32⟩
  | 55 => ⟨S376x1, .i32⟩
  | 56 => ⟨S376x1, .i32⟩
  | 57 => ⟨S1024, .i32⟩
  | 58 => ⟨S1x1024, .i32⟩
  | 59 => ⟨S376x1024, .i32⟩
  | 60 => ⟨S376x1024, .i32⟩
  | 61 => ⟨S376x1024, .i32⟩
  | 62 => ⟨S_, .i32⟩
  | 63 => ⟨S376x1024, .i32⟩
  | 64 => ⟨S376x1024, .i32⟩
  | 65 => ⟨S1x376x1024, .i32⟩
  | 66 => ⟨S512x376x1024, .i32⟩
  | 67 => ⟨S512x376x1024, .i32⟩
  | 68 => ⟨S512x376x1024, .i32⟩
  | 69 => ⟨S_, .i32⟩
  | 70 => ⟨S512x376x1024, .i32⟩
  | 71 => ⟨S512x376x1024, .i32⟩
  | 72 => ⟨S512x376x1024, .i32⟩
  | 73 => ⟨S_, .i32⟩
  | 74 => ⟨S512x376x1024, .i32⟩
  | 75 => ⟨S512x376x1024, .i32⟩
  | 76 => ⟨S_, .i32⟩
  | 77 => ⟨S512x376x1024, .i32⟩
  | 78 => ⟨S512x376x1024, .i32⟩
  | 79 => ⟨S512x376x1024, .i32⟩
  | 80 => ⟨S_, .i32⟩
  | 81 => ⟨S512x376x1024, .i32⟩
  | 82 => ⟨S512x376x1024, .i32⟩
  | 83 => ⟨S_, .i32⟩
  | 84 => ⟨S512x376x1024, .i32⟩
  | 85 => ⟨S512x376x1024, .i32⟩
  | 86 => ⟨S512x376x1024, .i32⟩
  | 87 => ⟨S_, .i32⟩
  | 88 => ⟨S1x376x1024, .i32⟩
  | 89 => ⟨S1x376x1024, .i32⟩
  | 90 => ⟨S512x376x1024, .i32⟩
  | 91 => ⟨S512x376x1024, .i32⟩
  | 92 => ⟨S512x376x1024, .i32⟩
  | 93 => ⟨S_, .i32⟩
  | 94 => ⟨S512x376x1024, .i32⟩
  | 95 => ⟨S512x376x1024, .i32⟩
  | 96 => ⟨S512x376x1024, .i32⟩
  | 97 => ⟨S_, .i32⟩
  | 98 => ⟨S512x376x1024, .i32⟩
  | 99 => ⟨S512x376x1024, .i32⟩
  | 100 => ⟨S_, .i32⟩
  | 101 => ⟨S512x376x1024, .i32⟩
  | 102 => ⟨S512x376x1024, .i32⟩
  | 103 => ⟨S512x376x1024, .i32⟩
  | 104 => ⟨S_, .i32⟩
  | 105 => ⟨S512x376x1024, .i32⟩
  | 106 => ⟨S512x376x1024, .i32⟩
  | 107 => ⟨S_, .i32⟩
  | 108 => ⟨S512x376x1024, .i32⟩
  | 109 => ⟨S512x376x1024, .i32⟩
  | 110 => ⟨S512x376x1024, .i32⟩
  | 111 => ⟨S_, .i32⟩
  | 112 => ⟨S512x376x1024, .i32⟩
  | 113 => ⟨S512x376x1024, .i32⟩
  | 114 => ⟨S_, .i32⟩
  | 115 => ⟨S512x376x1024, .i32⟩
  | 116 => ⟨S512x376x1024, .i32⟩
  | 117 => ⟨S512x376x1024, .f32⟩
  | 118 => ⟨S_, .f32⟩
  | 119 => ⟨S512x376x1024, .f32⟩
  | 120 => ⟨S512x376x1024, .f32⟩
  | 121 => ⟨S_, .i32⟩
  | 122 => ⟨S512x376x1024, .i32⟩
  | 123 => ⟨S512x376x1024, .i32⟩
  | 124 => ⟨S512x376x1024, .f32⟩
  | 125 => ⟨S_, .f32⟩
  | 126 => ⟨S512x376x1024, .f32⟩
  | 127 => ⟨S512x376x1024, .f32⟩
  | _ => ⟨S128x376, .bf16⟩

abbrev hbmTy0_1 (i : Nat) : BufTy := match i % 128 with
  | 0 => ⟨S512x376x1024, .f32⟩
  | 1 => ⟨S_, .f32⟩
  | 2 => ⟨S512x376x1024, .f32⟩
  | 3 => ⟨S512x376x1024, .f32⟩
  | 4 => ⟨S512x376x1024, .f32⟩
  | 5 => ⟨S_, .f32⟩
  | 6 => ⟨S512x376x1024, .f32⟩
  | 7 => ⟨S512x376x1024, .f32⟩
  | 8 => ⟨S512x376x1024, .f32⟩
  | 9 => ⟨S_, .f32⟩
  | 10 => ⟨S512x376x1024, .f32⟩
  | 11 => ⟨S512x376x1024, .f32⟩
  | 12 => ⟨S512x376x1024, .f32⟩
  | 13 => ⟨S_, .f32⟩
  | 14 => ⟨S512x376x1024, .f32⟩
  | 15 => ⟨S512x376x1024, .f32⟩
  | 16 => ⟨S_, .f32⟩
  | 17 => ⟨S512x376x1024, .f32⟩
  | 18 => ⟨S512x376x1024, .f32⟩
  | 19 => ⟨S512x376x1024, .f32⟩
  | 20 => ⟨S_, .f32⟩
  | 21 => ⟨S512x376x1024, .f32⟩
  | 22 => ⟨S512x376x1024, .f32⟩
  | 23 => ⟨S512x376x1024, .f32⟩
  | 24 => ⟨S512x376x1024, .f32⟩
  | 25 => ⟨S_, .f32⟩
  | 26 => ⟨S512x376x1024, .f32⟩
  | 27 => ⟨S512x376x1024, .f32⟩
  | 28 => ⟨S_, .f32⟩
  | 29 => ⟨S512x376x1024, .f32⟩
  | 30 => ⟨S512x376x1024, .f32⟩
  | 31 => ⟨S512x376x1024, .f32⟩
  | 32 => ⟨S512x376x1024, .f32⟩
  | 33 => ⟨S_, .i32⟩
  | 34 => ⟨S512, .i32⟩
  | 35 => ⟨S512, .i32⟩
  | 36 => ⟨S512, .i32⟩
  | 37 => ⟨S_, .i32⟩
  | 38 => ⟨S512, .i32⟩
  | 39 => ⟨S512, .i32⟩
  | 40 => ⟨S512, .i32⟩
  | 41 => ⟨S_, .i32⟩
  | 42 => ⟨S512, .i32⟩
  | 43 => ⟨S512, .i32⟩
  | 44 => ⟨S_, .i32⟩
  | 45 => ⟨S512, .i32⟩
  | 46 => ⟨S512, .i32⟩
  | 47 => ⟨S512, .i32⟩
  | 48 => ⟨S_, .i32⟩
  | 49 => ⟨S512, .i32⟩
  | 50 => ⟨S512, .i32⟩
  | 51 => ⟨S_, .i32⟩
  | 52 => ⟨S512, .i32⟩
  | 53 => ⟨S512, .i32⟩
  | 54 => ⟨S512, .i32⟩
  | 55 => ⟨S_, .i32⟩
  | 56 => ⟨S512, .i32⟩
  | 57 => ⟨S512, .i32⟩
  | 58 => ⟨S_, .i32⟩
  | 59 => ⟨S512, .i32⟩
  | 60 => ⟨S512, .i32⟩
  | 61 => ⟨S512, .i32⟩
  | 62 => ⟨S_, .i32⟩
  | 63 => ⟨S512, .i32⟩
  | 64 => ⟨S512, .i32⟩
  | 65 => ⟨S_, .i32⟩
  | 66 => ⟨S512, .i32⟩
  | 67 => ⟨S512, .i32⟩
  | 68 => ⟨S512, .i32⟩
  | 69 => ⟨S_, .i32⟩
  | 70 => ⟨S512, .i32⟩
  | 71 => ⟨S512, .i32⟩
  | 72 => ⟨S_, .i32⟩
  | 73 => ⟨S512, .i32⟩
  | 74 => ⟨S512, .i32⟩
  | 75 => ⟨S512, .i32⟩
  | 76 => ⟨S512x1x1, .i32⟩
  | 77 => ⟨S1024, .i32⟩
  | 78 => ⟨S1024x1, .i32⟩
  | 79 => ⟨S_, .i32⟩
  | 80 => ⟨S1024x1, .i32⟩
  | 81 => ⟨S1024x1, .i32⟩
  | 82 => ⟨S17, .i32⟩
  | 83 => ⟨S1x17, .i32⟩
  | 84 => ⟨S1024x17, .i32⟩
  | 85 => ⟨S1024x17, .i32⟩
  | 86 => ⟨S1024x17, .i32⟩
  | 87 => ⟨S_, .i32⟩
  | 88 => ⟨S1024x17, .i32⟩
  | 89 => ⟨S1024x17, .i32⟩
  | 90 => ⟨S1x1024x17, .i32⟩
  | 91 => ⟨S512x1024x17, .i32⟩
  | 92 => ⟨S512x1024x17, .i32⟩
  | 93 => ⟨S512x1024x17, .i32⟩
  | 94 => ⟨S_, .i32⟩
  | 95 => ⟨S512x1024x17, .i32⟩
  | 96 => ⟨S512x1024x17, .i32⟩
  | 97 => ⟨S512x1024x17, .i32⟩
  | 98 => ⟨S_, .i32⟩
  | 99 => ⟨S512x1024x17, .i32⟩
  | 100 => ⟨S512x1024x17, .i32⟩
  | 101 => ⟨S_, .i32⟩
  | 102 => ⟨S512x1024x17, .i32⟩
  | 103 => ⟨S512x1024x17, .i32⟩
  | 104 => ⟨S512x1024x17, .i32⟩
  | 105 => ⟨S_, .i32⟩
  | 106 => ⟨S512x1024x17, .i32⟩
  | 107 => ⟨S512x1024x17, .i32⟩
  | 108 => ⟨S_, .i32⟩
  | 109 => ⟨S512x1024x17, .i32⟩
  | 110 => ⟨S512x1024x17, .i32⟩
  | 111 => ⟨S512x1024x17, .i32⟩
  | 112 => ⟨S_, .i32⟩
  | 113 => ⟨S1x1024x17, .i32⟩
  | 114 => ⟨S1x1024x17, .i32⟩
  | 115 => ⟨S512x1024x17, .i32⟩
  | 116 => ⟨S512x1024x17, .i32⟩
  | 117 => ⟨S512x1024x17, .i32⟩
  | 118 => ⟨S_, .i32⟩
  | 119 => ⟨S512x1024x17, .i32⟩
  | 120 => ⟨S512x1024x17, .i32⟩
  | 121 => ⟨S512x1024x17, .i32⟩
  | 122 => ⟨S_, .i32⟩
  | 123 => ⟨S512x1024x17, .i32⟩
  | 124 => ⟨S512x1024x17, .i32⟩
  | 125 => ⟨S_, .i32⟩
  | 126 => ⟨S512x1024x17, .i32⟩
  | 127 => ⟨S512x1024x17, .i32⟩
  | _ => ⟨S128x376, .bf16⟩

abbrev hbmTy0_2 (i : Nat) : BufTy := match i % 128 with
  | 0 => ⟨S512x1024x17, .i32⟩
  | 1 => ⟨S_, .i32⟩
  | 2 => ⟨S512x1024x17, .i32⟩
  | 3 => ⟨S512x1024x17, .i32⟩
  | 4 => ⟨S_, .i32⟩
  | 5 => ⟨S512x1024x17, .i32⟩
  | 6 => ⟨S512x1024x17, .i32⟩
  | 7 => ⟨S512x1024x17, .i32⟩
  | 8 => ⟨S_, .i32⟩
  | 9 => ⟨S512x1024x17, .i32⟩
  | 10 => ⟨S512x1024x17, .i32⟩
  | 11 => ⟨S_, .i32⟩
  | 12 => ⟨S512x1024x17, .i32⟩
  | 13 => ⟨S512x1024x17, .i32⟩
  | 14 => ⟨S512x1024x17, .f32⟩
  | 15 => ⟨S_, .f32⟩
  | 16 => ⟨S512x1024x17, .f32⟩
  | 17 => ⟨S512x1024x17, .f32⟩
  | 18 => ⟨S_, .i32⟩
  | 19 => ⟨S512x1024x17, .i32⟩
  | 20 => ⟨S512x1024x17, .i32⟩
  | 21 => ⟨S512x1024x17, .f32⟩
  | 22 => ⟨S_, .f32⟩
  | 23 => ⟨S512x1024x17, .f32⟩
  | 24 => ⟨S512x1024x17, .f32⟩
  | 25 => ⟨S512x1024x17, .f32⟩
  | 26 => ⟨S_, .f32⟩
  | 27 => ⟨S512x1024x17, .f32⟩
  | 28 => ⟨S512x1024x17, .f32⟩
  | 29 => ⟨S512x1024x17, .f32⟩
  | 30 => ⟨S_, .f32⟩
  | 31 => ⟨S512x1024x17, .f32⟩
  | 32 => ⟨S512x1024x17, .f32⟩
  | 33 => ⟨S512x1024x17, .f32⟩
  | 34 => ⟨S_, .f32⟩
  | 35 => ⟨S512x1024x17, .f32⟩
  | 36 => ⟨S512x1024x17, .f32⟩
  | 37 => ⟨S512x1024x17, .f32⟩
  | 38 => ⟨S_, .f32⟩
  | 39 => ⟨S512x1024x17, .f32⟩
  | 40 => ⟨S512x1024x17, .f32⟩
  | 41 => ⟨S_, .f32⟩
  | 42 => ⟨S512x1024x17, .f32⟩
  | 43 => ⟨S512x1024x17, .f32⟩
  | 44 => ⟨S512x1024x17, .f32⟩
  | 45 => ⟨S_, .f32⟩
  | 46 => ⟨S512x1024x17, .f32⟩
  | 47 => ⟨S512x1024x17, .f32⟩
  | 48 => ⟨S512x1024x17, .f32⟩
  | 49 => ⟨S512x1024x17, .f32⟩
  | 50 => ⟨S_, .f32⟩
  | 51 => ⟨S512x1024x17, .f32⟩
  | 52 => ⟨S512x1024x17, .f32⟩
  | 53 => ⟨S_, .f32⟩
  | 54 => ⟨S512x1024x17, .f32⟩
  | 55 => ⟨S512x1024x17, .f32⟩
  | 56 => ⟨S512x1024x17, .f32⟩
  | 57 => ⟨S512x1024x17, .f32⟩
  | 58 => ⟨S1x1024, .f32⟩
  | 59 => ⟨S1x1024, .f32⟩
  | 60 => ⟨S1x17, .f32⟩
  | 61 => ⟨S1x17, .f32⟩
  | 62 => ⟨S512x2x128x17, .bf16⟩
  | _ => ⟨S128x376, .bf16⟩

abbrev hbmTy (i : Nat) : BufTy := match i / 128 with
  | 0 => hbmTy0_0 i
  | 1 => hbmTy0_1 i
  | 2 => hbmTy0_2 i
  | _ => ⟨S128x376, .bf16⟩

abbrev bufTy : (tb : Table) → Fin (tcTables nBuf tb) → BufTy
  | .hbm, ⟨i, _⟩ => hbmTy i
  | .local _ .vmem, ⟨0, _⟩ => ⟨S128x376, .bf16⟩
  | .local _ .vmem, ⟨1, _⟩ => ⟨S376x1024, .fp8e4m3⟩
  | .local _ .vmem, ⟨2, _⟩ => ⟨S1x1024, .f32⟩
  | .local _ .vmem, ⟨3, _⟩ => ⟨S1x1024, .f32⟩
  | .local _ .vmem, ⟨4, _⟩ => ⟨S1024x17, .fp8e4m3⟩
  | .local _ .vmem, ⟨5, _⟩ => ⟨S1x17, .f32⟩
  | .local _ .vmem, ⟨6, _⟩ => ⟨S1x17, .f32⟩
  | .local _ .vmem, ⟨7, _⟩ => ⟨S512x376x1024, .f32⟩
  | .local _ .vmem, ⟨8, _⟩ => ⟨S512x1024x17, .f32⟩
  | .local _ .vmem, ⟨9, _⟩ => ⟨S512x2x128x17, .bf16⟩
  | _, _ => ⟨S128x376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_19 : Ref sig .tc := ⟨.hbm, 97, rfl⟩
abbrev main_v69 : Ref sig .tc := ⟨.hbm, 98, rfl⟩
abbrev main_v70 : Ref sig .tc := ⟨.hbm, 99, rfl⟩
abbrev main_c_20 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_21 : Ref sig .tc := ⟨.hbm, 104, rfl⟩
abbrev main_v74 : Ref sig .tc := ⟨.hbm, 105, rfl⟩
abbrev main_v75 : Ref sig .tc := ⟨.hbm, 106, rfl⟩
abbrev main_c_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_23 : Ref sig .tc := ⟨.hbm, 111, rfl⟩
abbrev main_v79 : Ref sig .tc := ⟨.hbm, 112, rfl⟩
abbrev main_v80 : Ref sig .tc := ⟨.hbm, 113, rfl⟩
abbrev main_c_24 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst : Ref sig .tc := ⟨.hbm, 118, rfl⟩
abbrev main_v84 : Ref sig .tc := ⟨.hbm, 119, rfl⟩
abbrev main_v85 : Ref sig .tc := ⟨.hbm, 120, rfl⟩
abbrev main_c_25 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_26 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_27 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_28 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_29 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_30 : Ref sig .tc := ⟨.hbm, 141, rfl⟩
abbrev main_v101 : Ref sig .tc := ⟨.hbm, 142, rfl⟩
abbrev main_v102 : Ref sig .tc := ⟨.hbm, 143, rfl⟩
abbrev main_cst_31 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_32 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_33 : Ref sig .tc := ⟨.hbm, 153, rfl⟩
abbrev main_v110 : Ref sig .tc := ⟨.hbm, 154, rfl⟩
abbrev main_v111 : Ref sig .tc := ⟨.hbm, 155, rfl⟩
abbrev main_cst_34 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_c_35 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_36 : Ref sig .tc := ⟨.hbm, 169, rfl⟩
abbrev main_v123 : Ref sig .tc := ⟨.hbm, 170, rfl⟩
abbrev main_v124 : Ref sig .tc := ⟨.hbm, 171, rfl⟩
abbrev main_c_37 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_38 : Ref sig .tc := ⟨.hbm, 176, rfl⟩
abbrev main_v128 : Ref sig .tc := ⟨.hbm, 177, rfl⟩
abbrev main_v129 : Ref sig .tc := ⟨.hbm, 178, rfl⟩
abbrev main_c_39 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_40 : Ref sig .tc := ⟨.hbm, 183, rfl⟩
abbrev main_v133 : Ref sig .tc := ⟨.hbm, 184, rfl⟩
abbrev main_v134 : Ref sig .tc := ⟨.hbm, 185, rfl⟩
abbrev main_c_41 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_42 : Ref sig .tc := ⟨.hbm, 190, rfl⟩
abbrev main_v138 : Ref sig .tc := ⟨.hbm, 191, rfl⟩
abbrev main_v139 : Ref sig .tc := ⟨.hbm, 192, rfl⟩
abbrev main_c_43 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_c_44 : Ref sig .tc := ⟨.hbm, 197, rfl⟩
abbrev main_v143 : Ref sig .tc := ⟨.hbm, 198, rfl⟩
abbrev main_v144 : Ref sig .tc := ⟨.hbm, 199, rfl⟩
abbrev main_c_45 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_c_46 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_c_47 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_48 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_c_49 : Ref sig .tc := ⟨.hbm, 226, rfl⟩
abbrev main_v167 : Ref sig .tc := ⟨.hbm, 227, rfl⟩
abbrev main_v168 : Ref sig .tc := ⟨.hbm, 228, rfl⟩
abbrev main_c_50 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_c_51 : Ref sig .tc := ⟨.hbm, 233, rfl⟩
abbrev main_v172 : Ref sig .tc := ⟨.hbm, 234, rfl⟩
abbrev main_v173 : Ref sig .tc := ⟨.hbm, 235, rfl⟩
abbrev main_c_52 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_c_53 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_c_54 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_c_55 : Ref sig .tc := ⟨.hbm, 250, rfl⟩
abbrev main_v185 : Ref sig .tc := ⟨.hbm, 251, rfl⟩
abbrev main_v186 : Ref sig .tc := ⟨.hbm, 252, rfl⟩
abbrev main_c_56 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_c_57 : Ref sig .tc := ⟨.hbm, 257, rfl⟩
abbrev main_v190 : Ref sig .tc := ⟨.hbm, 258, rfl⟩
abbrev main_v191 : Ref sig .tc := ⟨.hbm, 259, rfl⟩
abbrev main_c_58 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_c_59 : Ref sig .tc := ⟨.hbm, 264, rfl⟩
abbrev main_v195 : Ref sig .tc := ⟨.hbm, 265, rfl⟩
abbrev main_v196 : Ref sig .tc := ⟨.hbm, 266, rfl⟩
abbrev main_c_60 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_cst_61 : Ref sig .tc := ⟨.hbm, 271, rfl⟩
abbrev main_v200 : Ref sig .tc := ⟨.hbm, 272, rfl⟩
abbrev main_v201 : Ref sig .tc := ⟨.hbm, 273, rfl⟩
abbrev main_c_62 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_cst_63 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_64 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_cst_65 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_cst_66 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_cst_67 : Ref sig .tc := ⟨.hbm, 294, rfl⟩
abbrev main_v217 : Ref sig .tc := ⟨.hbm, 295, rfl⟩
abbrev main_v218 : Ref sig .tc := ⟨.hbm, 296, rfl⟩
abbrev main_cst_68 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_cst_69 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_cst_70 : Ref sig .tc := ⟨.hbm, 306, rfl⟩
abbrev main_v226 : Ref sig .tc := ⟨.hbm, 307, rfl⟩
abbrev main_v227 : Ref sig .tc := ⟨.hbm, 308, rfl⟩
abbrev main_cst_71 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "sigma" => some ((1 / 10 : ℝ) : EReal)
  | _ => none

abbrev grid0 : Pipeline.Grid := .none

abbrev stage0_0 : Fin 1 → Memref sig .tc .vmem S128x376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S376x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x17 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x17 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x376x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024x17 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x2x128x17 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Offsets.lean ====
module

public import proofs.«01_k».proof.Proof.Gen.KernelIdeal.Frame

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! The rectangle offsets that the body computes from the step and the trip, in closed form. -/
theorem k0_off1_eq' : ∀ (k : Fin k0_t1_loop.trips), k0_off1 k = ![k.val / 12, (k.val % 12) * 32, 0] := by decide +kernel
instance (k : Fin k0_t1_loop.trips) : ClosedOff (k0_off1 k) := ⟨_, k0_off1_eq' k⟩
theorem k0_off2_eq' : ∀ (k : Fin k0_t1_loop.trips), k0_off2 k = ![k.val / 12, 0, 0] := by decide +kernel
instance (k : Fin k0_t1_loop.trips) : ClosedOff (k0_off2 k) := ⟨_, k0_off2_eq' k⟩
theorem k0_off3_eq' : ∀ (k : Fin k0_t2_loop.trips), k0_off3 k = ![(2 * k.val + 3) % 4, 0, 0] := by decide +kernel
instance (k : Fin k0_t2_loop.trips) : ClosedOff (k0_off3 k) := ⟨_, k0_off3_eq' k⟩
theorem k0_off4_eq' : ∀ (i : grid0.Coords) (k : Fin k0_t2_loop.trips), k0_off4 i k = ![((i 0).val + 1 + k.val) % 2, 0, (2 * k.val + 3) % 4, 0, 0] := by decide +kernel
instance (i : grid0.Coords) (k : Fin k0_t2_loop.trips) : ClosedOff (k0_off4 i k) := ⟨_, k0_off4_eq' i k⟩
theorem k0_off5_eq' : ∀ (i : grid0.Coords) (k : Fin k0_t2_loop.trips), k0_off5 i k = ![((i 0).val + 1 + k.val) % 2, 1, (2 * k.val + 3) % 4, 0, 0] := by decide +kernel
instance (i : grid0.Coords) (k : Fin k0_t2_loop.trips) : ClosedOff (k0_off5 i k) := ⟨_, k0_off5_eq' i k⟩
theorem k0_off55_eq' : ∀ (i : grid0.Coords) (k : Fin k0_t2_loop.trips), k0_off55 i k = ![(i 0).val % 2, 0, 2 * k.val, 0, 0] := by decide +kernel
instance (i : grid0.Coords) (k : Fin k0_t2_loop.trips) : ClosedOff (k0_off55 i k) := ⟨_, k0_off55_eq' i k⟩
theorem k0_off56_eq' : ∀ (i : grid0.Coords) (k : Fin k0_t2_loop.trips), k0_off56 i k = ![(i 0).val % 2, 1, 2 * k.val, 0, 0] := by decide +kernel
instance (i : grid0.Coords) (k : Fin k0_t2_loop.trips) : ClosedOff (k0_off56 i k) := ⟨_, k0_off56_eq' i k⟩
theorem k0_off105_eq' : ∀ (i : grid0.Coords), k0_off105 i = ![((i 0).val + 1) % 2, 0, 0, 0, 0] := by decide +kernel
instance (i : grid0.Coords) : ClosedOff (k0_off105 i) := ⟨_, k0_off105_eq' i⟩
theorem k0_off106_eq' : ∀ (i : grid0.Coords), k0_off106 i = ![((i 0).val + 1) % 2, 0, 0, 0, 0] := by decide +kernel
instance (i : grid0.Coords) : ClosedOff (k0_off106 i) := ⟨_, k0_off106_eq' i⟩
theorem k0_off107_eq' : ∀ (i : grid0.Coords), k0_off107 i = ![((i 0).val + 1) % 2, 0, 1, 0, 0] := by decide +kernel
instance (i : grid0.Coords) : ClosedOff (k0_off107 i) := ⟨_, k0_off107_eq' i⟩
theorem k0_off108_eq' : ∀ (i : grid0.Coords), k0_off108 i = ![((i 0).val + 1) % 2, 0, 1, 0, 0] := by decide +kernel
instance (i : grid0.Coords) : ClosedOff (k0_off108 i) := ⟨_, k0_off108_eq' i⟩
theorem k0_off109_eq' : ∀ (i : grid0.Coords), k0_off109 i = ![((i 0).val + 1) % 2, 0, 2, 0, 0] := by decide +kernel
instance (i : grid0.Coords) : ClosedOff (k0_off109 i) := ⟨_, k0_off109_eq' i⟩
theorem k0_off110_eq' : ∀ (i : grid0.Coords), k0_off110 i = ![((i 0).val + 1) % 2, 0, 2, 0, 0] := by decide +kernel
instance (i : grid0.Coords) : ClosedOff (k0_off110 i) := ⟨_, k0_off110_eq' i⟩
theorem k0_off111_eq' : ∀ (i : grid0.Coords), k0_off111 i = ![((i 0).val + 1) % 2, 0, 3, 0, 0] := by decide +kernel
instance (i : grid0.Coords) : ClosedOff (k0_off111 i) := ⟨_, k0_off111_eq' i⟩
theorem k0_off112_eq' : ∀ (i : grid0.Coords), k0_off112 i = ![((i 0).val + 1) % 2, 0, 3, 0, 0] := by decide +kernel
instance (i : grid0.Coords) : ClosedOff (k0_off112 i) := ⟨_, k0_off112_eq' i⟩
theorem k0_off113_eq' : ∀ (i : grid0.Coords), k0_off113 i = ![((i 0).val + 1) % 2, 1, 0, 0, 0] := by decide +kernel
instance (i : grid0.Coords) : ClosedOff (k0_off113 i) := ⟨_, k0_off113_eq' i⟩
theorem k0_off114_eq' : ∀ (i : grid0.Coords), k0_off114 i = ![((i 0).val + 1) % 2, 1, 0, 0, 0] := by decide +kernel
instance (i : grid0.Coords) : ClosedOff (k0_off114 i) := ⟨_, k0_off114_eq' i⟩
theorem k0_off115_eq' : ∀ (i : grid0.Coords), k0_off115 i = ![((i 0).val + 1) % 2, 1, 1, 0, 0] := by decide +kernel
instance (i : grid0.Coords) : ClosedOff (k0_off115 i) := ⟨_, k0_off115_eq' i⟩
theorem k0_off116_eq' : ∀ (i : grid0.Coords), k0_off116 i = ![((i 0).val + 1) % 2, 1, 1, 0, 0] := by decide +kernel
instance (i : grid0.Coords) : ClosedOff (k0_off116 i) := ⟨_, k0_off116_eq' i⟩
theorem k0_off117_eq' : ∀ (i : grid0.Coords), k0_off117 i = ![((i 0).val + 1) % 2, 1, 2, 0, 0] := by decide +kernel
instance (i : grid0.Coords) : ClosedOff (k0_off117 i) := ⟨_, k0_off117_eq' i⟩
theorem k0_off118_eq' : ∀ (i : grid0.Coords), k0_off118 i = ![((i 0).val + 1) % 2, 1, 2, 0, 0] := by decide +kernel
instance (i : grid0.Coords) : ClosedOff (k0_off118 i) := ⟨_, k0_off118_eq' i⟩
theorem k0_off119_eq' : ∀ (i : grid0.Coords), k0_off119 i = ![((i 0).val + 1) % 2, 1, 3, 0, 0] := by decide +kernel
instance (i : grid0.Coords) : ClosedOff (k0_off119 i) := ⟨_, k0_off119_eq' i⟩
theorem k0_off120_eq' : ∀ (i : grid0.Coords), k0_off120 i = ![((i 0).val + 1) % 2, 1, 3, 0, 0] := by decide +kernel
instance (i : grid0.Coords) : ClosedOff (k0_off120 i) := ⟨_, k0_off120_eq' i⟩
theorem k0_off121_eq' : ∀ (i : grid0.Coords), k0_off121 i = ![(i 0).val % 2, 0, 0, 0, 0] := by decide +kernel
instance (i : grid0.Coords) : ClosedOff (k0_off121 i) := ⟨_, k0_off121_eq' i⟩
theorem k0_off122_eq' : ∀ (i : grid0.Coords), k0_off122 i = ![(i 0).val % 2, 1, 0, 0, 0] := by decide +kernel
instance (i : grid0.Coords) : ClosedOff (k0_off122 i) := ⟨_, k0_off122_eq' i⟩
theorem k0_off123_eq' : ∀ (i : grid0.Coords), k0_off123 i = ![(i 0).val % 2, 0, 0, 0, 128] := by decide +kernel
instance (i : grid0.Coords) : ClosedOff (k0_off123 i) := ⟨_, k0_off123_eq' i⟩
theorem k0_off124_eq' : ∀ (i : grid0.Coords), k0_off124 i = ![(i 0).val % 2, 1, 0, 0, 128] := by decide +kernel
instance (i : grid0.Coords) : ClosedOff (k0_off124 i) := ⟨_, k0_off124_eq' i⟩
theorem k0_off125_eq' : ∀ (i : grid0.Coords), k0_off125 i = ![(i 0).val % 2, 0, 1, 0, 0] := by decide +kernel
instance (i : grid0.Coords) : ClosedOff (k0_off125 i) := ⟨_, k0_off125_eq' i⟩
theorem k0_off126_eq' : ∀ (i : grid0.Coords), k0_off126 i = ![(i 0).val % 2, 1, 1, 0, 0] := by decide +kernel
instance (i : grid0.Coords) : ClosedOff (k0_off126 i) := ⟨_, k0_off126_eq' i⟩
theorem k0_off127_eq' : ∀ (i : grid0.Coords), k0_off127 i = ![(i 0).val % 2, 0, 1, 0, 128] := by decide +kernel
instance (i : grid0.Coords) : ClosedOff (k0_off127 i) := ⟨_, k0_off127_eq' i⟩
theorem k0_off128_eq' : ∀ (i : grid0.Coords), k0_off128 i = ![(i 0).val % 2, 1, 1, 0, 128] := by decide +kernel
instance (i : grid0.Coords) : ClosedOff (k0_off128 i) := ⟨_, k0_off128_eq' i⟩
theorem k0_off129_eq' : ∀ (i : grid0.Coords), k0_off129 i = ![(i 0).val % 2, 0, 2, 0, 0] := by decide +kernel
instance (i : grid0.Coords) : ClosedOff (k0_off129 i) := ⟨_, k0_off129_eq' i⟩
theorem k0_off130_eq' : ∀ (i : grid0.Coords), k0_off130 i = ![(i 0).val % 2, 1, 2, 0, 0] := by decide +kernel
instance (i : grid0.Coords) : ClosedOff (k0_off130 i) := ⟨_, k0_off130_eq' i⟩
theorem k0_off131_eq' : ∀ (i : grid0.Coords), k0_off131 i = ![(i 0).val % 2, 0, 2, 0, 128] := by decide +kernel
instance (i : grid0.Coords) : ClosedOff (k0_off131 i) := ⟨_, k0_off131_eq' i⟩
theorem k0_off132_eq' : ∀ (i : grid0.Coords), k0_off132 i = ![(i 0).val % 2, 1, 2, 0, 128] := by decide +kernel
instance (i : grid0.Coords) : ClosedOff (k0_off132 i) := ⟨_, k0_off132_eq' i⟩
theorem k0_off133_eq' : ∀ (i : grid0.Coords), k0_off133 i = ![(i 0).val % 2, 0, 3, 0, 0] := by decide +kernel
instance (i : grid0.Coords) : ClosedOff (k0_off133 i) := ⟨_, k0_off133_eq' i⟩
theorem k0_off134_eq' : ∀ (i : grid0.Coords), k0_off134 i = ![(i 0).val % 2, 1, 3, 0, 0] := by decide +kernel
instance (i : grid0.Coords) : ClosedOff (k0_off134 i) := ⟨_, k0_off134_eq' i⟩
theorem k0_off135_eq' : ∀ (i : grid0.Coords), k0_off135 i = ![(i 0).val % 2, 0, 3, 0, 128] := by decide +kernel
instance (i : grid0.Coords) : ClosedOff (k0_off135 i) := ⟨_, k0_off135_eq' i⟩
theorem k0_off136_eq' : ∀ (i : grid0.Coords), k0_off136 i = ![(i 0).val % 2, 1, 3, 0, 128] := by decide +kernel
instance (i : grid0.Coords) : ClosedOff (k0_off136 i) := ⟨_, k0_off136_eq' i⟩

end Cert.KernelIdeal
-- ==== Proof.Trip.lean ====
module

public import proofs.«01_k».proof.Proof.Gen.KernelIdeal.Frame
public import proofs.«01_k».proof.Proof.Gen.KernelIdeal.Loops
public import proofs.«01_k».proof.Proof.Offsets

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one trip of the two-chunk loop owns: the rows of the observation, the biases and the dequantised weights, read;
    the two weight buffers and the hidden activations, written. -/
abbrev Trip (c : Dev nD) (arg2 : Memref sig .tc .vmem S128x384 .bf16) (arg5 : Memref sig .tc .vmem S4x1x256 .f32) (arg10 : Memref sig .tc .vmem S4x384x256 .f32) (arg13 : Memref sig .tc .vmem S2x384x256 .bf16) (arg14 : Memref sig .tc .vmem S2x384x256 .bf16) (arg16 : Memref sig .tc .vmem S2x2x4x128x256 .bf16)
    (X2 : BufTy.Contents (Elt F) arg2.view.ty) (X5 : BufTy.Contents (Elt F) arg5.view.ty) (X10 : BufTy.Contents (Elt F) arg10.view.ty) (f13 : BufTy.Contents (Elt F) arg13.view.ty) (f14 : BufTy.Contents (Elt F) arg14.view.ty) (f16 : BufTy.Contents (Elt F) arg16.view.ty) : sProp 𝕄G :=
  iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} X10)
    ∗ (arg13.view.loc (c : Thread nD τ) ↦[arg13.view.set]{fullShare} f13) ∗ (arg14.view.loc (c : Thread nD τ) ↦[arg14.view.set]{fullShare} f14) ∗ (arg16.view.loc (c : Thread nD τ) ↦[arg16.view.set]{fullShare} f16))

/-- One trip of the two-chunk loop. -/
def trip (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32)
    (X2 : BufTy.Contents (Elt F) arg2.view.ty) (X5 : BufTy.Contents (Elt F) arg5.view.ty) (X10 : BufTy.Contents (Elt F) arg10.view.ty) (f14 : BufTy.Contents (Elt F) arg14.view.ty) (k : Fin k0_t2_loop.trips) :
    Σ' (L13 : List (View.Piece (Elt F) S2x384x256 .bf16)) (L14 : List (View.Piece (Elt F) S2x384x256 .bf16)),
      { L16 : List (View.Piece (Elt F) S2x2x4x128x256 .bf16) // ∀ (E : Set ℕ) (f13 : BufTy.Contents (Elt F) arg13.view.ty) (f16 : BufTy.Contents (Elt F) arg16.view.ty),
      Trip (F := F) c arg2 arg5 arg10 arg13 arg14 arg16 X2 X5 X10 f13 f14 f16
      ⊢ wp frame (wpE (defs₀ (F := F)) 𝒱 (c : Thread nD τ) bd) E (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 k PUnit.unit)
          (fun _ => Trip (F := F) c arg2 arg5 arg10 arg13 arg14 arg16 X2 X5 X10 (arg13.view.writes (Elt F) f13 L13) (arg14.view.writes (Elt F) f14 L14) (arg16.view.writes (Elt F) f16 L16)) } := by
  have hk : k.val < 2 := Nat.lt_of_lt_of_le k.isLt (by decide)
  refine ⟨?_, ?_, ?_, fun E f13 f16 => ?run⟩
  case run =>
    unfold Gen.k0_t2_body
    iintro ⟨H2, H5, H10, H13, H14, H16⟩
    sl_exec
    sl_step
    sl_close

/-- What a trip leaves of the two weight buffers and the hidden activations, from what it found. -/
@[irreducible] def tripsStep (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (k : ℕ) (s : BufTy.Contents (Elt F) arg13.view.ty × BufTy.Contents (Elt F) arg14.view.ty × BufTy.Contents (Elt F) arg16.view.ty) : BufTy.Contents (Elt F) arg13.view.ty × BufTy.Contents (Elt F) arg14.view.ty × BufTy.Contents (Elt F) arg16.view.ty :=
  if h : k < k0_t2_loop.trips then
    let L := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 s.2.1 ⟨k, h⟩
    (arg13.view.writes (Elt F) s.1 L.1, arg14.view.writes (Elt F) s.2.1 L.2.1, arg16.view.writes (Elt F) s.2.2 L.2.2.1)
  else s

/-- The same before trip `k`. -/
def trips (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (G : BufTy.Contents (Elt F) arg13.view.ty × BufTy.Contents (Elt F) arg14.view.ty × BufTy.Contents (Elt F) arg16.view.ty) : ℕ → BufTy.Contents (Elt F) arg13.view.ty × BufTy.Contents (Elt F) arg14.view.ty × BufTy.Contents (Elt F) arg16.view.ty
  | 0 => G
  | k + 1 => tripsStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 k (trips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k)

theorem trips_succ (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (G : BufTy.Contents (Elt F) arg13.view.ty × BufTy.Contents (Elt F) arg14.view.ty × BufTy.Contents (Elt F) arg16.view.ty) (k : Fin k0_t2_loop.trips) :
    trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G (k.val + 1)
      = (arg13.view.writes (Elt F) (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).1 (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 k).1,
         arg14.view.writes (Elt F) (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 k).2.1,
         arg16.view.writes (Elt F) (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.2 (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 k).2.2.1) := by
  rw [trips.eq_2]; unfold tripsStep; exact dif_pos k.isLt

/-- The invariant of the two-chunk loop before trip `k`. -/
abbrev tripsInv (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty)
    (G13 : BufTy.Contents (Elt F) arg13.view.ty) (G14 : BufTy.Contents (Elt F) arg14.view.ty) (G16 : BufTy.Contents (Elt F) arg16.view.ty) (k : ℕ) (_ : Unit) : sProp 𝕄G :=
  iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} X10)
    ∗ (∃ f, (arg13.view.loc (c : Thread nD τ) ↦[arg13.view.set]{fullShare} f) ∗ ⌜f = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k).1⌝)
    ∗ (∃ f, (arg14.view.loc (c : Thread nD τ) ↦[arg14.view.set]{fullShare} f) ∗ ⌜f = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k).2.1⌝)
    ∗ (∃ f, (arg16.view.loc (c : Thread nD τ) ↦[arg16.view.set]{fullShare} f) ∗ ⌜f = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k).2.2⌝))

set_option warn.classDefReducibility false in
/-- The two-chunk loop by its invariant. -/
@[sl_loop] def loopInv_two_chunks (𝒱 : Variants) (c : Dev nD) (bd : Option 𝒱.V) (E : Set ℕ) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty)
    (G13 : BufTy.Contents (Elt F) arg13.view.ty) (G14 : BufTy.Contents (Elt F) arg14.view.ty) (G16 : BufTy.Contents (Elt F) arg16.view.ty) :
    Gen.LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 where
  inv := tripsInv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G13 G14 G16
  step k acc := by
    iintro ⟨H2, H5, H10, ⟨%f13, H13, %h13⟩, ⟨%f14, H14, %h14⟩, ⟨%f16, H16, %h16⟩⟩
    iapply (wp_wand_r Idealize.ShloMosaic.frame (wpE (defs₀ (F := F)) 𝒱 (c : Thread nD τ) bd) E)
    isplitl [H2 H5 H10 H13 H14 H16]
    · rw [h14]
      iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k.val).2.1 k).2.2.2 E f13 f16)
      isplitl [H2]; · iexact H2
      isplitl [H5]; · iexact H5
      isplitl [H10]; · iexact H10
      isplitl [H13]; · iexact H13
      isplitl [H14]; · iexact H14
      iexact H16
    · iintro %_ ⟨H2, H5, H10, H13, H14, H16⟩
      isplitl [H2]; · iexact H2
      isplitl [H5]; · iexact H5
      isplitl [H10]; · iexact H10
      rw [trips_succ]
      isplitl [H13]
      · iexists _; isplitl [H13]; · iexact H13
        ipureintro; rw [h13]
      isplitl [H14]
      · iexists _; isplitl [H14]; · iexact H14
        ipureintro; rfl
      iexists _; isplitl [H16]; · iexact H16
      ipureintro; rw [h16]

end Cert.KernelIdeal
-- ==== Proof.Body.lean ====
module

public import proofs.«01_k».proof.Proof.Gen.KernelIdeal.Frame
public import proofs.«01_k».proof.Proof.Trip

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen

/-- The body's first step alone: the weights dequantised, the counters of the second layer, and the buffers cleared. -/
def k0_init (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (k0_h1 : k0_cond1 i = 1#1) :
    Prog (TpuEff nD τ sig (Elt F) Λ₀ .tc) PUnit := do
  let v799 : FVec F S2x2x4x32x256 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1
  let v800 : Vec F S2x2x4x32x256 .bf16 ← Prog.lift (.load arg15 (Rect.unit (s := S2x2x4x32x256) ![0, 0, 0, 0, 0] S2x2x4x32x256.size inb_S2x2x4x32x256_S2x2x4x32x256_0_0_0_0_0).toLoadRect (View.loadsAt_vmem h_S2x2x4x32x256))
  Prog.lift (.store arg15 (Rect.unit (s := S2x2x4x32x256) ![0, 0, 0, 0, 0] S2x2x4x32x256.size inb_S2x2x4x32x256_S2x2x4x32x256_0_0_0_0_0) (k0_pay767 v799) Finset.univ (View.stores_vmem h_S2x2x4x32x256 (harg15.storeExact_slice rfl _ packedbf16_S2x2x4x32x256_S2x2x4x32x256_0_0_0_0_0) (fun _ => rfl)) (.inl rfl))
  let v804 : Vec F S2x2x4x128x256 .bf16 ← Prog.lift (.load arg16 (Rect.unit (s := S2x2x4x128x256) ![0, 0, 0, 0, 0] S2x2x4x128x256.size inb_S2x2x4x128x256_S2x2x4x128x256_0_0_0_0_0).toLoadRect (View.loadsAt_vmem h_S2x2x4x128x256))
  Prog.lift (.store arg16 (Rect.unit (s := S2x2x4x128x256) ![0, 0, 0, 0, 0] S2x2x4x128x256.size inb_S2x2x4x128x256_S2x2x4x128x256_0_0_0_0_0) (k0_pay768 (F := F)) Finset.univ (View.stores_vmem h_S2x2x4x128x256 (harg16.storeExact_slice rfl _ packedbf16_S2x2x4x128x256_S2x2x4x128x256_0_0_0_0_0) (fun _ => rfl)) (.inl rfl))
  pure ⟨⟩

/-- The body after its first step. -/
def k0_rest (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) :
    Prog (TpuEff nD τ sig (Elt F) Λ₀ .tc) PUnit := do
  let arg0 : BitVec 32 := BitVec.ofNat 32 (i 0).val
  have v0 : IVec S16x128 32 := iota .tc S16x128 32 [0] iota_S16x128_d0_w32
  have v1 : IVec S16x128 32 := iota .tc S16x128 32 [1] iota_S16x128_d1_w32
  let v5 : Elt F .i32 ← smemLoad arg1 (Rect.unit (s := S1) ![0] S1.size inb_S1_S1_0) numel1_S1 rfl
  let v6 : BitVec 1 := Scalar.cmpi .eq 2#32 0#32
  let v7 : BitVec 32 := Scalar.select v6 1#32 2#32
  let v8 : BitVec 32 := Scalar.remsi arg0 v7
  let v9 : BitVec 1 := Scalar.cmpi .ne v8 0#32
  let v10 : BitVec 1 := Scalar.cmpi .slt v8 0#32
  let v11 : BitVec 1 := Scalar.cmpi .slt v7 0#32
  let v12 : BitVec 1 := Scalar.xori v10 v11
  let v13 : BitVec 1 := Scalar.andi v12 v9
  let v14 : BitVec 32 := Scalar.addi v8 v7
  let v15 : BitVec 32 := Scalar.select v13 v14 v8
  let v16 : BitVec 32 := Scalar.xori v5 arg0
  let v17 : BitVec 32 := Scalar.shrui v16 16#32
  let v18 : BitVec 32 := Scalar.xori v16 v17
  let v19 : BitVec 32 := Scalar.muli v18 2246822507#32
  let v20 : BitVec 32 := Scalar.shrui v19 13#32
  let v21 : BitVec 32 := Scalar.xori v19 v20
  let v22 : BitVec 32 := Scalar.muli v21 3266489909#32
  let v23 : BitVec 32 := Scalar.shrui v22 16#32
  let v24 : BitVec 32 := Scalar.xori v22 v23
  let v25 : BitVec 32 := Scalar.xori v24 0#32
  let v26 : BitVec 32 := Scalar.shrui v25 16#32
  let v27 : BitVec 32 := Scalar.xori v25 v26
  let v28 : BitVec 32 := Scalar.muli v27 2246822507#32
  let v29 : BitVec 32 := Scalar.shrui v28 13#32
  let v30 : BitVec 32 := Scalar.xori v28 v29
  let v31 : BitVec 32 := Scalar.muli v30 3266489909#32
  let v32 : BitVec 32 := Scalar.shrui v31 16#32
  let v33 : BitVec 32 := Scalar.xori v31 v32
  let v34 : BitVec 32 := Scalar.shrui v33 16#32
  let v35 : BitVec 32 := Scalar.xori v33 v34
  let ⟨v57, v61, c1_i32_43⟩ : Σ' (v57 : FVec F S128x32 .f32) (v61 : FVec F S128x256 .bf16), BitVec 32 ← k0_part178 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 2246822507#32
  let ⟨v88, v92⟩ : Σ' (v88 : FVec F S128x32 .f32), FVec F S128x256 .bf16 ← k0_part179 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v57 v61 c1_i32_43
  let v118 : FVec F S128x32 .f32 ← k0_part180 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v88 v92
  let ⟨v154, v155⟩ : Σ' (v154 : BitVec 32), BitVec 32 ← k0_part181 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v5 v15 v118
  let ⟨v158, v161, v178, v193, v196⟩ : Σ' (v158 : BitVec 32) (v161 : BitVec 32) (v178 : IVec S24x128 32) (v193 : FVec F S24x128 .f32), FVec F S24x128 .f32 ← k0_part182 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v154 v155
  let v233 : FVec F S32x128 .bf16 ← k0_part183 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v178 v193 v196
  let ⟨v273, v279⟩ : Σ' (v273 : FVec F S24x128 .f32), FVec F S24x128 .f32 ← k0_part184 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v158 v161 v233
  let ⟨v316, v317⟩ : Σ' (v316 : IVec S24x128 32), IVec S24x128 32 ← k0_part185 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v273 v279
  let ⟨v349, v358, v359, v361, cst_211⟩ : Σ' (v349 : FVec F S24x128 .f32) (v358 : FVec F S24x128 .f32) (v359 : FVec F S24x128 .f32) (v361 : FVec F S24x128 .f32), F .f32 ← k0_part186 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v161 v316 v317
  let ⟨v396, v399, v400⟩ : Σ' (v396 : IVec S24x128 32) (v399 : IVec S24x128 32), IVec S24x128 32 ← k0_part187 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v349 v358 v359 v361 cst_211
  let ⟨v425, v443, v444, cst_245⟩ : Σ' (v425 : FVec F S24x128 .f32) (v443 : FVec F S24x128 .f32) (v444 : FVec F S24x128 .f32), F .f32 ← k0_part188 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v396 v399 v400
  let ⟨v477, v482, c8_i32_264⟩ : Σ' (v477 : IVec S24x128 32) (v482 : IVec S24x128 32), BitVec 32 ← k0_part189 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v425 v443 v444 cst_245
  let ⟨v526, v527⟩ : Σ' (v526 : FVec F S24x128 .f32), FVec F S24x128 .f32 ← k0_part190 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v477 v482 c8_i32_264
  let ⟨v558, v565⟩ : Σ' (v558 : IVec S24x128 32), IVec S24x128 32 ← k0_part191 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v526 v527
  let ⟨v603, v606⟩ : Σ' (v603 : FVec F S24x128 .f32), FVec F S32x128 .bf16 ← k0_part192 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v558 v565
  let ⟨v634, v647, cst_333⟩ : Σ' (v634 : IVec S24x128 32) (v647 : FVec F S24x128 .f32), F .f32 ← k0_part193 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v603 v606
  let v689 : FVec F S32x128 .bf16 ← k0_part194 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v634 v647 cst_333
  let ⟨v710, v729, v730⟩ : Σ' (v710 : IVec S24x128 32) (v729 : FVec F S24x128 .f32), IVec S24x128 32 ← k0_part195 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v158 v161 v689
  let v753 : Vec F S24x128 .f32 ← Prog.lift (.load arg11 (Rect.unit (s := S32x1024) ![0, 896] S24x128.size inb_S32x1024_S24x128_0_896).toLoadRect (View.loadsAt_vmem h_S24x128))
  let v760 : Vec F S1x1x1x32x128 .bf16 ← Prog.lift (.load arg15 (Rect.unit (s := S2x2x4x32x256) (k0_off135 i) S1x1x1x32x128.size (k0_off135_inb i)).toLoadRect (View.loadsAt_vmem h_S1x1x1x32x128))
  Prog.lift (.store arg15 (Rect.unit (s := S2x2x4x32x256) (k0_off135 i) S1x1x1x32x128.size (k0_off135_inb i)) (k0_pay1 (k0_pay842 v710 v729 v730 v753)) Finset.univ (View.stores_vmem h_S1x1x1x32x128 (harg15.storeExact_slice rfl _ (k0_off135_packedbf16 i)) (fun _ => rfl)) (.inl rfl))
  let v767 : Vec F S1x1x1x32x128 .bf16 ← Prog.lift (.load arg15 (Rect.unit (s := S2x2x4x32x256) (k0_off136 i) S1x1x1x32x128.size (k0_off136_inb i)).toLoadRect (View.loadsAt_vmem h_S1x1x1x32x128))
  Prog.lift (.store arg15 (Rect.unit (s := S2x2x4x32x256) (k0_off136 i) S1x1x1x32x128.size (k0_off136_inb i)) (k0_pay2 (k0_pay841 v710 v729 v730 v753)) Finset.univ (View.stores_vmem h_S1x1x1x32x128 (harg15.storeExact_slice rfl _ (k0_off136_packedbf16 i)) (fun _ => rfl)) (.inl rfl))
  pure ⟨⟩

/-- The body is its first step, on the grid's first point, then the rest. -/
theorem cc0_eq (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) :
    cc0_es_pairs (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      = (if h : k0_cond1 i = 1#1 then k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) >>= fun _ => k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 := by
  rw [cc0_es_pairs_eq_skeleton]
  unfold cc0_es_pairs_skel
  rw [k0_part196_eq_skeleton]
  unfold k0_part196_skel
  rw [k0_part177_eq_skeleton]
  unfold k0_part177_skel k0_rest k0_init
  split <;> simp only [bind_assoc, pure_bind]

/-- What the rest of the body reads, at its contents, and what it writes, at any. -/
abbrev Rest (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt F) arg1.view.ty) (X2 : BufTy.Contents (Elt F) arg2.view.ty) (X5 : BufTy.Contents (Elt F) arg5.view.ty) (X8 : BufTy.Contents (Elt F) arg8.view.ty) (X10 : BufTy.Contents (Elt F) arg10.view.ty) (X11 : BufTy.Contents (Elt F) arg11.view.ty) (X12 : BufTy.Contents (Elt F) arg12.view.ty) (f9 : BufTy.Contents (Elt F) arg9.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄G :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg9.view.loc (c : Thread nD τ) ↦[arg9.view.set]{fullShare} f9) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 40000000 in
/-- The rest of the body at one point of the grid. -/
def rest (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt F) arg1.view.ty) (X2 : BufTy.Contents (Elt F) arg2.view.ty) (X5 : BufTy.Contents (Elt F) arg5.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L9 : List (View.Piece (Elt F) S1x2x128x17 .bf16)) (R13 : BufTy.Contents (Elt F) arg13.view.ty) (R14 : BufTy.Contents (Elt F) arg14.view.ty) (L15 : List (View.Piece (Elt F) S2x2x4x32x256 .bf16)),
      { R16 : BufTy.Contents (Elt F) arg16.view.ty // ∀ (f9 : BufTy.Contents (Elt F) arg9.view.ty),
      Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 f9 X13 X14 X15 X16
      ⊢ wp frame (wpE (defs₀ (F := F)) Variants.none (c : Thread nD τ) none) Set.univ (k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 (arg9.view.writes (Elt F) f9 L9) R13 R14 (arg15.view.writes (Elt F) X15 L15) R16) } := by
  refine ⟨?_, ?_, ?_, ?_, ?_, fun f9 => ?run⟩
  case run =>
    unfold k0_rest
    iintro ⟨H1, H2, H5, H8, H10, H11, H12, H9, H13, H14, H15, H16⟩
    sl_exec
    sl_step
    sl_close

end Cert.KernelIdeal
-- ==== Proof.Init.lean ====
module

public import proofs.«01_k».proof.Proof.Gen.KernelIdeal.Frame
public import proofs.«01_k».proof.Proof.Body

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen

/-- What the first step reads, at its contents, and what it writes, at any. -/
abbrev Init (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X3 : BufTy.Contents (Elt F) arg3.view.ty) (X4 : BufTy.Contents (Elt F) arg4.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄G :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 40000000 in
/-- The first step of the body. -/
def init (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (k0_h1 : k0_cond1 i = 1#1) (X3 : BufTy.Contents (Elt F) arg3.view.ty) (X4 : BufTy.Contents (Elt F) arg4.view.ty) (X6 : BufTy.Contents (Elt F) arg6.view.ty) (X7 : BufTy.Contents (Elt F) arg7.view.ty) :
    Σ' (L10 : List (View.Piece (Elt F) S4x384x256 .f32)) (L11 : List (View.Piece (Elt F) S32x1024 .f32)) (L12 : List (View.Piece (Elt F) S24x1024 .i32)) (L13 : List (View.Piece (Elt F) S2x384x256 .bf16)) (L14 : List (View.Piece (Elt F) S2x384x256 .bf16)) (L15 : List (View.Piece (Elt F) S2x2x4x32x256 .bf16)),
      { L16 : List (View.Piece (Elt F) S2x2x4x128x256 .bf16) // ∀ (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 X7 f10 f11 f12 f13 f14 f15 f16
      ⊢ wp frame (wpE (defs₀ (F := F)) Variants.none (c : Thread nD τ) none) Set.univ (k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1)
          (fun _ => Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 X7 (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16)) } := by
  refine ⟨?_, ?_, ?_, ?_, ?_, ?_, ?_, fun f10 f11 f12 f13 f14 f15 f16 => ?run⟩
  case run =>
    unfold k0_init
    iintro ⟨H3, H4, H6, H7, H10, H11, H12, H13, H14, H15, H16⟩
    sl_exec
    sl_step
    sl_close

/-- One trip of the dequantising loop writes 32 rows. -/
theorem tripL_eq (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (k0_h1 : k0_cond1 i = 1#1) (X3 : BufTy.Contents (Elt F) arg3.view.ty) (X4 : BufTy.Contents (Elt F) arg4.view.ty) (k : Fin k0_t1_loop.trips) :
    Gen.tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 k
      = [⟨Rect.unit (s := S4x384x256) (k0_off1 k) S1x32x256.size (k0_off1_inb i k k0_h1),
          k0_pay4 (k0_pay3 (arg3.view.readAt (Elt F) (Rect.unit (s := S4x384x256) (k0_off1 k) S1x32x256.size (k0_off1_inb i k k0_h1)).toLoadRect X3)
            (arg4.view.readAt (Elt F) (Rect.unit (s := S4x1x256) (k0_off2 k) S1x1x256.size (k0_off2_inb i k k0_h1)).toLoadRect X4))⟩] := by
  unfold Gen.tripL_k0_t1
  with_unfolding_all rfl

end Cert.KernelIdeal
-- ==== Proof.State.lean ====
module

public import proofs.«01_k».proof.Proof.Gen.KernelIdeal.Frame
public import proofs.«01_k».proof.Proof.Init
public import proofs.«01_k».proof.Proof.Offsets

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen

/-- What the scratch buffers hold. -/
structure St (F : FTy → Type) where
  x10 : S4x384x256.Idx → Elt F .f32
  x11 : S32x1024.Idx → Elt F .f32
  x12 : S24x1024.Idx → Elt F .i32
  x13 : S2x384x256.Idx → Elt F .bf16
  x14 : S2x384x256.Idx → Elt F .bf16
  x15 : S2x2x4x32x256.Idx → Elt F .bf16
  x16 : S2x2x4x128x256.Idx → Elt F .bf16

/-- The state that the first step leaves. -/
def initSt (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) : St F where
  x10 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1
  x11 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1
  x12 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1
  x13 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1
  x14 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1
  x15 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1
  x16 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1

/-- The state that the rest of the body leaves. -/
def restSt (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) : St F where
  x10 := s.x10
  x11 := s.x11
  x12 := s.x12
  x13 := arg13.view.read (Elt F) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.1
  x14 := arg14.view.read (Elt F) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.1
  x15 := arg15.view.read (Elt F) (arg15.view.writes (Elt F) (harg15.unread s.x15) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.1)
  x16 := arg16.view.read (Elt F) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.2.1

/-- The block that the rest of the body writes to the output. -/
def restOut (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) : S1x2x128x17.Idx → Elt F .bf16 :=
  View.canon (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1

/-- The dequantising loop's pieces, trip by trip, cover the rows done so far. -/
theorem pb_cover (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (X3 : BufTy.Contents (Elt F) arg3.view.ty) (X4 : BufTy.Contents (Elt F) arg4.view.ty)
    (n : ℕ) (hn : n ≤ 48) (y : S4x384x256.Idx) (hy : (y 0).val * 12 + (y 1).val / 32 < n) :
    ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h X3 X4 n, y ∈ p.1.set := by
  induction n with
  | zero => omega
  | succ n ih =>
    have h48 : k0_t1_loop.trips = 48 := rfl
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h X3 X4 ⟨n, by omega⟩
    simp only at e
    rw [e, tripL_eq]
    by_cases hlt : (y 0).val * 12 + (y 1).val / 32 < n
    · obtain ⟨p, hp, hm⟩ := ih (by omega) hlt
      exact ⟨p, List.mem_append_right _ hp, hm⟩
    · refine ⟨_, List.mem_append_left _ (List.mem_singleton.mpr rfl), ?_⟩
      have hy0 : (y 0).val < 4 := (y 0).isLt
      have hy1 : (y 1).val < 384 := (y 1).isLt
      have hy2 : (y 2).val < 256 := (y 2).isLt
      refine (LoadRect.mem_set _).mpr ?_
      intro a
      have ho : (k0_off1 ⟨n, by omega⟩ : Fin 3 → ℕ) = ![n / 12, (n % 12) * 32, 0] := k0_off1_eq' _
      fin_cases a
      · refine ⟨0, by show 0 < 1; omega, ?_⟩
        show (y 0).val = (k0_off1 ⟨n, by omega⟩ : Fin 3 → ℕ) 0 + 1 * 0
        rw [ho]; show (y 0).val = n / 12 + 1 * 0; omega
      · refine ⟨(y 1).val % 32, by show (y 1).val % 32 < 32; omega, ?_⟩
        show (y 1).val = (k0_off1 ⟨n, by omega⟩ : Fin 3 → ℕ) 1 + 1 * ((y 1).val % 32)
        rw [ho]; show (y 1).val = (n % 12) * 32 + 1 * ((y 1).val % 32); omega
      · refine ⟨(y 2).val, by show (y 2).val < 256; omega, ?_⟩
        show (y 2).val = (k0_off1 ⟨n, by omega⟩ : Fin 3 → ℕ) 2 + 1 * (y 2).val
        rw [ho]; show (y 2).val = 0 + 1 * (y 2).val; omega

theorem cover10 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (y : S4x384x256.Idx) :
    ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1, y ∈ p.1.set :=
  pb_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h _ _ 48 (le_refl _) y (by
    have hy0 : (y 0).val < 4 := (y 0).isLt
    have hy1 : (y 1).val < 384 := (y 1).isLt
    omega)

theorem cover11 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1, y ∈ p.1.set :=
  View.cover_of_tiled _ ![32,1024] (by sl_kernel_rfl)

theorem cover12 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1, y ∈ p.1.set :=
  View.cover_of_tiled _ ![24,1024] (by sl_kernel_rfl)

theorem cover13 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1, y ∈ p.1.set :=
  View.cover_of_tiled _ ![2,384,256] (by sl_kernel_rfl)

theorem cover14 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1, y ∈ p.1.set :=
  View.cover_of_tiled _ ![2,384,256] (by sl_kernel_rfl)

theorem cover15 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1, y ∈ p.1.set :=
  View.cover_of_tiled _ ![2,2,4,32,256] (by sl_kernel_rfl)

theorem cover16 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1, y ∈ p.1.set :=
  View.cover_of_tiled _ ![2,2,4,128,256] (by sl_kernel_rfl)

theorem cover9 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) :
    ∀ y, ∃ p ∈ (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1, y ∈ p.1.set :=
  View.cover_of_tiled _ ![1,1,128,17] (by sl_kernel_rfl)

end Cert.KernelIdeal
-- ==== Proof.Lift.lean ====
module

public import proofs.«01_k».proof.Proof.Gen.KernelIdeal.Frame
public import proofs.«01_k».proof.Proof.Init

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen

/-- A run over raw contents is a run over what the memrefs read: the first step's memrefs. -/
theorem init_lift (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (p : Prog (TpuEff nD τ sig (Elt F) Λ₀ .tc) PUnit) (x3 : S4x384x256.Idx → Elt F .fp8e4m3) (x4 : S4x1x256.Idx → Elt F .f32) (x6 : S32x1024.Idx → Elt F .fp8e4m3) (x7 : S32x1.Idx → Elt F .f32) (x10 : S4x384x256.Idx → Elt F .f32) (x11 : S32x1024.Idx → Elt F .f32) (x12 : S24x1024.Idx → Elt F .i32) (x13 : S2x384x256.Idx → Elt F .bf16) (x14 : S2x384x256.Idx → Elt F .bf16) (x15 : S2x2x4x32x256.Idx → Elt F .bf16) (x16 : S2x2x4x128x256.Idx → Elt F .bf16) (y10 : S4x384x256.Idx → Elt F .f32) (y11 : S32x1024.Idx → Elt F .f32) (y12 : S24x1024.Idx → Elt F .i32) (y13 : S2x384x256.Idx → Elt F .bf16) (y14 : S2x384x256.Idx → Elt F .bf16) (y15 : S2x2x4x32x256.Idx → Elt F .bf16) (y16 : S2x2x4x128x256.Idx → Elt F .bf16) (L10 : List (View.Piece (Elt F) S4x384x256 .f32)) (L11 : List (View.Piece (Elt F) S32x1024 .f32)) (L12 : List (View.Piece (Elt F) S24x1024 .i32)) (L13 : List (View.Piece (Elt F) S2x384x256 .bf16)) (L14 : List (View.Piece (Elt F) S2x384x256 .bf16)) (L15 : List (View.Piece (Elt F) S2x2x4x32x256 .bf16)) (L16 : List (View.Piece (Elt F) S2x2x4x128x256 .bf16))
    (h10 : ∀ f, arg10.view.read (Elt F) (arg10.view.writes (Elt F) f L10) = y10) (h11 : ∀ f, arg11.view.read (Elt F) (arg11.view.writes (Elt F) f L11) = y11) (h12 : ∀ f, arg12.view.read (Elt F) (arg12.view.writes (Elt F) f L12) = y12) (h13 : ∀ f, arg13.view.read (Elt F) (arg13.view.writes (Elt F) f L13) = y13) (h14 : ∀ f, arg14.view.read (Elt F) (arg14.view.writes (Elt F) f L14) = y14) (h15 : ∀ f, arg15.view.read (Elt F) (arg15.view.writes (Elt F) f L15) = y15) (h16 : ∀ f, arg16.view.read (Elt F) (arg16.view.writes (Elt F) f L16) = y16)
    (run : ∀ (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) f10 f11 f12 f13 f14 f15 f16 ⊢ wp frame (wpE (defs₀ (F := F)) Variants.none (c : Thread nD τ) none) Set.univ p
      (fun _ => Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16))) :
    (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄G)
    ⊢ wp frame (wpE (defs₀ (F := F)) Variants.none (c : Thread nD τ) none) Set.univ p (fun _ => iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16)) := by
  unfold owns
  iintro ⟨⟨%f3, %e3, H3⟩, ⟨%f4, %e4, H4⟩, ⟨%f6, %e6, H6⟩, ⟨%f7, %e7, H7⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have e31 := harg3.eq_unread e3; subst e31; have e41 := harg4.eq_unread e4; subst e41; have e61 := harg6.eq_unread e6; subst e61; have e71 := harg7.eq_unread e7; subst e71
  iapply wp_wand_r
  isplitl [H3 H4 H6 H7 H10 H11 H12 H13 H14 H15 H16]
  · iapply (run f10 f11 f12 f13 f14 f15 f16)
    isplitl [H3]; · iexact H3
    isplitl [H4]; · iexact H4
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    iexact H16
  iintro %u ⟨H3, H4, H6, H7, H10, H11, H12, H13, H14, H15, H16⟩
  isplitl [H3]
  · iexists _; isplitr
    swap; · iexact H3
    ipureintro; exact harg3.read_unread _
  isplitl [H4]
  · iexists _; isplitr
    swap; · iexact H4
    ipureintro; exact harg4.read_unread _
  isplitl [H6]
  · iexists _; isplitr
    swap; · iexact H6
    ipureintro; exact harg6.read_unread _
  isplitl [H7]
  · iexists _; isplitr
    swap; · iexact H7
    ipureintro; exact harg7.read_unread _
  isplitl [H10]
  · iexists _; isplitr
    swap; · iexact H10
    ipureintro; exact h10 _
  isplitl [H11]
  · iexists _; isplitr
    swap; · iexact H11
    ipureintro; exact h11 _
  isplitl [H12]
  · iexists _; isplitr
    swap; · iexact H12
    ipureintro; exact h12 _
  isplitl [H13]
  · iexists _; isplitr
    swap; · iexact H13
    ipureintro; exact h13 _
  isplitl [H14]
  · iexists _; isplitr
    swap; · iexact H14
    ipureintro; exact h14 _
  isplitl [H15]
  · iexists _; isplitr
    swap; · iexact H15
    ipureintro; exact h15 _
  iexists _; isplitr
  swap; · iexact H16
  ipureintro; exact h16 _

/-- The same of the rest of the body's memrefs. -/
theorem rest_lift (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (p : Prog (TpuEff nD τ sig (Elt F) Λ₀ .tc) PUnit) (x1 : S1.Idx → Elt F .i32) (x2 : S128x384.Idx → Elt F .bf16) (x5 : S4x1x256.Idx → Elt F .f32) (x8 : S1x32.Idx → Elt F .f32) (x9 : S1x2x128x17.Idx → Elt F .bf16) (x10 : S4x384x256.Idx → Elt F .f32) (x11 : S32x1024.Idx → Elt F .f32) (x12 : S24x1024.Idx → Elt F .i32) (x13 : S2x384x256.Idx → Elt F .bf16) (x14 : S2x384x256.Idx → Elt F .bf16) (x15 : S2x2x4x32x256.Idx → Elt F .bf16) (x16 : S2x2x4x128x256.Idx → Elt F .bf16) (y9 : S1x2x128x17.Idx → Elt F .bf16) (y13 : S2x384x256.Idx → Elt F .bf16) (y14 : S2x384x256.Idx → Elt F .bf16) (y15 : S2x2x4x32x256.Idx → Elt F .bf16) (y16 : S2x2x4x128x256.Idx → Elt F .bf16) (L9 : List (View.Piece (Elt F) S1x2x128x17 .bf16))
    (h9 : ∀ f, arg9.view.read (Elt F) (arg9.view.writes (Elt F) f L9) = y9) (R13 : BufTy.Contents (Elt F) arg13.view.ty) (h13 : arg13.view.read (Elt F) R13 = y13) (R14 : BufTy.Contents (Elt F) arg14.view.ty) (h14 : arg14.view.read (Elt F) R14 = y14) (R15 : BufTy.Contents (Elt F) arg15.view.ty) (h15 : arg15.view.read (Elt F) R15 = y15) (R16 : BufTy.Contents (Elt F) arg16.view.ty) (h16 : arg16.view.read (Elt F) R16 = y16)
    (run : ∀ (f9 : BufTy.Contents (Elt F) arg9.view.ty), Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread x10) (harg11.unread x11) (harg12.unread x12) f9 (harg13.unread x13) (harg14.unread x14) (harg15.unread x15) (harg16.unread x16) ⊢ wp frame (wpE (defs₀ (F := F)) Variants.none (c : Thread nD τ) none) Set.univ p
      (fun _ => Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread x10) (harg11.unread x11) (harg12.unread x12) (arg9.view.writes (Elt F) f9 L9) R13 R14 R15 R16)) :
    (iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄G)
    ⊢ wp frame (wpE (defs₀ (F := F)) Variants.none (c : Thread nD τ) none) Set.univ p (fun _ => iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare y9 ∗ owns (c : Thread nD τ) arg10 fullShare x10 ∗ owns (c : Thread nD τ) arg11 fullShare x11 ∗ owns (c : Thread nD τ) arg12 fullShare x12 ∗ owns (c : Thread nD τ) arg13 fullShare y13 ∗ owns (c : Thread nD τ) arg14 fullShare y14 ∗ owns (c : Thread nD τ) arg15 fullShare y15 ∗ owns (c : Thread nD τ) arg16 fullShare y16)) := by
  unfold owns
  iintro ⟨⟨%f1, %e1, H1⟩, ⟨%f2, %e2, H2⟩, ⟨%f5, %e5, H5⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have e11 := harg1.eq_unread e1; subst e11; have e21 := harg2.eq_unread e2; subst e21; have e51 := harg5.eq_unread e5; subst e51; have e81 := harg8.eq_unread e8; subst e81; have e101 := harg10.eq_unread e10; subst e101; have e111 := harg11.eq_unread e11; subst e111; have e121 := harg12.eq_unread e12; subst e121; have e131 := harg13.eq_unread e13; subst e131; have e141 := harg14.eq_unread e14; subst e141; have e151 := harg15.eq_unread e15; subst e151; have e161 := harg16.eq_unread e16; subst e161
  iapply wp_wand_r
  isplitl [H1 H2 H5 H8 H9 H10 H11 H12 H13 H14 H15 H16]
  · iapply (run f9)
    isplitl [H1]; · iexact H1
    isplitl [H2]; · iexact H2
    isplitl [H5]; · iexact H5
    isplitl [H8]; · iexact H8
    isplitl [H10]; · iexact H10
    isplitl [H11]; · iexact H11
    isplitl [H12]; · iexact H12
    isplitl [H9]; · iexact H9
    isplitl [H13]; · iexact H13
    isplitl [H14]; · iexact H14
    isplitl [H15]; · iexact H15
    iexact H16
  iintro %u ⟨H1, H2, H5, H8, H10, H11, H12, H9, H13, H14, H15, H16⟩
  isplitl [H1]
  · iexists _; isplitr
    swap; · iexact H1
    ipureintro; exact harg1.read_unread _
  isplitl [H2]
  · iexists _; isplitr
    swap; · iexact H2
    ipureintro; exact harg2.read_unread _
  isplitl [H5]
  · iexists _; isplitr
    swap; · iexact H5
    ipureintro; exact harg5.read_unread _
  isplitl [H8]
  · iexists _; isplitr
    swap; · iexact H8
    ipureintro; exact harg8.read_unread _
  isplitl [H9]
  · iexists _; isplitr
    swap; · iexact H9
    ipureintro; exact h9 _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact h13
  isplitl [H14]
  · iexists _; isplitr
    swap; · iexact H14
    ipureintro; exact h14
  isplitl [H15]
  · iexists _; isplitr
    swap; · iexact H15
    ipureintro; exact h15
  iexists _; isplitr
  swap; · iexact H16
  ipureintro; exact h16

end Cert.KernelIdeal
-- ==== Proof.Step.lean ====
module

public import proofs.«01_k».proof.Proof.Gen.KernelIdeal.Frame
public import proofs.«01_k».proof.Proof.State
public import proofs.«01_k».proof.Proof.Lift

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen

attribute [local irreducible] init rest

theorem init_read10 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg10.view.ty) :
    arg10.view.read (Elt F) (arg10.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x10 := by
  rw [View.read_writes_eq_canon _ f _ (cover10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read11 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg11.view.ty) :
    arg11.view.read (Elt F) (arg11.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x11 := by
  rw [View.read_writes_eq_canon _ f _ (cover11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read12 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg12.view.ty) :
    arg12.view.read (Elt F) (arg12.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x12 := by
  rw [View.read_writes_eq_canon _ f _ (cover12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read13 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg13.view.ty) :
    arg13.view.read (Elt F) (arg13.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x13 := by
  rw [View.read_writes_eq_canon _ f _ (cover13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read14 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg14.view.ty) :
    arg14.view.read (Elt F) (arg14.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x14 := by
  rw [View.read_writes_eq_canon _ f _ (cover14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read15 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg15.view.ty) :
    arg15.view.read (Elt F) (arg15.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x15 := by
  rw [View.read_writes_eq_canon _ f _ (cover15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read16 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg16.view.ty) :
    arg16.view.read (Elt F) (arg16.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x16 := by
  rw [View.read_writes_eq_canon _ f _ (cover16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_run (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) f10 f11 f12 f13 f14 f15 f16 ⊢ wp frame (wpE (defs₀ (F := F)) Variants.none (c : Thread nD τ) none) Set.univ (k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h)
      (fun _ => Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) (arg10.view.writes (Elt F) f10 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1) (arg11.view.writes (Elt F) f11 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1) (arg12.view.writes (Elt F) f12 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1) (arg13.view.writes (Elt F) f13 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1) (arg14.view.writes (Elt F) f14 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1) (arg15.view.writes (Elt F) f15 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1) (arg16.view.writes (Elt F) f16 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1)) :=
  (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.2 f10 f11 f12 f13 f14 f15 f16

theorem rest_run (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) (f9 : BufTy.Contents (Elt F) arg9.view.ty) :
    Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) f9 (harg13.unread s.x13) (harg14.unread s.x14) (harg15.unread s.x15) (harg16.unread s.x16) ⊢ wp frame (wpE (defs₀ (F := F)) Variants.none (c : Thread nD τ) none) Set.univ (k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (arg9.view.writes (Elt F) f9 (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.1 (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.1 (arg15.view.writes (Elt F) (harg15.unread s.x15) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.1) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.2.1) :=
  (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.2.2 f9

/-- The first step, over what the memrefs read. -/
theorem init_owns (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (d10 : S4x384x256.Idx → Elt F .f32) (d11 : S32x1024.Idx → Elt F .f32) (d12 : S24x1024.Idx → Elt F .i32) (d13 : S2x384x256.Idx → Elt F .bf16) (d14 : S2x384x256.Idx → Elt F .bf16) (d15 : S2x2x4x32x256.Idx → Elt F .bf16) (d16 : S2x2x4x128x256.Idx → Elt F .bf16) :
    (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16) : sProp 𝕄G)
    ⊢ wp frame (wpE (defs₀ (F := F)) Variants.none (c : Thread nD τ) none) Set.univ (k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h)
      (fun _ => iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x10 ∗ owns (c : Thread nD τ) arg11 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x11 ∗ owns (c : Thread nD τ) arg12 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x12 ∗ owns (c : Thread nD τ) arg13 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x13 ∗ owns (c : Thread nD τ) arg14 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x14 ∗ owns (c : Thread nD τ) arg15 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x15 ∗ owns (c : Thread nD τ) arg16 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x16)) :=
  init_lift (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x3 x4 x6 x7 d10 d11 d12 d13 d14 d15 d16 _ _ _ _ _ _ _ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1
    (init_read10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)

/-- The rest of the body, over what the memrefs read. -/
theorem rest_owns (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) (d9 : S1x2x128x17.Idx → Elt F .bf16) :
    (iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare d9 ∗ owns (c : Thread nD τ) arg10 fullShare s.x10 ∗ owns (c : Thread nD τ) arg11 fullShare s.x11 ∗ owns (c : Thread nD τ) arg12 fullShare s.x12 ∗ owns (c : Thread nD τ) arg13 fullShare s.x13 ∗ owns (c : Thread nD τ) arg14 fullShare s.x14 ∗ owns (c : Thread nD τ) arg15 fullShare s.x15 ∗ owns (c : Thread nD τ) arg16 fullShare s.x16) : sProp 𝕄G)
    ⊢ wp frame (wpE (defs₀ (F := F)) Variants.none (c : Thread nD τ) none) Set.univ (k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare (restOut (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s) ∗ owns (c : Thread nD τ) arg10 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x10 ∗ owns (c : Thread nD τ) arg11 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x11 ∗ owns (c : Thread nD τ) arg12 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x12 ∗ owns (c : Thread nD τ) arg13 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x13 ∗ owns (c : Thread nD τ) arg14 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x14 ∗ owns (c : Thread nD τ) arg15 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x15 ∗ owns (c : Thread nD τ) arg16 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x16)) :=
  rest_lift (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x1 x2 x5 x8 d9 s.x10 s.x11 s.x12 s.x13 s.x14 s.x15 s.x16 _ _ _ _ _ (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1
    (fun f => View.read_writes_eq_canon _ f _ (cover9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s)) _ rfl _ rfl _ rfl _ rfl (rest_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s)

end Cert.KernelIdeal
-- ==== Proof.BodyRun.lean ====
module

public import proofs.«01_k».proof.Proof.Gen.KernelIdeal.Frame
public import proofs.«01_k».proof.Proof.Step

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen

/-- The state at one point of the grid before the rest of the body runs: at the first point the first step resets it. -/
def preSt (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x3 : S4x384x256.Idx → Elt F .fp8e4m3) (x4 : S4x1x256.Idx → Elt F .f32) (x6 : S32x1024.Idx → Elt F .fp8e4m3) (x7 : S32x1.Idx → Elt F .f32) (s : St F) : St F :=
  if h : k0_cond1 i = 1#1 then initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7 else s

attribute [local irreducible] initSt restSt restOut

/-- The body at one point of the grid. -/
theorem body_owns (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x3 : S4x384x256.Idx → Elt F .fp8e4m3) (x4 : S4x1x256.Idx → Elt F .f32) (x5 : S4x1x256.Idx → Elt F .f32) (x6 : S32x1024.Idx → Elt F .fp8e4m3) (x7 : S32x1.Idx → Elt F .f32) (x8 : S1x32.Idx → Elt F .f32) (x9 : S1x2x128x17.Idx → Elt F .bf16) (s : St F) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.x10 ∗ owns (c : Thread nD τ) arg11 fullShare s.x11 ∗ owns (c : Thread nD τ) arg12 fullShare s.x12 ∗ owns (c : Thread nD τ) arg13 fullShare s.x13 ∗ owns (c : Thread nD τ) arg14 fullShare s.x14 ∗ owns (c : Thread nD τ) arg15 fullShare s.x15 ∗ owns (c : Thread nD τ) arg16 fullShare s.x16) : sProp 𝕄G)
    ⊢ wp frame (wpE (defs₀ (F := F)) Variants.none (c : Thread nD τ) none) Set.univ (cc0_es_pairs (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (restOut (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)) ∗ owns (c : Thread nD τ) arg10 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x10 ∗ owns (c : Thread nD τ) arg11 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x11 ∗ owns (c : Thread nD τ) arg12 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x12 ∗ owns (c : Thread nD τ) arg13 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x13 ∗ owns (c : Thread nD τ) arg14 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x14 ∗ owns (c : Thread nD τ) arg15 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x15 ∗ owns (c : Thread nD τ) arg16 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x16)) := by
  rw [cc0_eq, wp_bind]
  iintro ⟨H1, H2, H3, H4, H5, H6, H7, H8, H9, H10, H11, H12, H13, H14, H15, H16⟩
  iapply wp_wand_r
  isplitl [H3 H4 H6 H7 H10 H11 H12 H13 H14 H15 H16]
  · have key : (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare s.x10 ∗ owns (c : Thread nD τ) arg11 fullShare s.x11 ∗ owns (c : Thread nD τ) arg12 fullShare s.x12 ∗ owns (c : Thread nD τ) arg13 fullShare s.x13 ∗ owns (c : Thread nD τ) arg14 fullShare s.x14 ∗ owns (c : Thread nD τ) arg15 fullShare s.x15 ∗ owns (c : Thread nD τ) arg16 fullShare s.x16) : sProp 𝕄G)
        ⊢ wp frame (wpE (defs₀ (F := F)) Variants.none (c : Thread nD τ) none) Set.univ
          (if h : k0_cond1 i = 1#1 then k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩)
          (fun _ => iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x10 ∗ owns (c : Thread nD τ) arg11 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x11 ∗ owns (c : Thread nD τ) arg12 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x12 ∗ owns (c : Thread nD τ) arg13 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x13 ∗ owns (c : Thread nD τ) arg14 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x14 ∗ owns (c : Thread nD τ) arg15 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x15 ∗ owns (c : Thread nD τ) arg16 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x16)) := by
      unfold preSt
      split
      · exact init_owns (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x3 x4 x6 x7 s.x10 s.x11 s.x12 s.x13 s.x14 s.x15 s.x16
      · rw [wp_pure]
        iintro H
        imodintro
        iexact H
    iapply key
    isplitl [H3]; · iexact H3
    isplitl [H4]; · iexact H4
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    iexact H16
  iintro %u ⟨H3, H4, H6, H7, H10, H11, H12, H13, H14, H15, H16⟩
  iapply wp_wand_r
  isplitl [H1 H2 H5 H8 H9 H10 H11 H12 H13 H14 H15 H16]
  · iapply (rest_owns (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s) x9)
    isplitl [H1]; · iexact H1
    isplitl [H2]; · iexact H2
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %u' ⟨H1, H2, H5, H8, H9, H10, H11, H12, H13, H14, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.KernelIdeal
-- ==== Proof.Run.lean ====
module

public import proofs.«01_k».proof.Proof.Gen.KernelIdeal.Frame
public import proofs.«01_k».proof.Proof.BodyRun

@[expose] public section

set_option maxRecDepth 8192
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Gen
open Idealize.ShloMosaic.Rounds
open Idealize.ShloMosaic.Pipeline (Dat Cfg Window BodyObligation cellOf)

attribute [local irreducible] restSt restOut initSt

variable (m : (ℓ : Loc nD τ sig) → Buf (Elt F) ℓ) (ρ : Dev nD → PrngReg)

/-- The state that point `t`'s body meets after its first step, from the state that it finds. -/
def mid (c : Dev nD) (t : Fin cfg0.N) (s : St F) : St F :=
  preSt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 2 t) (iblk m c 3 t) (iblk m c 5 t) (iblk m c 6 t) s

/-- The state that point `t`'s body leaves. -/
def next (c : Dev nD) (t : Fin cfg0.N) (s : St F) : St F :=
  restSt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 4 t) (iblk m c 7 t) (mid m c t s)

/-- The block that point `t`'s body writes. -/
def outAt (c : Dev nD) (t : Fin cfg0.N) (s : St F) : S1x2x128x17.Idx → Elt F .bf16 :=
  restOut (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 4 t) (iblk m c 7 t) (mid m c t s)

/-- The state after the first `n` points of the grid. -/
def stAt (c : Dev nD) : ℕ → St F
  | 0 => ⟨View.canon [], View.canon [], View.canon [], View.canon [], View.canon [], View.canon [], View.canon []⟩
  | n + 1 => if h : n < cfg0.N then next m c ⟨n, h⟩ (stAt c n) else stAt c n

theorem stAt_succ (c : Dev nD) (t : Fin cfg0.N) : stAt m c (t.val + 1) = next m c t (stAt m c t.val) := by
  rw [stAt.eq_2]; exact dif_pos t.isLt

/-- At the first point the state does not depend on what the buffers held. -/
theorem mid_zero (c : Dev nD) (t : Fin cfg0.N) (ht : t.val = 0) (s s' : St F) : mid m c t s = mid m c t s' := by
  obtain ⟨t, h⟩ := t
  subst ht
  have hc : k0_cond1 (grid0.coords ⟨0, h⟩) = 1#1 := by decide +kernel +revert
  unfold mid preSt
  rw [dif_pos hc, dif_pos hc]

/-- The scratch buffers at the state `s`. -/
def scr (c : Dev nD) (s : St F) : sProp 𝕄G :=
  iprop(owns (c : Thread nD τ) (Memref.whole cc0_scratch0) fullShare s.x10 ∗ owns (c : Thread nD τ) (Memref.whole cc0_scratch1) fullShare s.x11 ∗ owns (c : Thread nD τ) (Memref.whole cc0_scratch2) fullShare s.x12 ∗ owns (c : Thread nD τ) (Memref.whole cc0_scratch3) fullShare s.x13 ∗ owns (c : Thread nD τ) (Memref.whole cc0_scratch4) fullShare s.x14 ∗ owns (c : Thread nD τ) (Memref.whole cc0_scratch5) fullShare s.x15 ∗ owns (c : Thread nD τ) (Memref.whole cc0_scratch6) fullShare s.x16)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t (stAt m c t.val)
  Φ p := if p.val = 0 then Pipeline.ΦA spec0 c else iprop(scr c (stAt m c p.val) ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t (stAt m c t.val) := by dsimp only [dats]

/-- Some state of the scratch buffers, and the generator's register: what every point finds. -/
theorem phi_pre (c : Dev nD) (t : Fin cfg0.N) :
    (dats m 0 c).Φ t.castSucc ⊢ (iprop(∃ s : St F, ⌜mid m c t s = mid m c t (stAt m c t.val)⌝ ∗ scr c s ∗ ∃ r, prngReg c r) : sProp 𝕄G) := by
  show (if t.castSucc.val = 0 then Pipeline.ΦA spec0 c else iprop(scr c (stAt m c t.castSucc.val) ∗ ∃ r, prngReg c r)) ⊢ _
  split
  · rename_i h0
    unfold Pipeline.ΦA
    rw [scopedRest0_eq]
    iintro ⟨⟨⟨%f0, H0⟩, ⟨%f1, H1⟩, ⟨%f2, H2⟩, ⟨%f3, H3⟩, ⟨%f4, H4⟩, ⟨%f5, H5⟩, ⟨%f6, H6⟩⟩, Hg⟩
    iexists (⟨f0, f1, f2, f3, f4, f5, f6⟩ : St F)
    isplitr
    · ipureintro; exact mid_zero m c t h0 _ _
    isplitr [Hg]
    swap; · iexact Hg
    unfold scr
    simp only [owns_whole]
    isplitl [H0]; · iexact H0
    isplitl [H1]; · iexact H1
    isplitl [H2]; · iexact H2
    isplitl [H3]; · iexact H3
    isplitl [H4]; · iexact H4
    isplitl [H5]; · iexact H5
    iexact H6
  · iintro ⟨H, Hg⟩
    iexists _
    isplitr
    · ipureintro; rfl
    isplitr [Hg]
    swap; · iexact Hg
    iexact H

theorem phi_post (c : Dev nD) (t : Fin cfg0.N) :
    (iprop(scr c (stAt m c (t.val + 1)) ∗ ∃ r, prngReg c r) : sProp 𝕄G) ⊢ (dats m 0 c).Φ t.succ := by
  show _ ⊢ (if t.succ.val = 0 then Pipeline.ΦA spec0 c else iprop(scr c (stAt m c t.succ.val) ∗ ∃ r, prngReg c r))
  rw [if_neg (by simp)]
  exact .rfl

theorem phi_in (c : Dev nD) : Pipeline.ΦA spec0 c ⊢ (dats m 0 c).Φ 0 := by
  show _ ⊢ (if (0 : Fin (cfg0.N + 1)).val = 0 then Pipeline.ΦA spec0 c else iprop(scr c (stAt m c (0 : Fin (cfg0.N + 1)).val) ∗ ∃ r, prngReg c r))
  split
  · exact .rfl
  · rename_i h; exact absurd rfl h

theorem phi_out (c : Dev nD) : (dats m 0 c).Φ (Fin.last cfg0.N) ⊢ Pipeline.ΦA spec0 c := by
  show (if (Fin.last cfg0.N).val = 0 then Pipeline.ΦA spec0 c else iprop(scr c (stAt m c (Fin.last cfg0.N).val) ∗ ∃ r, prngReg c r)) ⊢ _
  split
  · exact .rfl
  · unfold Pipeline.ΦA scr
    rw [scopedRest0_eq]
    simp only [owns_whole]
    iintro ⟨⟨H0, H1, H2, H3, H4, H5, H6⟩, Hg⟩
    isplitr [Hg]
    swap; · iexact Hg
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl]
  rw [after0_0, after0_1, after0_2, after0_3, after0_4, after0_5, after0_6, after0_7, after0_8]
  simp only [before0_0_of m (dats m 0 c) (A_eq m c 0) (after0_0 m c), before0_1_of m (dats m 0 c) (A_eq m c 1) (after0_1 m c), before0_2_of m (dats m 0 c) (A_eq m c 2) (after0_2 m c), before0_3_of m (dats m 0 c) (A_eq m c 3) (after0_3 m c), before0_4_of m (dats m 0 c) (A_eq m c 4) (after0_4 m c), before0_5_of m (dats m 0 c) (A_eq m c 5) (after0_5 m c), before0_6_of m (dats m 0 c) (A_eq m c 6) (after0_6 m c), before0_7_of m (dats m 0 c) (A_eq m c 7) (after0_7 m c)]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HP := (phi_pre m c t) $$ HP
  icases HP with ⟨%s, %hs, HS, Hg⟩
  unfold scr
  icases HS with ⟨S0, S1, S2, S3, S4, S5, S6⟩
  iapply wp_wand_r
  isplitl [H0 H1 H2 H3 H4 H5 H6 H7 H8 S0 S1 S2 S3 S4 S5 S6]
  · iapply (body_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) _ s)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    iexact S6
  rw [show preSt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 2 t) (iblk m c 3 t) (iblk m c 5 t) (iblk m c 6 t) s = mid m c t (stAt m c t.val) from hs]
  iintro %u ⟨H0, H1, H2, H3, H4, H5, H6, H7, H8, S0, S1, S2, S3, S4, S5, S6⟩
  isplitl [S0 S1 S2 S3 S4 S5 S6 Hg]
  · iapply (phi_post m c t)
    rw [stAt_succ]
    isplitr [Hg]
    swap; · iexact Hg
    unfold scr next
    isplitl [S0]; · iexact S0
    isplitl [S1]; · iexact S1
    isplitl [S2]; · iexact S2
    isplitl [S3]; · iexact S3
    isplitl [S4]; · iexact S4
    isplitl [S5]; · iexact S5
    iexact S6
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold outAt
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- Every run ends, at quiescence, with the arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.KernelIdeal
-- ==== Proof.OffsetsB.lean ====
module

public import proofs.«01_k».proof.Proof.Gen.Kernel.Frame

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! The rectangle offsets that the body computes from the step and the trip, in closed form. -/
theorem k0_off1_eq' : ∀ (k : Fin k0_t1_loop.trips), k0_off1 k = ![k.val / 12, (k.val % 12) * 32, 0] := by decide +kernel
instance (k : Fin k0_t1_loop.trips) : ClosedOff (k0_off1 k) := ⟨_, k0_off1_eq' k⟩
theorem k0_off2_eq' : ∀ (k : Fin k0_t1_loop.trips), k0_off2 k = ![k.val / 12, 0, 0] := by decide +kernel
instance (k : Fin k0_t1_loop.trips) : ClosedOff (k0_off2 k) := ⟨_, k0_off2_eq' k⟩
theorem k0_off3_eq' : ∀ (k : Fin k0_t2_loop.trips), k0_off3 k = ![(2 * k.val + 3) % 4, 0, 0] := by decide +kernel
instance (k : Fin k0_t2_loop.trips) : ClosedOff (k0_off3 k) := ⟨_, k0_off3_eq' k⟩
theorem k0_off4_eq' : ∀ (i : grid0.Coords) (k : Fin k0_t2_loop.trips), k0_off4 i k = ![((i 0).val + 1 + k.val) % 2, 0, (2 * k.val + 3) % 4, 0, 0] := by decide +kernel
instance (i : grid0.Coords) (k : Fin k0_t2_loop.trips) : ClosedOff (k0_off4 i k) := ⟨_, k0_off4_eq' i k⟩
theorem k0_off5_eq' : ∀ (i : grid0.Coords) (k : Fin k0_t2_loop.trips), k0_off5 i k = ![((i 0).val + 1 + k.val) % 2, 1, (2 * k.val + 3) % 4, 0, 0] := by decide +kernel
instance (i : grid0.Coords) (k : Fin k0_t2_loop.trips) : ClosedOff (k0_off5 i k) := ⟨_, k0_off5_eq' i k⟩
theorem k0_off55_eq' : ∀ (i : grid0.Coords) (k : Fin k0_t2_loop.trips), k0_off55 i k = ![(i 0).val % 2, 0, 2 * k.val, 0, 0] := by decide +kernel
instance (i : grid0.Coords) (k : Fin k0_t2_loop.trips) : ClosedOff (k0_off55 i k) := ⟨_, k0_off55_eq' i k⟩
theorem k0_off56_eq' : ∀ (i : grid0.Coords) (k : Fin k0_t2_loop.trips), k0_off56 i k = ![(i 0).val % 2, 1, 2 * k.val, 0, 0] := by decide +kernel
instance (i : grid0.Coords) (k : Fin k0_t2_loop.trips) : ClosedOff (k0_off56 i k) := ⟨_, k0_off56_eq' i k⟩
theorem k0_off105_eq' : ∀ (i : grid0.Coords), k0_off105 i = ![((i 0).val + 1) % 2, 0, 0, 0, 0] := by decide +kernel
instance (i : grid0.Coords) : ClosedOff (k0_off105 i) := ⟨_, k0_off105_eq' i⟩
theorem k0_off106_eq' : ∀ (i : grid0.Coords), k0_off106 i = ![((i 0).val + 1) % 2, 0, 0, 0, 0] := by decide +kernel
instance (i : grid0.Coords) : ClosedOff (k0_off106 i) := ⟨_, k0_off106_eq' i⟩
theorem k0_off107_eq' : ∀ (i : grid0.Coords), k0_off107 i = ![((i 0).val + 1) % 2, 0, 1, 0, 0] := by decide +kernel
instance (i : grid0.Coords) : ClosedOff (k0_off107 i) := ⟨_, k0_off107_eq' i⟩
theorem k0_off108_eq' : ∀ (i : grid0.Coords), k0_off108 i = ![((i 0).val + 1) % 2, 0, 1, 0, 0] := by decide +kernel
instance (i : grid0.Coords) : ClosedOff (k0_off108 i) := ⟨_, k0_off108_eq' i⟩
theorem k0_off109_eq' : ∀ (i : grid0.Coords), k0_off109 i = ![((i 0).val + 1) % 2, 0, 2, 0, 0] := by decide +kernel
instance (i : grid0.Coords) : ClosedOff (k0_off109 i) := ⟨_, k0_off109_eq' i⟩
theorem k0_off110_eq' : ∀ (i : grid0.Coords), k0_off110 i = ![((i 0).val + 1) % 2, 0, 2, 0, 0] := by decide +kernel
instance (i : grid0.Coords) : ClosedOff (k0_off110 i) := ⟨_, k0_off110_eq' i⟩
theorem k0_off111_eq' : ∀ (i : grid0.Coords), k0_off111 i = ![((i 0).val + 1) % 2, 0, 3, 0, 0] := by decide +kernel
instance (i : grid0.Coords) : ClosedOff (k0_off111 i) := ⟨_, k0_off111_eq' i⟩
theorem k0_off112_eq' : ∀ (i : grid0.Coords), k0_off112 i = ![((i 0).val + 1) % 2, 0, 3, 0, 0] := by decide +kernel
instance (i : grid0.Coords) : ClosedOff (k0_off112 i) := ⟨_, k0_off112_eq' i⟩
theorem k0_off113_eq' : ∀ (i : grid0.Coords), k0_off113 i = ![((i 0).val + 1) % 2, 1, 0, 0, 0] := by decide +kernel
instance (i : grid0.Coords) : ClosedOff (k0_off113 i) := ⟨_, k0_off113_eq' i⟩
theorem k0_off114_eq' : ∀ (i : grid0.Coords), k0_off114 i = ![((i 0).val + 1) % 2, 1, 0, 0, 0] := by decide +kernel
instance (i : grid0.Coords) : ClosedOff (k0_off114 i) := ⟨_, k0_off114_eq' i⟩
theorem k0_off115_eq' : ∀ (i : grid0.Coords), k0_off115 i = ![((i 0).val + 1) % 2, 1, 1, 0, 0] := by decide +kernel
instance (i : grid0.Coords) : ClosedOff (k0_off115 i) := ⟨_, k0_off115_eq' i⟩
theorem k0_off116_eq' : ∀ (i : grid0.Coords), k0_off116 i = ![((i 0).val + 1) % 2, 1, 1, 0, 0] := by decide +kernel
instance (i : grid0.Coords) : ClosedOff (k0_off116 i) := ⟨_, k0_off116_eq' i⟩
theorem k0_off117_eq' : ∀ (i : grid0.Coords), k0_off117 i = ![((i 0).val + 1) % 2, 1, 2, 0, 0] := by decide +kernel
instance (i : grid0.Coords) : ClosedOff (k0_off117 i) := ⟨_, k0_off117_eq' i⟩
theorem k0_off118_eq' : ∀ (i : grid0.Coords), k0_off118 i = ![((i 0).val + 1) % 2, 1, 2, 0, 0] := by decide +kernel
instance (i : grid0.Coords) : ClosedOff (k0_off118 i) := ⟨_, k0_off118_eq' i⟩
theorem k0_off119_eq' : ∀ (i : grid0.Coords), k0_off119 i = ![((i 0).val + 1) % 2, 1, 3, 0, 0] := by decide +kernel
instance (i : grid0.Coords) : ClosedOff (k0_off119 i) := ⟨_, k0_off119_eq' i⟩
theorem k0_off120_eq' : ∀ (i : grid0.Coords), k0_off120 i = ![((i 0).val + 1) % 2, 1, 3, 0, 0] := by decide +kernel
instance (i : grid0.Coords) : ClosedOff (k0_off120 i) := ⟨_, k0_off120_eq' i⟩
theorem k0_off121_eq' : ∀ (i : grid0.Coords), k0_off121 i = ![(i 0).val % 2, 0, 0, 0, 0] := by decide +kernel
instance (i : grid0.Coords) : ClosedOff (k0_off121 i) := ⟨_, k0_off121_eq' i⟩
theorem k0_off122_eq' : ∀ (i : grid0.Coords), k0_off122 i = ![(i 0).val % 2, 1, 0, 0, 0] := by decide +kernel
instance (i : grid0.Coords) : ClosedOff (k0_off122 i) := ⟨_, k0_off122_eq' i⟩
theorem k0_off123_eq' : ∀ (i : grid0.Coords), k0_off123 i = ![(i 0).val % 2, 0, 0, 0, 128] := by decide +kernel
instance (i : grid0.Coords) : ClosedOff (k0_off123 i) := ⟨_, k0_off123_eq' i⟩
theorem k0_off124_eq' : ∀ (i : grid0.Coords), k0_off124 i = ![(i 0).val % 2, 1, 0, 0, 128] := by decide +kernel
instance (i : grid0.Coords) : ClosedOff (k0_off124 i) := ⟨_, k0_off124_eq' i⟩
theorem k0_off125_eq' : ∀ (i : grid0.Coords), k0_off125 i = ![(i 0).val % 2, 0, 1, 0, 0] := by decide +kernel
instance (i : grid0.Coords) : ClosedOff (k0_off125 i) := ⟨_, k0_off125_eq' i⟩
theorem k0_off126_eq' : ∀ (i : grid0.Coords), k0_off126 i = ![(i 0).val % 2, 1, 1, 0, 0] := by decide +kernel
instance (i : grid0.Coords) : ClosedOff (k0_off126 i) := ⟨_, k0_off126_eq' i⟩
theorem k0_off127_eq' : ∀ (i : grid0.Coords), k0_off127 i = ![(i 0).val % 2, 0, 1, 0, 128] := by decide +kernel
instance (i : grid0.Coords) : ClosedOff (k0_off127 i) := ⟨_, k0_off127_eq' i⟩
theorem k0_off128_eq' : ∀ (i : grid0.Coords), k0_off128 i = ![(i 0).val % 2, 1, 1, 0, 128] := by decide +kernel
instance (i : grid0.Coords) : ClosedOff (k0_off128 i) := ⟨_, k0_off128_eq' i⟩
theorem k0_off129_eq' : ∀ (i : grid0.Coords), k0_off129 i = ![(i 0).val % 2, 0, 2, 0, 0] := by decide +kernel
instance (i : grid0.Coords) : ClosedOff (k0_off129 i) := ⟨_, k0_off129_eq' i⟩
theorem k0_off130_eq' : ∀ (i : grid0.Coords), k0_off130 i = ![(i 0).val % 2, 1, 2, 0, 0] := by decide +kernel
instance (i : grid0.Coords) : ClosedOff (k0_off130 i) := ⟨_, k0_off130_eq' i⟩
theorem k0_off131_eq' : ∀ (i : grid0.Coords), k0_off131 i = ![(i 0).val % 2, 0, 2, 0, 128] := by decide +kernel
instance (i : grid0.Coords) : ClosedOff (k0_off131 i) := ⟨_, k0_off131_eq' i⟩
theorem k0_off132_eq' : ∀ (i : grid0.Coords), k0_off132 i = ![(i 0).val % 2, 1, 2, 0, 128] := by decide +kernel
instance (i : grid0.Coords) : ClosedOff (k0_off132 i) := ⟨_, k0_off132_eq' i⟩
theorem k0_off133_eq' : ∀ (i : grid0.Coords), k0_off133 i = ![(i 0).val % 2, 0, 3, 0, 0] := by decide +kernel
instance (i : grid0.Coords) : ClosedOff (k0_off133 i) := ⟨_, k0_off133_eq' i⟩
theorem k0_off134_eq' : ∀ (i : grid0.Coords), k0_off134 i = ![(i 0).val % 2, 1, 3, 0, 0] := by decide +kernel
instance (i : grid0.Coords) : ClosedOff (k0_off134 i) := ⟨_, k0_off134_eq' i⟩
theorem k0_off135_eq' : ∀ (i : grid0.Coords), k0_off135 i = ![(i 0).val % 2, 0, 3, 0, 128] := by decide +kernel
instance (i : grid0.Coords) : ClosedOff (k0_off135 i) := ⟨_, k0_off135_eq' i⟩
theorem k0_off136_eq' : ∀ (i : grid0.Coords), k0_off136 i = ![(i 0).val % 2, 1, 3, 0, 128] := by decide +kernel
instance (i : grid0.Coords) : ClosedOff (k0_off136 i) := ⟨_, k0_off136_eq' i⟩

end Cert.Kernel
-- ==== Proof.TripB.lean ====
module

public import proofs.«01_k».proof.Proof.Gen.Kernel.Frame
public import proofs.«01_k».proof.Proof.Gen.Kernel.Loops
public import proofs.«01_k».proof.Proof.OffsetsB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the two-chunk loop owns: the rows of the observation, the biases and the dequantised weights, read;
    the two weight buffers and the hidden activations, written. -/
abbrev Trip (c : Dev nD) (arg2 : Memref sig .tc .vmem S128x384 .bf16) (arg5 : Memref sig .tc .vmem S4x1x256 .f32) (arg10 : Memref sig .tc .vmem S4x384x256 .f32) (arg13 : Memref sig .tc .vmem S2x384x256 .bf16) (arg14 : Memref sig .tc .vmem S2x384x256 .bf16) (arg16 : Memref sig .tc .vmem S2x2x4x128x256 .bf16)
    (X2 : BufTy.Contents (Elt F) arg2.view.ty) (X5 : BufTy.Contents (Elt F) arg5.view.ty) (X10 : BufTy.Contents (Elt F) arg10.view.ty) (f13 : BufTy.Contents (Elt F) arg13.view.ty) (f14 : BufTy.Contents (Elt F) arg14.view.ty) (f16 : BufTy.Contents (Elt F) arg16.view.ty) : sProp 𝕄G :=
  iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} X10)
    ∗ (arg13.view.loc (c : Thread nD τ) ↦[arg13.view.set]{fullShare} f13) ∗ (arg14.view.loc (c : Thread nD τ) ↦[arg14.view.set]{fullShare} f14) ∗ (arg16.view.loc (c : Thread nD τ) ↦[arg16.view.set]{fullShare} f16))

/-- One trip of the two-chunk loop. -/
def trip (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32)
    (X2 : BufTy.Contents (Elt F) arg2.view.ty) (X5 : BufTy.Contents (Elt F) arg5.view.ty) (X10 : BufTy.Contents (Elt F) arg10.view.ty) (f14 : BufTy.Contents (Elt F) arg14.view.ty) (k : Fin k0_t2_loop.trips) :
    Σ' (L13 : List (View.Piece (Elt F) S2x384x256 .bf16)) (L14 : List (View.Piece (Elt F) S2x384x256 .bf16)),
      { L16 : List (View.Piece (Elt F) S2x2x4x128x256 .bf16) // ∀ (E : Set ℕ) (f13 : BufTy.Contents (Elt F) arg13.view.ty) (f16 : BufTy.Contents (Elt F) arg16.view.ty),
      Trip (F := F) c arg2 arg5 arg10 arg13 arg14 arg16 X2 X5 X10 f13 f14 f16
      ⊢ wp frame (wpE (defs₀ (F := F)) 𝒱 (c : Thread nD τ) bd) E (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 k PUnit.unit)
          (fun _ => Trip (F := F) c arg2 arg5 arg10 arg13 arg14 arg16 X2 X5 X10 (arg13.view.writes (Elt F) f13 L13) (arg14.view.writes (Elt F) f14 L14) (arg16.view.writes (Elt F) f16 L16)) } := by
  have hk : k.val < 2 := Nat.lt_of_lt_of_le k.isLt (by decide)
  refine ⟨?_, ?_, ?_, fun E f13 f16 => ?run⟩
  case run =>
    unfold Gen.k0_t2_body
    iintro ⟨H2, H5, H10, H13, H14, H16⟩
    sl_exec
    sl_step
    sl_close

/-- What a trip leaves of the two weight buffers and the hidden activations, from what it found. -/
@[irreducible] def tripsStep (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (k : ℕ) (s : BufTy.Contents (Elt F) arg13.view.ty × BufTy.Contents (Elt F) arg14.view.ty × BufTy.Contents (Elt F) arg16.view.ty) : BufTy.Contents (Elt F) arg13.view.ty × BufTy.Contents (Elt F) arg14.view.ty × BufTy.Contents (Elt F) arg16.view.ty :=
  if h : k < k0_t2_loop.trips then
    let L := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 s.2.1 ⟨k, h⟩
    (arg13.view.writes (Elt F) s.1 L.1, arg14.view.writes (Elt F) s.2.1 L.2.1, arg16.view.writes (Elt F) s.2.2 L.2.2.1)
  else s

/-- The same before trip `k`. -/
def trips (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (G : BufTy.Contents (Elt F) arg13.view.ty × BufTy.Contents (Elt F) arg14.view.ty × BufTy.Contents (Elt F) arg16.view.ty) : ℕ → BufTy.Contents (Elt F) arg13.view.ty × BufTy.Contents (Elt F) arg14.view.ty × BufTy.Contents (Elt F) arg16.view.ty
  | 0 => G
  | k + 1 => tripsStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 k (trips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k)

theorem trips_succ (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (G : BufTy.Contents (Elt F) arg13.view.ty × BufTy.Contents (Elt F) arg14.view.ty × BufTy.Contents (Elt F) arg16.view.ty) (k : Fin k0_t2_loop.trips) :
    trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G (k.val + 1)
      = (arg13.view.writes (Elt F) (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).1 (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 k).1,
         arg14.view.writes (Elt F) (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 k).2.1,
         arg16.view.writes (Elt F) (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.2 (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G k.val).2.1 k).2.2.1) := by
  rw [trips.eq_2]; unfold tripsStep; exact dif_pos k.isLt

/-- The invariant of the two-chunk loop before trip `k`. -/
abbrev tripsInv (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty)
    (G13 : BufTy.Contents (Elt F) arg13.view.ty) (G14 : BufTy.Contents (Elt F) arg14.view.ty) (G16 : BufTy.Contents (Elt F) arg16.view.ty) (k : ℕ) (_ : Unit) : sProp 𝕄G :=
  iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} X10)
    ∗ (∃ f, (arg13.view.loc (c : Thread nD τ) ↦[arg13.view.set]{fullShare} f) ∗ ⌜f = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k).1⌝)
    ∗ (∃ f, (arg14.view.loc (c : Thread nD τ) ↦[arg14.view.set]{fullShare} f) ∗ ⌜f = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k).2.1⌝)
    ∗ (∃ f, (arg16.view.loc (c : Thread nD τ) ↦[arg16.view.set]{fullShare} f) ∗ ⌜f = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k).2.2⌝))

set_option warn.classDefReducibility false in
/-- The two-chunk loop by its invariant. -/
@[sl_loop] def loopInv_two_chunks (𝒱 : Variants) (c : Dev nD) (bd : Option 𝒱.V) (E : Set ℕ) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty)
    (G13 : BufTy.Contents (Elt F) arg13.view.ty) (G14 : BufTy.Contents (Elt F) arg14.view.ty) (G16 : BufTy.Contents (Elt F) arg16.view.ty) :
    Gen.LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 where
  inv := tripsInv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 G13 G14 G16
  step k acc := by
    iintro ⟨H2, H5, H10, ⟨%f13, H13, %h13⟩, ⟨%f14, H14, %h14⟩, ⟨%f16, H16, %h16⟩⟩
    iapply (wp_wand_r Idealize.ShloMosaic.frame (wpE (defs₀ (F := F)) 𝒱 (c : Thread nD τ) bd) E)
    isplitl [H2 H5 H10 H13 H14 H16]
    · rw [h14]
      iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 (G13, G14, G16) k.val).2.1 k).2.2.2 E f13 f16)
      isplitl [H2]; · iexact H2
      isplitl [H5]; · iexact H5
      isplitl [H10]; · iexact H10
      isplitl [H13]; · iexact H13
      isplitl [H14]; · iexact H14
      iexact H16
    · iintro %_ ⟨H2, H5, H10, H13, H14, H16⟩
      isplitl [H2]; · iexact H2
      isplitl [H5]; · iexact H5
      isplitl [H10]; · iexact H10
      rw [trips_succ]
      isplitl [H13]
      · iexists _; isplitl [H13]; · iexact H13
        ipureintro; rw [h13]
      isplitl [H14]
      · iexists _; isplitl [H14]; · iexact H14
        ipureintro; rfl
      iexists _; isplitl [H16]; · iexact H16
      ipureintro; rw [h16]

end Cert.Kernel
-- ==== Proof.BodyB.lean ====
module

public import proofs.«01_k».proof.Proof.Gen.Kernel.Frame
public import proofs.«01_k».proof.Proof.TripB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen

/-- The body's first step alone: the weights dequantised, the counters of the second layer, and the buffers cleared. -/
def k0_init (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (k0_h1 : k0_cond1 i = 1#1) :
    Prog (TpuEff nD τ sig (Elt F) Λ₀ .tc) PUnit := do
  let v799 : FVec F S2x2x4x32x256 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1
  let v800 : Vec F S2x2x4x32x256 .bf16 ← Prog.lift (.load arg15 (Rect.unit (s := S2x2x4x32x256) ![0, 0, 0, 0, 0] S2x2x4x32x256.size inb_S2x2x4x32x256_S2x2x4x32x256_0_0_0_0_0).toLoadRect (View.loadsAt_vmem h_S2x2x4x32x256))
  Prog.lift (.store arg15 (Rect.unit (s := S2x2x4x32x256) ![0, 0, 0, 0, 0] S2x2x4x32x256.size inb_S2x2x4x32x256_S2x2x4x32x256_0_0_0_0_0) (k0_pay767 v799) Finset.univ (View.stores_vmem h_S2x2x4x32x256 (harg15.storeExact_slice rfl _ packedbf16_S2x2x4x32x256_S2x2x4x32x256_0_0_0_0_0) (fun _ => rfl)) (.inl rfl))
  let v804 : Vec F S2x2x4x128x256 .bf16 ← Prog.lift (.load arg16 (Rect.unit (s := S2x2x4x128x256) ![0, 0, 0, 0, 0] S2x2x4x128x256.size inb_S2x2x4x128x256_S2x2x4x128x256_0_0_0_0_0).toLoadRect (View.loadsAt_vmem h_S2x2x4x128x256))
  Prog.lift (.store arg16 (Rect.unit (s := S2x2x4x128x256) ![0, 0, 0, 0, 0] S2x2x4x128x256.size inb_S2x2x4x128x256_S2x2x4x128x256_0_0_0_0_0) (k0_pay768 (F := F)) Finset.univ (View.stores_vmem h_S2x2x4x128x256 (harg16.storeExact_slice rfl _ packedbf16_S2x2x4x128x256_S2x2x4x128x256_0_0_0_0_0) (fun _ => rfl)) (.inl rfl))
  pure ⟨⟩

/-- The body after its first step. -/
def k0_rest (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) :
    Prog (TpuEff nD τ sig (Elt F) Λ₀ .tc) PUnit := do
  let arg0 : BitVec 32 := BitVec.ofNat 32 (i 0).val
  have v0 : IVec S16x128 32 := iota .tc S16x128 32 [0] iota_S16x128_d0_w32
  have v1 : IVec S16x128 32 := iota .tc S16x128 32 [1] iota_S16x128_d1_w32
  let v5 : Elt F .i32 ← smemLoad arg1 (Rect.unit (s := S1) ![0] S1.size inb_S1_S1_0) numel1_S1 rfl
  let v6 : BitVec 1 := Scalar.cmpi .eq 2#32 0#32
  let v7 : BitVec 32 := Scalar.select v6 1#32 2#32
  let v8 : BitVec 32 := Scalar.remsi arg0 v7
  let v9 : BitVec 1 := Scalar.cmpi .ne v8 0#32
  let v10 : BitVec 1 := Scalar.cmpi .slt v8 0#32
  let v11 : BitVec 1 := Scalar.cmpi .slt v7 0#32
  let v12 : BitVec 1 := Scalar.xori v10 v11
  let v13 : BitVec 1 := Scalar.andi v12 v9
  let v14 : BitVec 32 := Scalar.addi v8 v7
  let v15 : BitVec 32 := Scalar.select v13 v14 v8
  let v16 : BitVec 32 := Scalar.xori v5 arg0
  let v17 : BitVec 32 := Scalar.shrui v16 16#32
  let v18 : BitVec 32 := Scalar.xori v16 v17
  let v19 : BitVec 32 := Scalar.muli v18 2246822507#32
  let v20 : BitVec 32 := Scalar.shrui v19 13#32
  let v21 : BitVec 32 := Scalar.xori v19 v20
  let v22 : BitVec 32 := Scalar.muli v21 3266489909#32
  let v23 : BitVec 32 := Scalar.shrui v22 16#32
  let v24 : BitVec 32 := Scalar.xori v22 v23
  let v25 : BitVec 32 := Scalar.xori v24 0#32
  let v26 : BitVec 32 := Scalar.shrui v25 16#32
  let v27 : BitVec 32 := Scalar.xori v25 v26
  let v28 : BitVec 32 := Scalar.muli v27 2246822507#32
  let v29 : BitVec 32 := Scalar.shrui v28 13#32
  let v30 : BitVec 32 := Scalar.xori v28 v29
  let v31 : BitVec 32 := Scalar.muli v30 3266489909#32
  let v32 : BitVec 32 := Scalar.shrui v31 16#32
  let v33 : BitVec 32 := Scalar.xori v31 v32
  let v34 : BitVec 32 := Scalar.shrui v33 16#32
  let v35 : BitVec 32 := Scalar.xori v33 v34
  let ⟨v57, v61, c1_i32_43⟩ : Σ' (v57 : FVec F S128x32 .f32) (v61 : FVec F S128x256 .bf16), BitVec 32 ← k0_part178 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 2246822507#32
  let ⟨v88, v92⟩ : Σ' (v88 : FVec F S128x32 .f32), FVec F S128x256 .bf16 ← k0_part179 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v57 v61 c1_i32_43
  let v118 : FVec F S128x32 .f32 ← k0_part180 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v88 v92
  let ⟨v154, v155⟩ : Σ' (v154 : BitVec 32), BitVec 32 ← k0_part181 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v5 v15 v118
  let ⟨v158, v161, v178, v193, v196⟩ : Σ' (v158 : BitVec 32) (v161 : BitVec 32) (v178 : IVec S24x128 32) (v193 : FVec F S24x128 .f32), FVec F S24x128 .f32 ← k0_part182 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v154 v155
  let v233 : FVec F S32x128 .bf16 ← k0_part183 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v178 v193 v196
  let ⟨v273, v279⟩ : Σ' (v273 : FVec F S24x128 .f32), FVec F S24x128 .f32 ← k0_part184 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v158 v161 v233
  let ⟨v316, v317⟩ : Σ' (v316 : IVec S24x128 32), IVec S24x128 32 ← k0_part185 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v273 v279
  let ⟨v349, v358, v359, v361, cst_211⟩ : Σ' (v349 : FVec F S24x128 .f32) (v358 : FVec F S24x128 .f32) (v359 : FVec F S24x128 .f32) (v361 : FVec F S24x128 .f32), F .f32 ← k0_part186 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v161 v316 v317
  let ⟨v396, v399, v400⟩ : Σ' (v396 : IVec S24x128 32) (v399 : IVec S24x128 32), IVec S24x128 32 ← k0_part187 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v349 v358 v359 v361 cst_211
  let ⟨v425, v443, v444, cst_245⟩ : Σ' (v425 : FVec F S24x128 .f32) (v443 : FVec F S24x128 .f32) (v444 : FVec F S24x128 .f32), F .f32 ← k0_part188 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v396 v399 v400
  let ⟨v477, v482, c8_i32_264⟩ : Σ' (v477 : IVec S24x128 32) (v482 : IVec S24x128 32), BitVec 32 ← k0_part189 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v425 v443 v444 cst_245
  let ⟨v526, v527⟩ : Σ' (v526 : FVec F S24x128 .f32), FVec F S24x128 .f32 ← k0_part190 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v477 v482 c8_i32_264
  let ⟨v558, v565⟩ : Σ' (v558 : IVec S24x128 32), IVec S24x128 32 ← k0_part191 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v526 v527
  let ⟨v603, v606⟩ : Σ' (v603 : FVec F S24x128 .f32), FVec F S32x128 .bf16 ← k0_part192 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v558 v565
  let ⟨v634, v647, cst_333⟩ : Σ' (v634 : IVec S24x128 32) (v647 : FVec F S24x128 .f32), F .f32 ← k0_part193 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v158 v161 v603 v606
  let v689 : FVec F S32x128 .bf16 ← k0_part194 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v634 v647 cst_333
  let ⟨v710, v729, v730⟩ : Σ' (v710 : IVec S24x128 32) (v729 : FVec F S24x128 .f32), IVec S24x128 32 ← k0_part195 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v158 v161 v689
  let v753 : Vec F S24x128 .f32 ← Prog.lift (.load arg11 (Rect.unit (s := S32x1024) ![0, 896] S24x128.size inb_S32x1024_S24x128_0_896).toLoadRect (View.loadsAt_vmem h_S24x128))
  let v760 : Vec F S1x1x1x32x128 .bf16 ← Prog.lift (.load arg15 (Rect.unit (s := S2x2x4x32x256) (k0_off135 i) S1x1x1x32x128.size (k0_off135_inb i)).toLoadRect (View.loadsAt_vmem h_S1x1x1x32x128))
  Prog.lift (.store arg15 (Rect.unit (s := S2x2x4x32x256) (k0_off135 i) S1x1x1x32x128.size (k0_off135_inb i)) (k0_pay1 (k0_pay842 v710 v729 v730 v753)) Finset.univ (View.stores_vmem h_S1x1x1x32x128 (harg15.storeExact_slice rfl _ (k0_off135_packedbf16 i)) (fun _ => rfl)) (.inl rfl))
  let v767 : Vec F S1x1x1x32x128 .bf16 ← Prog.lift (.load arg15 (Rect.unit (s := S2x2x4x32x256) (k0_off136 i) S1x1x1x32x128.size (k0_off136_inb i)).toLoadRect (View.loadsAt_vmem h_S1x1x1x32x128))
  Prog.lift (.store arg15 (Rect.unit (s := S2x2x4x32x256) (k0_off136 i) S1x1x1x32x128.size (k0_off136_inb i)) (k0_pay2 (k0_pay841 v710 v729 v730 v753)) Finset.univ (View.stores_vmem h_S1x1x1x32x128 (harg15.storeExact_slice rfl _ (k0_off136_packedbf16 i)) (fun _ => rfl)) (.inl rfl))
  pure ⟨⟩

/-- The body is its first step, on the grid's first point, then the rest. -/
theorem cc0_eq (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) :
    cc0_es_pairs (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      = (if h : k0_cond1 i = 1#1 then k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) >>= fun _ => k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 := by
  rw [cc0_es_pairs_eq_skeleton]
  unfold cc0_es_pairs_skel
  rw [k0_part196_eq_skeleton]
  unfold k0_part196_skel
  rw [k0_part177_eq_skeleton]
  unfold k0_part177_skel k0_rest k0_init
  split <;> simp only [bind_assoc, pure_bind]

/-- What the rest of the body reads, at its contents, and what it writes, at any. -/
abbrev Rest (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt F) arg1.view.ty) (X2 : BufTy.Contents (Elt F) arg2.view.ty) (X5 : BufTy.Contents (Elt F) arg5.view.ty) (X8 : BufTy.Contents (Elt F) arg8.view.ty) (X10 : BufTy.Contents (Elt F) arg10.view.ty) (X11 : BufTy.Contents (Elt F) arg11.view.ty) (X12 : BufTy.Contents (Elt F) arg12.view.ty) (f9 : BufTy.Contents (Elt F) arg9.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄G :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg9.view.loc (c : Thread nD τ) ↦[arg9.view.set]{fullShare} f9) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 40000000 in
/-- The rest of the body at one point of the grid. -/
def rest (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt F) arg1.view.ty) (X2 : BufTy.Contents (Elt F) arg2.view.ty) (X5 : BufTy.Contents (Elt F) arg5.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L9 : List (View.Piece (Elt F) S1x2x128x17 .bf16)) (R13 : BufTy.Contents (Elt F) arg13.view.ty) (R14 : BufTy.Contents (Elt F) arg14.view.ty) (L15 : List (View.Piece (Elt F) S2x2x4x32x256 .bf16)),
      { R16 : BufTy.Contents (Elt F) arg16.view.ty // ∀ (f9 : BufTy.Contents (Elt F) arg9.view.ty),
      Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 f9 X13 X14 X15 X16
      ⊢ wp frame (wpE (defs₀ (F := F)) Variants.none (c : Thread nD τ) none) Set.univ (k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 (arg9.view.writes (Elt F) f9 L9) R13 R14 (arg15.view.writes (Elt F) X15 L15) R16) } := by
  refine ⟨?_, ?_, ?_, ?_, ?_, fun f9 => ?run⟩
  case run =>
    unfold k0_rest
    iintro ⟨H1, H2, H5, H8, H10, H11, H12, H9, H13, H14, H15, H16⟩
    sl_exec
    sl_step
    sl_close

end Cert.Kernel
-- ==== Proof.InitB.lean ====
module

public import proofs.«01_k».proof.Proof.Gen.Kernel.Frame
public import proofs.«01_k».proof.Proof.BodyB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen

/-- What the first step reads, at its contents, and what it writes, at any. -/
abbrev Init (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X3 : BufTy.Contents (Elt F) arg3.view.ty) (X4 : BufTy.Contents (Elt F) arg4.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄G :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 40000000 in
/-- The first step of the body. -/
def init (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (k0_h1 : k0_cond1 i = 1#1) (X3 : BufTy.Contents (Elt F) arg3.view.ty) (X4 : BufTy.Contents (Elt F) arg4.view.ty) (X6 : BufTy.Contents (Elt F) arg6.view.ty) (X7 : BufTy.Contents (Elt F) arg7.view.ty) :
    Σ' (L10 : List (View.Piece (Elt F) S4x384x256 .f32)) (L11 : List (View.Piece (Elt F) S32x1024 .f32)) (L12 : List (View.Piece (Elt F) S24x1024 .i32)) (L13 : List (View.Piece (Elt F) S2x384x256 .bf16)) (L14 : List (View.Piece (Elt F) S2x384x256 .bf16)) (L15 : List (View.Piece (Elt F) S2x2x4x32x256 .bf16)),
      { L16 : List (View.Piece (Elt F) S2x2x4x128x256 .bf16) // ∀ (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 X7 f10 f11 f12 f13 f14 f15 f16
      ⊢ wp frame (wpE (defs₀ (F := F)) Variants.none (c : Thread nD τ) none) Set.univ (k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1)
          (fun _ => Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 X7 (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16)) } := by
  refine ⟨?_, ?_, ?_, ?_, ?_, ?_, ?_, fun f10 f11 f12 f13 f14 f15 f16 => ?run⟩
  case run =>
    unfold k0_init
    iintro ⟨H3, H4, H6, H7, H10, H11, H12, H13, H14, H15, H16⟩
    sl_exec
    sl_step
    sl_close

/-- One trip of the dequantising loop writes 32 rows. -/
theorem tripL_eq (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (k0_h1 : k0_cond1 i = 1#1) (X3 : BufTy.Contents (Elt F) arg3.view.ty) (X4 : BufTy.Contents (Elt F) arg4.view.ty) (k : Fin k0_t1_loop.trips) :
    Gen.tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 k
      = [⟨Rect.unit (s := S4x384x256) (k0_off1 k) S1x32x256.size (k0_off1_inb i k k0_h1),
          k0_pay4 (k0_pay3 (arg3.view.readAt (Elt F) (Rect.unit (s := S4x384x256) (k0_off1 k) S1x32x256.size (k0_off1_inb i k k0_h1)).toLoadRect X3)
            (arg4.view.readAt (Elt F) (Rect.unit (s := S4x1x256) (k0_off2 k) S1x1x256.size (k0_off2_inb i k k0_h1)).toLoadRect X4))⟩] := by
  unfold Gen.tripL_k0_t1
  with_unfolding_all rfl

end Cert.Kernel
-- ==== Proof.StateB.lean ====
module

public import proofs.«01_k».proof.Proof.Gen.Kernel.Frame
public import proofs.«01_k».proof.Proof.InitB
public import proofs.«01_k».proof.Proof.OffsetsB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen

/-- What the scratch buffers hold. -/
structure St (F : FTy → Type) where
  x10 : S4x384x256.Idx → Elt F .f32
  x11 : S32x1024.Idx → Elt F .f32
  x12 : S24x1024.Idx → Elt F .i32
  x13 : S2x384x256.Idx → Elt F .bf16
  x14 : S2x384x256.Idx → Elt F .bf16
  x15 : S2x2x4x32x256.Idx → Elt F .bf16
  x16 : S2x2x4x128x256.Idx → Elt F .bf16

/-- The state that the first step leaves. -/
def initSt (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) : St F where
  x10 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1
  x11 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1
  x12 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1
  x13 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1
  x14 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1
  x15 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1
  x16 := View.canon (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1

/-- The state that the rest of the body leaves. -/
def restSt (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) : St F where
  x10 := s.x10
  x11 := s.x11
  x12 := s.x12
  x13 := arg13.view.read (Elt F) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.1
  x14 := arg14.view.read (Elt F) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.1
  x15 := arg15.view.read (Elt F) (arg15.view.writes (Elt F) (harg15.unread s.x15) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.1)
  x16 := arg16.view.read (Elt F) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.2.1

/-- The block that the rest of the body writes to the output. -/
def restOut (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) : S1x2x128x17.Idx → Elt F .bf16 :=
  View.canon (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1

/-- The dequantising loop's pieces, trip by trip, cover the rows done so far. -/
theorem pb_cover (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (X3 : BufTy.Contents (Elt F) arg3.view.ty) (X4 : BufTy.Contents (Elt F) arg4.view.ty)
    (n : ℕ) (hn : n ≤ 48) (y : S4x384x256.Idx) (hy : (y 0).val * 12 + (y 1).val / 32 < n) :
    ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h X3 X4 n, y ∈ p.1.set := by
  induction n with
  | zero => omega
  | succ n ih =>
    have h48 : k0_t1_loop.trips = 48 := rfl
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h X3 X4 ⟨n, by omega⟩
    simp only at e
    rw [e, tripL_eq]
    by_cases hlt : (y 0).val * 12 + (y 1).val / 32 < n
    · obtain ⟨p, hp, hm⟩ := ih (by omega) hlt
      exact ⟨p, List.mem_append_right _ hp, hm⟩
    · refine ⟨_, List.mem_append_left _ (List.mem_singleton.mpr rfl), ?_⟩
      have hy0 : (y 0).val < 4 := (y 0).isLt
      have hy1 : (y 1).val < 384 := (y 1).isLt
      have hy2 : (y 2).val < 256 := (y 2).isLt
      refine (LoadRect.mem_set _).mpr ?_
      intro a
      have ho : (k0_off1 ⟨n, by omega⟩ : Fin 3 → ℕ) = ![n / 12, (n % 12) * 32, 0] := k0_off1_eq' _
      fin_cases a
      · refine ⟨0, by show 0 < 1; omega, ?_⟩
        show (y 0).val = (k0_off1 ⟨n, by omega⟩ : Fin 3 → ℕ) 0 + 1 * 0
        rw [ho]; show (y 0).val = n / 12 + 1 * 0; omega
      · refine ⟨(y 1).val % 32, by show (y 1).val % 32 < 32; omega, ?_⟩
        show (y 1).val = (k0_off1 ⟨n, by omega⟩ : Fin 3 → ℕ) 1 + 1 * ((y 1).val % 32)
        rw [ho]; show (y 1).val = (n % 12) * 32 + 1 * ((y 1).val % 32); omega
      · refine ⟨(y 2).val, by show (y 2).val < 256; omega, ?_⟩
        show (y 2).val = (k0_off1 ⟨n, by omega⟩ : Fin 3 → ℕ) 2 + 1 * (y 2).val
        rw [ho]; show (y 2).val = 0 + 1 * (y 2).val; omega

theorem cover10 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (y : S4x384x256.Idx) :
    ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1, y ∈ p.1.set :=
  pb_cover (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h _ _ 48 (le_refl _) y (by
    have hy0 : (y 0).val < 4 := (y 0).isLt
    have hy1 : (y 1).val < 384 := (y 1).isLt
    omega)

theorem cover11 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1, y ∈ p.1.set :=
  View.cover_of_tiled _ ![32,1024] (by sl_kernel_rfl)

theorem cover12 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1, y ∈ p.1.set :=
  View.cover_of_tiled _ ![24,1024] (by sl_kernel_rfl)

theorem cover13 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1, y ∈ p.1.set :=
  View.cover_of_tiled _ ![2,384,256] (by sl_kernel_rfl)

theorem cover14 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1, y ∈ p.1.set :=
  View.cover_of_tiled _ ![2,384,256] (by sl_kernel_rfl)

theorem cover15 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1, y ∈ p.1.set :=
  View.cover_of_tiled _ ![2,2,4,32,256] (by sl_kernel_rfl)

theorem cover16 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) :
    ∀ y, ∃ p ∈ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1, y ∈ p.1.set :=
  View.cover_of_tiled _ ![2,2,4,128,256] (by sl_kernel_rfl)

theorem cover9 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) :
    ∀ y, ∃ p ∈ (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1, y ∈ p.1.set :=
  View.cover_of_tiled _ ![1,1,128,17] (by sl_kernel_rfl)

end Cert.Kernel
-- ==== Proof.LiftB.lean ====
module

public import proofs.«01_k».proof.Proof.Gen.Kernel.Frame
public import proofs.«01_k».proof.Proof.InitB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen

/-- A run over raw contents is a run over what the memrefs read: the first step's memrefs. -/
theorem init_lift (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (p : Prog (TpuEff nD τ sig (Elt F) Λ₀ .tc) PUnit) (x3 : S4x384x256.Idx → Elt F .fp8e4m3) (x4 : S4x1x256.Idx → Elt F .f32) (x6 : S32x1024.Idx → Elt F .fp8e4m3) (x7 : S32x1.Idx → Elt F .f32) (x10 : S4x384x256.Idx → Elt F .f32) (x11 : S32x1024.Idx → Elt F .f32) (x12 : S24x1024.Idx → Elt F .i32) (x13 : S2x384x256.Idx → Elt F .bf16) (x14 : S2x384x256.Idx → Elt F .bf16) (x15 : S2x2x4x32x256.Idx → Elt F .bf16) (x16 : S2x2x4x128x256.Idx → Elt F .bf16) (y10 : S4x384x256.Idx → Elt F .f32) (y11 : S32x1024.Idx → Elt F .f32) (y12 : S24x1024.Idx → Elt F .i32) (y13 : S2x384x256.Idx → Elt F .bf16) (y14 : S2x384x256.Idx → Elt F .bf16) (y15 : S2x2x4x32x256.Idx → Elt F .bf16) (y16 : S2x2x4x128x256.Idx → Elt F .bf16) (L10 : List (View.Piece (Elt F) S4x384x256 .f32)) (L11 : List (View.Piece (Elt F) S32x1024 .f32)) (L12 : List (View.Piece (Elt F) S24x1024 .i32)) (L13 : List (View.Piece (Elt F) S2x384x256 .bf16)) (L14 : List (View.Piece (Elt F) S2x384x256 .bf16)) (L15 : List (View.Piece (Elt F) S2x2x4x32x256 .bf16)) (L16 : List (View.Piece (Elt F) S2x2x4x128x256 .bf16))
    (h10 : ∀ f, arg10.view.read (Elt F) (arg10.view.writes (Elt F) f L10) = y10) (h11 : ∀ f, arg11.view.read (Elt F) (arg11.view.writes (Elt F) f L11) = y11) (h12 : ∀ f, arg12.view.read (Elt F) (arg12.view.writes (Elt F) f L12) = y12) (h13 : ∀ f, arg13.view.read (Elt F) (arg13.view.writes (Elt F) f L13) = y13) (h14 : ∀ f, arg14.view.read (Elt F) (arg14.view.writes (Elt F) f L14) = y14) (h15 : ∀ f, arg15.view.read (Elt F) (arg15.view.writes (Elt F) f L15) = y15) (h16 : ∀ f, arg16.view.read (Elt F) (arg16.view.writes (Elt F) f L16) = y16)
    (run : ∀ (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) f10 f11 f12 f13 f14 f15 f16 ⊢ wp frame (wpE (defs₀ (F := F)) Variants.none (c : Thread nD τ) none) Set.univ p
      (fun _ => Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) (arg10.view.writes (Elt F) f10 L10) (arg11.view.writes (Elt F) f11 L11) (arg12.view.writes (Elt F) f12 L12) (arg13.view.writes (Elt F) f13 L13) (arg14.view.writes (Elt F) f14 L14) (arg15.view.writes (Elt F) f15 L15) (arg16.view.writes (Elt F) f16 L16))) :
    (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄G)
    ⊢ wp frame (wpE (defs₀ (F := F)) Variants.none (c : Thread nD τ) none) Set.univ p (fun _ => iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16)) := by
  unfold owns
  iintro ⟨⟨%f3, %e3, H3⟩, ⟨%f4, %e4, H4⟩, ⟨%f6, %e6, H6⟩, ⟨%f7, %e7, H7⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have e31 := harg3.eq_unread e3; subst e31; have e41 := harg4.eq_unread e4; subst e41; have e61 := harg6.eq_unread e6; subst e61; have e71 := harg7.eq_unread e7; subst e71
  iapply wp_wand_r
  isplitl [H3 H4 H6 H7 H10 H11 H12 H13 H14 H15 H16]
  · iapply (run f10 f11 f12 f13 f14 f15 f16)
    isplitl [H3]; · iexact H3
    isplitl [H4]; · iexact H4
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    iexact H16
  iintro %u ⟨H3, H4, H6, H7, H10, H11, H12, H13, H14, H15, H16⟩
  isplitl [H3]
  · iexists _; isplitr
    swap; · iexact H3
    ipureintro; exact harg3.read_unread _
  isplitl [H4]
  · iexists _; isplitr
    swap; · iexact H4
    ipureintro; exact harg4.read_unread _
  isplitl [H6]
  · iexists _; isplitr
    swap; · iexact H6
    ipureintro; exact harg6.read_unread _
  isplitl [H7]
  · iexists _; isplitr
    swap; · iexact H7
    ipureintro; exact harg7.read_unread _
  isplitl [H10]
  · iexists _; isplitr
    swap; · iexact H10
    ipureintro; exact h10 _
  isplitl [H11]
  · iexists _; isplitr
    swap; · iexact H11
    ipureintro; exact h11 _
  isplitl [H12]
  · iexists _; isplitr
    swap; · iexact H12
    ipureintro; exact h12 _
  isplitl [H13]
  · iexists _; isplitr
    swap; · iexact H13
    ipureintro; exact h13 _
  isplitl [H14]
  · iexists _; isplitr
    swap; · iexact H14
    ipureintro; exact h14 _
  isplitl [H15]
  · iexists _; isplitr
    swap; · iexact H15
    ipureintro; exact h15 _
  iexists _; isplitr
  swap; · iexact H16
  ipureintro; exact h16 _

/-- The same of the rest of the body's memrefs. -/
theorem rest_lift (c : Dev nD) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (p : Prog (TpuEff nD τ sig (Elt F) Λ₀ .tc) PUnit) (x1 : S1.Idx → Elt F .i32) (x2 : S128x384.Idx → Elt F .bf16) (x5 : S4x1x256.Idx → Elt F .f32) (x8 : S1x32.Idx → Elt F .f32) (x9 : S1x2x128x17.Idx → Elt F .bf16) (x10 : S4x384x256.Idx → Elt F .f32) (x11 : S32x1024.Idx → Elt F .f32) (x12 : S24x1024.Idx → Elt F .i32) (x13 : S2x384x256.Idx → Elt F .bf16) (x14 : S2x384x256.Idx → Elt F .bf16) (x15 : S2x2x4x32x256.Idx → Elt F .bf16) (x16 : S2x2x4x128x256.Idx → Elt F .bf16) (y9 : S1x2x128x17.Idx → Elt F .bf16) (y13 : S2x384x256.Idx → Elt F .bf16) (y14 : S2x384x256.Idx → Elt F .bf16) (y15 : S2x2x4x32x256.Idx → Elt F .bf16) (y16 : S2x2x4x128x256.Idx → Elt F .bf16) (L9 : List (View.Piece (Elt F) S1x2x128x17 .bf16))
    (h9 : ∀ f, arg9.view.read (Elt F) (arg9.view.writes (Elt F) f L9) = y9) (R13 : BufTy.Contents (Elt F) arg13.view.ty) (h13 : arg13.view.read (Elt F) R13 = y13) (R14 : BufTy.Contents (Elt F) arg14.view.ty) (h14 : arg14.view.read (Elt F) R14 = y14) (R15 : BufTy.Contents (Elt F) arg15.view.ty) (h15 : arg15.view.read (Elt F) R15 = y15) (R16 : BufTy.Contents (Elt F) arg16.view.ty) (h16 : arg16.view.read (Elt F) R16 = y16)
    (run : ∀ (f9 : BufTy.Contents (Elt F) arg9.view.ty), Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread x10) (harg11.unread x11) (harg12.unread x12) f9 (harg13.unread x13) (harg14.unread x14) (harg15.unread x15) (harg16.unread x16) ⊢ wp frame (wpE (defs₀ (F := F)) Variants.none (c : Thread nD τ) none) Set.univ p
      (fun _ => Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread x10) (harg11.unread x11) (harg12.unread x12) (arg9.view.writes (Elt F) f9 L9) R13 R14 R15 R16)) :
    (iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄G)
    ⊢ wp frame (wpE (defs₀ (F := F)) Variants.none (c : Thread nD τ) none) Set.univ p (fun _ => iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare y9 ∗ owns (c : Thread nD τ) arg10 fullShare x10 ∗ owns (c : Thread nD τ) arg11 fullShare x11 ∗ owns (c : Thread nD τ) arg12 fullShare x12 ∗ owns (c : Thread nD τ) arg13 fullShare y13 ∗ owns (c : Thread nD τ) arg14 fullShare y14 ∗ owns (c : Thread nD τ) arg15 fullShare y15 ∗ owns (c : Thread nD τ) arg16 fullShare y16)) := by
  unfold owns
  iintro ⟨⟨%f1, %e1, H1⟩, ⟨%f2, %e2, H2⟩, ⟨%f5, %e5, H5⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have e11 := harg1.eq_unread e1; subst e11; have e21 := harg2.eq_unread e2; subst e21; have e51 := harg5.eq_unread e5; subst e51; have e81 := harg8.eq_unread e8; subst e81; have e101 := harg10.eq_unread e10; subst e101; have e111 := harg11.eq_unread e11; subst e111; have e121 := harg12.eq_unread e12; subst e121; have e131 := harg13.eq_unread e13; subst e131; have e141 := harg14.eq_unread e14; subst e141; have e151 := harg15.eq_unread e15; subst e151; have e161 := harg16.eq_unread e16; subst e161
  iapply wp_wand_r
  isplitl [H1 H2 H5 H8 H9 H10 H11 H12 H13 H14 H15 H16]
  · iapply (run f9)
    isplitl [H1]; · iexact H1
    isplitl [H2]; · iexact H2
    isplitl [H5]; · iexact H5
    isplitl [H8]; · iexact H8
    isplitl [H10]; · iexact H10
    isplitl [H11]; · iexact H11
    isplitl [H12]; · iexact H12
    isplitl [H9]; · iexact H9
    isplitl [H13]; · iexact H13
    isplitl [H14]; · iexact H14
    isplitl [H15]; · iexact H15
    iexact H16
  iintro %u ⟨H1, H2, H5, H8, H10, H11, H12, H9, H13, H14, H15, H16⟩
  isplitl [H1]
  · iexists _; isplitr
    swap; · iexact H1
    ipureintro; exact harg1.read_unread _
  isplitl [H2]
  · iexists _; isplitr
    swap; · iexact H2
    ipureintro; exact harg2.read_unread _
  isplitl [H5]
  · iexists _; isplitr
    swap; · iexact H5
    ipureintro; exact harg5.read_unread _
  isplitl [H8]
  · iexists _; isplitr
    swap; · iexact H8
    ipureintro; exact harg8.read_unread _
  isplitl [H9]
  · iexists _; isplitr
    swap; · iexact H9
    ipureintro; exact h9 _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact h13
  isplitl [H14]
  · iexists _; isplitr
    swap; · iexact H14
    ipureintro; exact h14
  isplitl [H15]
  · iexists _; isplitr
    swap; · iexact H15
    ipureintro; exact h15
  iexists _; isplitr
  swap; · iexact H16
  ipureintro; exact h16

end Cert.Kernel
-- ==== Proof.StepB.lean ====
module

public import proofs.«01_k».proof.Proof.Gen.Kernel.Frame
public import proofs.«01_k».proof.Proof.StateB
public import proofs.«01_k».proof.Proof.LiftB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen

attribute [local irreducible] init rest

theorem init_read10 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg10.view.ty) :
    arg10.view.read (Elt F) (arg10.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x10 := by
  rw [View.read_writes_eq_canon _ f _ (cover10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read11 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg11.view.ty) :
    arg11.view.read (Elt F) (arg11.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x11 := by
  rw [View.read_writes_eq_canon _ f _ (cover11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read12 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg12.view.ty) :
    arg12.view.read (Elt F) (arg12.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x12 := by
  rw [View.read_writes_eq_canon _ f _ (cover12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read13 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg13.view.ty) :
    arg13.view.read (Elt F) (arg13.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x13 := by
  rw [View.read_writes_eq_canon _ f _ (cover13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read14 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg14.view.ty) :
    arg14.view.read (Elt F) (arg14.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x14 := by
  rw [View.read_writes_eq_canon _ f _ (cover14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read15 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg15.view.ty) :
    arg15.view.read (Elt F) (arg15.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x15 := by
  rw [View.read_writes_eq_canon _ f _ (cover15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_read16 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f : BufTy.Contents (Elt F) arg16.view.ty) :
    arg16.view.read (Elt F) (arg16.view.writes (Elt F) f (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1) = (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x16 := by
  rw [View.read_writes_eq_canon _ f _ (cover16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)]
  rfl

theorem init_run (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) f10 f11 f12 f13 f14 f15 f16 ⊢ wp frame (wpE (defs₀ (F := F)) Variants.none (c : Thread nD τ) none) Set.univ (k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h)
      (fun _ => Init (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x3) (harg4.unread x4) (harg6.unread x6) (harg7.unread x7) (arg10.view.writes (Elt F) f10 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1) (arg11.view.writes (Elt F) f11 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1) (arg12.view.writes (Elt F) f12 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1) (arg13.view.writes (Elt F) f13 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1) (arg14.view.writes (Elt F) f14 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1) (arg15.view.writes (Elt F) f15 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1) (arg16.view.writes (Elt F) f16 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1)) :=
  (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.2 f10 f11 f12 f13 f14 f15 f16

theorem rest_run (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) (f9 : BufTy.Contents (Elt F) arg9.view.ty) :
    Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) f9 (harg13.unread s.x13) (harg14.unread s.x14) (harg15.unread s.x15) (harg16.unread s.x16) ⊢ wp frame (wpE (defs₀ (F := F)) Variants.none (c : Thread nD τ) none) Set.univ (k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => Rest (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (arg9.view.writes (Elt F) f9 (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.1 (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.1 (arg15.view.writes (Elt F) (harg15.unread s.x15) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.1) (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.2.1) :=
  (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).2.2.2.2.2 f9

/-- The first step, over what the memrefs read. -/
theorem init_owns (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → Elt F .fp8e4m3) (x4 : S4x1x256.Idx → Elt F .f32) (x6 : S32x1024.Idx → Elt F .fp8e4m3) (x7 : S32x1.Idx → Elt F .f32) (d10 : S4x384x256.Idx → Elt F .f32) (d11 : S32x1024.Idx → Elt F .f32) (d12 : S24x1024.Idx → Elt F .i32) (d13 : S2x384x256.Idx → Elt F .bf16) (d14 : S2x384x256.Idx → Elt F .bf16) (d15 : S2x2x4x32x256.Idx → Elt F .bf16) (d16 : S2x2x4x128x256.Idx → Elt F .bf16) :
    (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16) : sProp 𝕄G)
    ⊢ wp frame (wpE (defs₀ (F := F)) Variants.none (c : Thread nD τ) none) Set.univ (k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h)
      (fun _ => iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x10 ∗ owns (c : Thread nD τ) arg11 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x11 ∗ owns (c : Thread nD τ) arg12 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x12 ∗ owns (c : Thread nD τ) arg13 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x13 ∗ owns (c : Thread nD τ) arg14 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x14 ∗ owns (c : Thread nD τ) arg15 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x15 ∗ owns (c : Thread nD τ) arg16 fullShare (initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x16)) :=
  init_lift (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x3 x4 x6 x7 d10 d11 d12 d13 d14 d15 d16 _ _ _ _ _ _ _ (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.1 (init (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.2.2.2.2.1
    (init_read10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read14 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read15 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_read16 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7) (init_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7)

/-- The rest of the body, over what the memrefs read. -/
theorem rest_owns (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x5 : S4x1x256.Idx → Elt F .f32) (x8 : S1x32.Idx → Elt F .f32) (s : St F) (d9 : S1x2x128x17.Idx → Elt F .bf16) :
    (iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare d9 ∗ owns (c : Thread nD τ) arg10 fullShare s.x10 ∗ owns (c : Thread nD τ) arg11 fullShare s.x11 ∗ owns (c : Thread nD τ) arg12 fullShare s.x12 ∗ owns (c : Thread nD τ) arg13 fullShare s.x13 ∗ owns (c : Thread nD τ) arg14 fullShare s.x14 ∗ owns (c : Thread nD τ) arg15 fullShare s.x15 ∗ owns (c : Thread nD τ) arg16 fullShare s.x16) : sProp 𝕄G)
    ⊢ wp frame (wpE (defs₀ (F := F)) Variants.none (c : Thread nD τ) none) Set.univ (k0_rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => iprop(owns (c : Thread nD τ) arg1 fullShare x1 ∗ owns (c : Thread nD τ) arg2 fullShare x2 ∗ owns (c : Thread nD τ) arg5 fullShare x5 ∗ owns (c : Thread nD τ) arg8 fullShare x8 ∗ owns (c : Thread nD τ) arg9 fullShare (restOut (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s) ∗ owns (c : Thread nD τ) arg10 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x10 ∗ owns (c : Thread nD τ) arg11 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x11 ∗ owns (c : Thread nD τ) arg12 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x12 ∗ owns (c : Thread nD τ) arg13 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x13 ∗ owns (c : Thread nD τ) arg14 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x14 ∗ owns (c : Thread nD τ) arg15 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x15 ∗ owns (c : Thread nD τ) arg16 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x16)) :=
  rest_lift (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x1 x2 x5 x8 d9 s.x10 s.x11 s.x12 s.x13 s.x14 s.x15 s.x16 _ _ _ _ _ (rest (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16)).1
    (fun f => View.read_writes_eq_canon _ f _ (cover9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s)) _ rfl _ rfl _ rfl _ rfl (rest_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s)

end Cert.Kernel
-- ==== Proof.BodyRunB.lean ====
module

public import proofs.«01_k».proof.Proof.Gen.Kernel.Frame
public import proofs.«01_k».proof.Proof.StepB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen

/-- The state at one point of the grid before the rest of the body runs: at the first point the first step resets it. -/
def preSt (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x3 : S4x384x256.Idx → Elt F .fp8e4m3) (x4 : S4x1x256.Idx → Elt F .f32) (x6 : S32x1024.Idx → Elt F .fp8e4m3) (x7 : S32x1.Idx → Elt F .f32) (s : St F) : St F :=
  if h : k0_cond1 i = 1#1 then initSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7 else s

attribute [local irreducible] initSt restSt restOut

/-- The body at one point of the grid. -/
theorem body_owns (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → Elt F .i32) (x2 : S128x384.Idx → Elt F .bf16) (x3 : S4x384x256.Idx → Elt F .fp8e4m3) (x4 : S4x1x256.Idx → Elt F .f32) (x5 : S4x1x256.Idx → Elt F .f32) (x6 : S32x1024.Idx → Elt F .fp8e4m3) (x7 : S32x1.Idx → Elt F .f32) (x8 : S1x32.Idx → Elt F .f32) (x9 : S1x2x128x17.Idx → Elt F .bf16) (s : St F) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.x10 ∗ owns (c : Thread nD τ) arg11 fullShare s.x11 ∗ owns (c : Thread nD τ) arg12 fullShare s.x12 ∗ owns (c : Thread nD τ) arg13 fullShare s.x13 ∗ owns (c : Thread nD τ) arg14 fullShare s.x14 ∗ owns (c : Thread nD τ) arg15 fullShare s.x15 ∗ owns (c : Thread nD τ) arg16 fullShare s.x16) : sProp 𝕄G)
    ⊢ wp frame (wpE (defs₀ (F := F)) Variants.none (c : Thread nD τ) none) Set.univ (cc0_es_pairs (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (restOut (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)) ∗ owns (c : Thread nD τ) arg10 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x10 ∗ owns (c : Thread nD τ) arg11 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x11 ∗ owns (c : Thread nD τ) arg12 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x12 ∗ owns (c : Thread nD τ) arg13 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x13 ∗ owns (c : Thread nD τ) arg14 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x14 ∗ owns (c : Thread nD τ) arg15 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x15 ∗ owns (c : Thread nD τ) arg16 fullShare (restSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s)).x16)) := by
  rw [cc0_eq, wp_bind]
  iintro ⟨H1, H2, H3, H4, H5, H6, H7, H8, H9, H10, H11, H12, H13, H14, H15, H16⟩
  iapply wp_wand_r
  isplitl [H3 H4 H6 H7 H10 H11 H12 H13 H14 H15 H16]
  · have key : (iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare s.x10 ∗ owns (c : Thread nD τ) arg11 fullShare s.x11 ∗ owns (c : Thread nD τ) arg12 fullShare s.x12 ∗ owns (c : Thread nD τ) arg13 fullShare s.x13 ∗ owns (c : Thread nD τ) arg14 fullShare s.x14 ∗ owns (c : Thread nD τ) arg15 fullShare s.x15 ∗ owns (c : Thread nD τ) arg16 fullShare s.x16) : sProp 𝕄G)
        ⊢ wp frame (wpE (defs₀ (F := F)) Variants.none (c : Thread nD τ) none) Set.univ
          (if h : k0_cond1 i = 1#1 then k0_init (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩)
          (fun _ => iprop(owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x10 ∗ owns (c : Thread nD τ) arg11 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x11 ∗ owns (c : Thread nD τ) arg12 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x12 ∗ owns (c : Thread nD τ) arg13 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x13 ∗ owns (c : Thread nD τ) arg14 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x14 ∗ owns (c : Thread nD τ) arg15 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x15 ∗ owns (c : Thread nD τ) arg16 fullShare (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s).x16)) := by
      unfold preSt
      split
      · exact init_owns (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x3 x4 x6 x7 s.x10 s.x11 s.x12 s.x13 s.x14 s.x15 s.x16
      · rw [wp_pure]
        iintro H
        imodintro
        iexact H
    iapply key
    isplitl [H3]; · iexact H3
    isplitl [H4]; · iexact H4
    isplitl [H6]; · iexact H6
    isplitl [H7]; · iexact H7
    isplitl [H10]; · iexact H10
    isplitl [H11]; · iexact H11
    isplitl [H12]; · iexact H12
    isplitl [H13]; · iexact H13
    isplitl [H14]; · iexact H14
    isplitl [H15]; · iexact H15
    iexact H16
  iintro %u ⟨H3, H4, H6, H7, H10, H11, H12, H13, H14, H15, H16⟩
  iapply wp_wand_r
  isplitl [H1 H2 H5 H8 H9 H10 H11 H12 H13 H14 H15 H16]
  · iapply (rest_owns (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 (preSt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x3 x4 x6 x7 s) x9)
    isplitl [H1]; · iexact H1
    isplitl [H2]; · iexact H2
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %u' ⟨H1, H2, H5, H8, H9, H10, H11, H12, H13, H14, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Kernel
-- ==== Proof.RunB.lean ====
module

public import proofs.«01_k».proof.Proof.Gen.Kernel.Frame
public import proofs.«01_k».proof.Proof.BodyRunB

@[expose] public section

set_option maxRecDepth 8192
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Gen
open Idealize.ShloMosaic.Rounds
open Idealize.ShloMosaic.Pipeline (Dat Cfg Window BodyObligation cellOf)

attribute [local irreducible] restSt restOut initSt

variable (m : (ℓ : Loc nD τ sig) → Buf (Elt F) ℓ) (ρ : Dev nD → PrngReg)

/-- The state that point `t`'s body meets after its first step, from the state that it finds. -/
def mid (c : Dev nD) (t : Fin cfg0.N) (s : St F) : St F :=
  preSt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 2 t) (iblk m c 3 t) (iblk m c 5 t) (iblk m c 6 t) s

/-- The state that point `t`'s body leaves. -/
def next (c : Dev nD) (t : Fin cfg0.N) (s : St F) : St F :=
  restSt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 4 t) (iblk m c 7 t) (mid m c t s)

/-- The block that point `t`'s body writes. -/
def outAt (c : Dev nD) (t : Fin cfg0.N) (s : St F) : S1x2x128x17.Idx → Elt F .bf16 :=
  restOut (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 4 t) (iblk m c 7 t) (mid m c t s)

/-- The state after the first `n` points of the grid. -/
def stAt (c : Dev nD) : ℕ → St F
  | 0 => ⟨View.canon [], View.canon [], View.canon [], View.canon [], View.canon [], View.canon [], View.canon []⟩
  | n + 1 => if h : n < cfg0.N then next m c ⟨n, h⟩ (stAt c n) else stAt c n

theorem stAt_succ (c : Dev nD) (t : Fin cfg0.N) : stAt m c (t.val + 1) = next m c t (stAt m c t.val) := by
  rw [stAt.eq_2]; exact dif_pos t.isLt

/-- At the first point the state does not depend on what the buffers held. -/
theorem mid_zero (c : Dev nD) (t : Fin cfg0.N) (ht : t.val = 0) (s s' : St F) : mid m c t s = mid m c t s' := by
  obtain ⟨t, h⟩ := t
  subst ht
  have hc : k0_cond1 (grid0.coords ⟨0, h⟩) = 1#1 := by decide +kernel +revert
  unfold mid preSt
  rw [dif_pos hc, dif_pos hc]

/-- The scratch buffers at the state `s`. -/
def scr (c : Dev nD) (s : St F) : sProp 𝕄G :=
  iprop(owns (c : Thread nD τ) (Memref.whole cc0_scratch0) fullShare s.x10 ∗ owns (c : Thread nD τ) (Memref.whole cc0_scratch1) fullShare s.x11 ∗ owns (c : Thread nD τ) (Memref.whole cc0_scratch2) fullShare s.x12 ∗ owns (c : Thread nD τ) (Memref.whole cc0_scratch3) fullShare s.x13 ∗ owns (c : Thread nD τ) (Memref.whole cc0_scratch4) fullShare s.x14 ∗ owns (c : Thread nD τ) (Memref.whole cc0_scratch5) fullShare s.x15 ∗ owns (c : Thread nD τ) (Memref.whole cc0_scratch6) fullShare s.x16)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t (stAt m c t.val)
  Φ p := if p.val = 0 then Pipeline.ΦA spec0 c else iprop(scr c (stAt m c p.val) ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t (stAt m c t.val) := by dsimp only [dats]

/-- Some state of the scratch buffers, and the generator's register: what every point finds. -/
theorem phi_pre (c : Dev nD) (t : Fin cfg0.N) :
    (dats m 0 c).Φ t.castSucc ⊢ (iprop(∃ s : St F, ⌜mid m c t s = mid m c t (stAt m c t.val)⌝ ∗ scr c s ∗ ∃ r, prngReg c r) : sProp 𝕄G) := by
  show (if t.castSucc.val = 0 then Pipeline.ΦA spec0 c else iprop(scr c (stAt m c t.castSucc.val) ∗ ∃ r, prngReg c r)) ⊢ _
  split
  · rename_i h0
    unfold Pipeline.ΦA
    rw [scopedRest0_eq]
    iintro ⟨⟨⟨%f0, H0⟩, ⟨%f1, H1⟩, ⟨%f2, H2⟩, ⟨%f3, H3⟩, ⟨%f4, H4⟩, ⟨%f5, H5⟩, ⟨%f6, H6⟩⟩, Hg⟩
    iexists (⟨f0, f1, f2, f3, f4, f5, f6⟩ : St F)
    isplitr
    · ipureintro; exact mid_zero m c t h0 _ _
    isplitr [Hg]
    swap; · iexact Hg
    unfold scr
    simp only [owns_whole]
    isplitl [H0]; · iexact H0
    isplitl [H1]; · iexact H1
    isplitl [H2]; · iexact H2
    isplitl [H3]; · iexact H3
    isplitl [H4]; · iexact H4
    isplitl [H5]; · iexact H5
    iexact H6
  · iintro ⟨H, Hg⟩
    iexists _
    isplitr
    · ipureintro; rfl
    isplitr [Hg]
    swap; · iexact Hg
    iexact H

theorem phi_post (c : Dev nD) (t : Fin cfg0.N) :
    (iprop(scr c (stAt m c (t.val + 1)) ∗ ∃ r, prngReg c r) : sProp 𝕄G) ⊢ (dats m 0 c).Φ t.succ := by
  show _ ⊢ (if t.succ.val = 0 then Pipeline.ΦA spec0 c else iprop(scr c (stAt m c t.succ.val) ∗ ∃ r, prngReg c r))
  rw [if_neg (by simp)]
  exact .rfl

theorem phi_in (c : Dev nD) : Pipeline.ΦA spec0 c ⊢ (dats m 0 c).Φ 0 := by
  show _ ⊢ (if (0 : Fin (cfg0.N + 1)).val = 0 then Pipeline.ΦA spec0 c else iprop(scr c (stAt m c (0 : Fin (cfg0.N + 1)).val) ∗ ∃ r, prngReg c r))
  split
  · exact .rfl
  · rename_i h; exact absurd rfl h

theorem phi_out (c : Dev nD) : (dats m 0 c).Φ (Fin.last cfg0.N) ⊢ Pipeline.ΦA spec0 c := by
  show (if (Fin.last cfg0.N).val = 0 then Pipeline.ΦA spec0 c else iprop(scr c (stAt m c (Fin.last cfg0.N).val) ∗ ∃ r, prngReg c r)) ⊢ _
  split
  · exact .rfl
  · unfold Pipeline.ΦA scr
    rw [scopedRest0_eq]
    simp only [owns_whole]
    iintro ⟨⟨H0, H1, H2, H3, H4, H5, H6⟩, Hg⟩
    isplitr [Hg]
    swap; · iexact Hg
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl]
  rw [after0_0, after0_1, after0_2, after0_3, after0_4, after0_5, after0_6, after0_7, after0_8]
  simp only [before0_0_of m (dats m 0 c) (A_eq m c 0) (after0_0 m c), before0_1_of m (dats m 0 c) (A_eq m c 1) (after0_1 m c), before0_2_of m (dats m 0 c) (A_eq m c 2) (after0_2 m c), before0_3_of m (dats m 0 c) (A_eq m c 3) (after0_3 m c), before0_4_of m (dats m 0 c) (A_eq m c 4) (after0_4 m c), before0_5_of m (dats m 0 c) (A_eq m c 5) (after0_5 m c), before0_6_of m (dats m 0 c) (A_eq m c 6) (after0_6 m c), before0_7_of m (dats m 0 c) (A_eq m c 7) (after0_7 m c)]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HP := (phi_pre m c t) $$ HP
  icases HP with ⟨%s, %hs, HS, Hg⟩
  unfold scr
  icases HS with ⟨S0, S1, S2, S3, S4, S5, S6⟩
  iapply wp_wand_r
  isplitl [H0 H1 H2 H3 H4 H5 H6 H7 H8 S0 S1 S2 S3 S4 S5 S6]
  · iapply (body_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) _ s)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    iexact S6
  rw [show preSt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 2 t) (iblk m c 3 t) (iblk m c 5 t) (iblk m c 6 t) s = mid m c t (stAt m c t.val) from hs]
  iintro %u ⟨H0, H1, H2, H3, H4, H5, H6, H7, H8, S0, S1, S2, S3, S4, S5, S6⟩
  isplitl [S0 S1 S2 S3 S4 S5 S6 Hg]
  · iapply (phi_post m c t)
    rw [stAt_succ]
    isplitr [Hg]
    swap; · iexact Hg
    unfold scr next
    isplitl [S0]; · iexact S0
    isplitl [S1]; · iexact S1
    isplitl [S2]; · iexact S2
    isplitl [S3]; · iexact S3
    isplitl [S4]; · iexact S4
    isplitl [S5]; · iexact S5
    iexact S6
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold outAt
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- Every run ends, at quiescence, with the arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.Kernel
-- ==== Proof.Tile.lean ====
module

public import proofs.«01_k».proof.Proof.Trip

@[expose] public section

set_option maxRecDepth 16384
set_option maxHeartbeats 1000000

noncomputable section

namespace Cert.KernelIdeal

open Idealize.ShloMosaic Idealize.ShloMosaic.TcCoe
open Cert.KernelIdeal.Gen

variable {F : FTy → Type} [FloatOps F] [Named F]

/-- The hash's last multiplication, with the shift and exclusive or before it. -/
def tailV {S : Shape} (m : IVec S 32) : IVec S 32 :=
  muli (xori m (shrui m (broadcast S 13#32))) (broadcast S 3266489909#32)

/-- The radius: the square root of the scaled logarithm of the first uniform. -/
def radV (S : Shape) (c : F .f32) (m0 : IVec S 32) : FVec F S .f32 :=
  have y : FVec F S .f32 := mulf (mulf (log (mulf (sitofp .f32 (addi (xori (shrui (tailV m0) (broadcast S 8#32)) (shrui (tailV m0) (broadcast S 24#32))) (broadcast S 1#32)))
    (broadcast S (Scalar.ofBits .f32 0x33800000#32)))) (broadcast S (Named.named κ "inv_ln2" 0x3FB8AA3B#32))) (broadcast S c)
  mulf y (rsqrt (maximumf y (broadcast S (Scalar.ofBits .f32 0x02081CEA#32))))

/-- The angle's distance from a quarter turn, in units of two to the minus twenty-four turns. -/
def angV (S : Shape) (m1 : IVec S 32) : FVec F S .f32 :=
  subf (absf (sitofp .f32 (xori (shrsi (tailV m1) (broadcast S 8#32)) (shrui (tailV m1) (broadcast S 24#32)))))
    (broadcast S (Scalar.ofBits .f32 0x4A800000#32))

/-- The sine of a third of the angle, by its quintic. -/
def sinV (S : Shape) (s : FVec F S .f32) : FVec F S .f32 :=
  have z : FVec F S .f32 := mulf s s
  mulf s (addf (mulf (addf (mulf (broadcast S (Scalar.ofBits .f32 0x02AA8EF0#32)) z) (broadcast S (Scalar.ofBits .f32 0x9BC3FB9A#32))) z)
    (broadcast S (Scalar.ofBits .f32 0x34060A91#32)))

/-- The negated noise of a tile, from the two hashes after their first multiplication. -/
def noiseV (S : Shape) (c : F .f32) (m0 m1 : IVec S 32) : FVec F S .f32 :=
  have sn : FVec F S .f32 := sinV S (angV S m1)
  mulf (radV S c m0) (mulf sn (subf (broadcast S (Scalar.ofBits .f32 0x3F400000#32)) (mulf sn sn)))

/-- A tile's rows of the counter. -/
def ctrV (v0 v1 : IVec S16x128 32) : IVec S16x128 32 :=
  xori (shli v0 (broadcast S16x128 11#32)) (shli v1 (broadcast S16x128 1#32))

def headV (S : Shape) (ctr : IVec S 32) (key mul A : BitVec 32) : IVec S 32 :=
  muli (xori (broadcast S (Scalar.xori (Scalar.andi key 4294965503#32) A)) ctr) (broadcast S mul)

def colK (key mul cc t : BitVec 32) : BitVec 32 :=
  Scalar.muli (Scalar.xori (Scalar.andi key 1792#32) (Scalar.shli (Scalar.addi (Scalar.muli cc 2#32) t) 8#32)) mul

def deltaK (key mul g : BitVec 32) : BitVec 32 :=
  Scalar.select (Scalar.cmpi .eq (Scalar.andi (Scalar.xori key g) 1#32) 0#32) mul 2048144789#32

/-- The negated noise of the tile at rows `16 rt` and columns `128 t` of chunk `cc`, from the counter's rows. -/
def genV (S : Shape) (ctr : IVec S 32) (key mul A g cc t : BitVec 32) : FVec F S .f32 :=
  noiseV S (Named.named κ "noise1" 0xBA1AA45B#32) (addi (headV S ctr key mul A) (broadcast S (colK key mul cc t)))
    (addi (headV S ctr key mul A) (broadcast S (Scalar.addi (colK key mul cc t) (deltaK key mul g))))

def signV {S : Shape} (s : ℕ) (b p : FVec F S .f32) : FVec F S .f32 := if s = 0 then subf b p else addf b p

/-- Sixteen rows of perturbed weights. -/
def tile16 (s : ℕ) (v0 v1 : IVec S16x128 32) (key mul A g cc t : BitVec 32) (base : Vec F S1x16x128 .f32) : FVec F S1x16x128 .bf16 :=
  shapeCast S1x16x128 (truncf .bf16 (signV s (shapeCast S16x128 base shapeCasts_S1x16x128_S16x128)
    (genV S16x128 (ctrV v0 v1) key mul A g cc t)) bitsLt_bf16_f32) shapeCasts_S16x128_S1x16x128

/-- The last eight rows, with eight rows of zeros below. -/
def tile8 (s : ℕ) (v0 v1 : IVec S16x128 32) (key mul A g cc t : BitVec 32) (base : Vec F S1x8x128 .f32) : FVec F S1x16x128 .bf16 :=
  shapeCast S1x16x128 (truncf .bf16 (concatenate S16x128 0 [⟨S8x128, signV s (shapeCast S8x128 base shapeCasts_S1x8x128_S8x128)
    (genV S8x128 (extractStridedSlice S8x128 ![0, 0] (ctrV v0 v1) slices_S16x128_o0_0_S8x128) key mul A g cc t)⟩,
    ⟨S8x128, broadcast S8x128 (Scalar.ofBits .f32 0x00000000#32)⟩] concatenates_S8x128_S8x128_S16x128_d0) bitsLt_bf16_f32) shapeCasts_S16x128_S1x16x128

def rowA (rt : ℕ) : BitVec 32 := BitVec.ofNat 32 (rt * 32768 + rt / 2)
def rowG (rt : ℕ) : BitVec 32 := BitVec.ofNat 32 (rt / 2)

theorem inb_tile {s rt t : ℕ} (hs : s < 2) (hrt : rt < 24) (ht : t < 2) :
    ∀ a, (![s, 16 * rt, 128 * t] : Fin 3 → ℕ) a + S1x16x128.size a ≤ S2x384x256.size a := by
  intro a; fin_cases a <;> simp [S1x16x128, S2x384x256] <;> omega
theorem inb_base16 {c rt t : ℕ} (hc : c < 4) (hrt : rt < 23) (ht : t < 2) :
    ∀ a, (![c, 16 * rt, 128 * t] : Fin 3 → ℕ) a + S1x16x128.size a ≤ S4x384x256.size a := by
  intro a; fin_cases a <;> simp [S1x16x128, S4x384x256] <;> omega
theorem inb_base8 {c t : ℕ} (hc : c < 4) (ht : t < 2) :
    ∀ a, (![c, 368, 128 * t] : Fin 3 → ℕ) a + S1x8x128.size a ≤ S4x384x256.size a := by
  intro a; fin_cases a <;> simp [S1x8x128, S4x384x256] <;> omega

/-- One tile as it is stored: its place and its rows. -/
def tilePiece (arg10 : Memref sig .tc .vmem S4x384x256 .f32) (v0 v1 : IVec S16x128 32) (key mul : BitVec 32)
    (X10 : BufTy.Contents (Elt F) arg10.view.ty) (c : Fin 4) (rt : Fin 24) (t s : Fin 2) : View.Piece (Elt F) S2x384x256 .bf16 :=
  ⟨Rect.unit ![s.val, 16 * rt.val, 128 * t.val] S1x16x128.size (inb_tile s.isLt rt.isLt t.isLt),
    if h : rt.val < 23 then
      tile16 s.val v0 v1 key mul (rowA rt) (rowG rt) (BitVec.ofNat 32 c) (BitVec.ofNat 32 t)
        (View.readAt (Elt F) arg10.view (Rect.unit ![c.val, 16 * rt.val, 128 * t.val] S1x16x128.size (inb_base16 c.isLt h t.isLt) : Rect S4x384x256).toLoadRect X10)
    else
      tile8 s.val v0 v1 key mul (rowA rt) (rowG rt) (BitVec.ofNat 32 c) (BitVec.ofNat 32 t)
        (View.readAt (Elt F) arg10.view (Rect.unit ![c.val, 368, 128 * t.val] S1x8x128.size (inb_base8 c.isLt t.isLt) : Rect S4x384x256).toLoadRect X10)⟩

/-- A chunk's ninety-six tiles, the last stored first. -/
def tiles (arg10 : Memref sig .tc .vmem S4x384x256 .f32) (v0 v1 : IVec S16x128 32) (key mul : BitVec 32)
    (X10 : BufTy.Contents (Elt F) arg10.view.ty) (c : Fin 4) : List (View.Piece (Elt F) S2x384x256 .bf16) :=
  (List.finRange 24).reverse.flatMap fun rt => [tilePiece arg10 v0 v1 key mul X10 c rt 1 1, tilePiece arg10 v0 v1 key mul X10 c rt 1 0,
    tilePiece arg10 v0 v1 key mul X10 c rt 0 1, tilePiece arg10 v0 v1 key mul X10 c rt 0 0]

end Cert.KernelIdeal
-- ==== Proof.TripTiles.lean ====
module

public import proofs.«01_k».proof.Proof.Tile

@[expose] public section

set_option maxRecDepth 16384
set_option maxHeartbeats 1000000

noncomputable section

namespace Cert.KernelIdeal

open Idealize.ShloMosaic Idealize.ShloMosaic.TcCoe
open Cert.KernelIdeal.Gen

variable {F : FTy → Type} [FloatOps F] [Named F]

/-- The first chunk's weights are its tiles. -/
theorem trip_first (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (f14 : BufTy.Contents (Elt F) arg14.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 ⟨0, by decide⟩).1 = tiles arg10 v0 v1 v35 c_m2048144789_i32_13 X10 0 := by
  with_unfolding_all rfl

/-- The second chunk's weights are its tiles. -/
theorem trip_second (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (f14 : BufTy.Contents (Elt F) arg14.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 ⟨0, by decide⟩).2.1 = tiles arg10 v0 v1 v35 c_m2048144789_i32_13 X10 1 := by
  with_unfolding_all rfl

/-- The third chunk's weights are its tiles. -/
theorem trip_third (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (f14 : BufTy.Contents (Elt F) arg14.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 ⟨1, by decide⟩).1 = tiles arg10 v0 v1 v35 c_m2048144789_i32_13 X10 2 := by
  with_unfolding_all rfl

/-- The fourth chunk's weights are its tiles. -/
theorem trip_fourth (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt F) arg2.view.ty) (X5 : BufTy.Contents (Elt F) arg5.view.ty) (X10 : BufTy.Contents (Elt F) arg10.view.ty) (f14 : BufTy.Contents (Elt F) arg14.view.ty) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 ⟨1, by decide⟩).2.1 = tiles arg10 v0 v1 v35 c_m2048144789_i32_13 X10 3 := by
  with_unfolding_all rfl

end Cert.KernelIdeal
-- ==== Proof.Words.lean ====
module

public import Mathlib.Data.Nat.Bitwise
public import Mathlib.Tactic.Ring
public import Mathlib.Tactic.FinCases

@[expose] public section

/-! The integer hash of an entry's number, and the forms in which a tile computes it. -/

namespace Cert.Words

/-- The hash after its first multiplication. -/
def tailW (m : BitVec 32) : BitVec 32 := (m ^^^ m >>> 13) * 3266489909#32

/-- The hash's first multiplication. -/
def preW (h : BitVec 32) : BitVec 32 := (h ^^^ h >>> 16) * 2246822507#32

/-- The hash. -/
def fmW (h : BitVec 32) : BitVec 32 := tailW (preW h) ^^^ tailW (preW h) >>> 16

theorem ofNat_add_xor (n a b : ℕ) (hb : b < 2 ^ n) :
    BitVec.ofNat 32 (2 ^ n * a + b) = BitVec.ofNat 32 (2 ^ n * a) ^^^ BitVec.ofNat 32 b := by
  ext i hi
  have hz : n ≤ i → b.testBit i = false := fun h => Nat.testBit_lt_two_pow (lt_of_lt_of_le hb (Nat.pow_le_pow_right (by norm_num) h))
  have go : ∀ x : ℕ, (BitVec.ofNat 32 x)[i] = x.testBit i := fun x => by
    rw [← BitVec.getLsbD_eq_getElem, BitVec.getLsbD_ofNat]; simp [hi]
  simp only [go, BitVec.getElem_xor, Nat.testBit_two_pow_mul_add a hb i, Nat.testBit_two_pow_mul]
  by_cases h : i < n
  · simp [h, Nat.not_le.2 h]
  · simp [h, Nat.not_lt.1 h, hz (Nat.not_lt.1 h)]

/-- Two words under complementary masks add up to their exclusive or. -/
theorem mask_add (K a b m : BitVec 32) (ha : a &&& m = 0#32) (hb : b &&& ~~~m = 0#32) :
    ((K &&& ~~~m) ^^^ a) + ((K &&& m) ^^^ b) = K ^^^ (a ^^^ b) := by
  have hd : ((K &&& ~~~m) ^^^ a) &&& ((K &&& m) ^^^ b) = 0#32 := by
    ext i hi
    have ha' : (a &&& m)[i] = false := by rw [ha]; simp
    have hb' : (b &&& ~~~m)[i] = false := by rw [hb]; simp
    simp only [BitVec.getElem_and, BitVec.getElem_not] at ha' hb'
    simp only [BitVec.getElem_and, BitVec.getElem_xor, BitVec.getElem_not, BitVec.getElem_zero]
    revert ha' hb'
    cases K[i] <;> cases a[i] <;> cases b[i] <;> cases m[i] <;> decide
  rw [BitVec.add_eq_or_of_and_eq_zero _ _ hd]
  ext i hi
  have ha' : (a &&& m)[i] = false := by rw [ha]; simp
  have hb' : (b &&& ~~~m)[i] = false := by rw [hb]; simp
  simp only [BitVec.getElem_and, BitVec.getElem_not] at ha' hb'
  simp only [BitVec.getElem_and, BitVec.getElem_or, BitVec.getElem_xor, BitVec.getElem_not]
  revert ha' hb'
  cases K[i] <;> cases a[i] <;> cases b[i] <;> cases m[i] <;> decide

theorem shl_ofNat (n a : ℕ) : BitVec.ofNat 32 a <<< n = BitVec.ofNat 32 (2 ^ n * a) := by
  apply BitVec.eq_of_toNat_eq
  simp [Nat.shiftLeft_eq, Nat.mul_comm]

theorem shr_ofNat (n a : ℕ) (h : a < 2 ^ 32) : BitVec.ofNat 32 a >>> n = BitVec.ofNat 32 (a / 2 ^ n) := by
  apply BitVec.eq_of_toNat_eq
  have : a / 2 ^ n < 2 ^ 32 := lt_of_le_of_lt (Nat.div_le_self _ _) h
  rw [BitVec.toNat_ushiftRight, BitVec.toNat_ofNat, BitVec.toNat_ofNat, Nat.mod_eq_of_lt h, Nat.mod_eq_of_lt this, Nat.shiftRight_eq_div_pow]

/-- Adding one to an even word sets its last bit. -/
theorem even_succ (n : ℕ) (hn : n % 2 = 0) : BitVec.ofNat 32 n + 1#32 = BitVec.ofNat 32 n ^^^ 1#32 := by
  obtain ⟨k, rfl⟩ : ∃ k, n = 2 * k := ⟨n / 2, by omega⟩
  have := ofNat_add_xor 1 k 1 (by norm_num)
  simpa [BitVec.ofNat_add] using this

/-- Flipping the last bit adds or subtracts one. -/
theorem flip_last (Z : BitVec 32) : Z ^^^ 1#32 = if Z &&& 1#32 = 0#32 then Z + 1#32 else Z - 1#32 := by
  have hz : BitVec.ofNat 32 Z.toNat = Z := by simp
  rcases Nat.mod_two_eq_zero_or_one Z.toNat with h | h
  · have h0 : Z &&& 1#32 = 0#32 := by
      apply BitVec.eq_of_toNat_eq; simp [Nat.and_one_is_mod, h]
    have := even_succ _ h
    rw [hz] at this
    rw [if_pos h0, this]
  · have h1 : ¬ Z &&& 1#32 = 0#32 := by
      intro hc; have := congrArg BitVec.toNat hc; simp [Nat.and_one_is_mod, h] at this
    rw [if_neg h1]
    have h2 : Z = BitVec.ofNat 32 (Z.toNat - 1) + 1#32 := by
      rw [← BitVec.ofNat_add, Nat.sub_add_cancel (by omega), hz]
    generalize hn : Z.toNat - 1 = n at h2
    subst h2
    rw [BitVec.add_sub_cancel, even_succ _ (by omega), BitVec.xor_assoc, BitVec.xor_self, BitVec.xor_zero]

/-- The second hash's first multiplication, from the first one's: the entry's number and the next differ in the last bit. -/
theorem preW_next (h n : BitVec 32) (k : ℕ) (hk : n = BitVec.ofNat 32 (2 * k)) (bit : BitVec 32)
    (hb : (h ^^^ n ^^^ (h ^^^ n) >>> 16) &&& 1#32 = bit &&& 1#32) :
    preW (h ^^^ (n + 1#32)) = preW (h ^^^ n) + (if bit &&& 1#32 = 0#32 then 2246822507#32 else 2048144789#32) := by
  have e : n + 1#32 = n ^^^ 1#32 := by rw [hk]; exact even_succ _ (by omega)
  have s : (h ^^^ (n ^^^ 1#32)) >>> 16 = (h ^^^ n) >>> 16 := by
    rw [← BitVec.xor_assoc, BitVec.ushiftRight_xor_distrib]
    have : (1#32 : BitVec 32) >>> 16 = 0#32 := by decide
    rw [this, BitVec.xor_zero]
  have f : h ^^^ (n ^^^ 1#32) ^^^ (h ^^^ (n ^^^ 1#32)) >>> 16 = (h ^^^ n ^^^ (h ^^^ n) >>> 16) ^^^ 1#32 := by
    rw [s]; ac_rfl
  unfold preW
  rw [e, f, flip_last, hb]
  split
  · rw [BitVec.add_mul, BitVec.one_mul]
  · rw [BitVec.sub_eq_add_neg, BitVec.add_mul]; rfl

/-- The number, doubled, of the entry at row `16 rt + r` and column `128 u + l` of a matrix of 1024 columns, split along its bits. -/
theorem split1 (rt r u l : ℕ) (hr : r < 16) (hu : u < 8) (hl : l < 128) :
    BitVec.ofNat 32 (2 * ((16 * rt + r) * 1024 + (128 * u + l)))
      = BitVec.ofNat 32 (2 ^ 15 * rt) ^^^ (BitVec.ofNat 32 (2 ^ 11 * r) ^^^ (BitVec.ofNat 32 (2 ^ 8 * u) ^^^ BitVec.ofNat 32 (2 * l))) := by
  rw [← ofNat_add_xor 8 u (2 * l) (by omega), ← ofNat_add_xor 11 r _ (by omega), ← ofNat_add_xor 15 rt _ (by omega)]
  congr 1; ring

theorem toNat_split1 (rt r u l : ℕ) (hrt : rt < 24) (hr : r < 16) (hu : u < 8) (hl : l < 128) :
    BitVec.ofNat 32 (2 * ((16 * rt + r) * 1024 + (128 * u + l))) >>> 16 = BitVec.ofNat 32 (rt / 2) := by
  rw [shr_ofNat _ _ (by omega)]; congr 1; omega

theorem and_ofNat_zero (n a : ℕ) (m : BitVec 32) (h : BitVec.ofNat 32 a &&& m = 0#32) : BitVec.ofNat 32 a &&& m = 0#32 := h

/-- A tile's first multiplication in the first layer. -/
theorem tile_pre (k : BitVec 32) (rt r u l : ℕ) (hrt : rt < 24) (hr : r < 16) (hu : u < 8) (hl : l < 128) :
    (((k ^^^ k >>> 16) &&& 4294965503#32 ^^^ BitVec.ofNat 32 (rt * 32768 + rt / 2)) ^^^ (BitVec.ofNat 32 r <<< 11 ^^^ BitVec.ofNat 32 l <<< 1)) * 2246822507#32
      + (((k ^^^ k >>> 16) &&& 1792#32) ^^^ BitVec.ofNat 32 u <<< 8) * 2246822507#32
      = preW (k ^^^ BitVec.ofNat 32 (2 * ((16 * rt + r) * 1024 + (128 * u + l)))) := by
  have hm : (4294965503#32 : BitVec 32) = ~~~ 1792#32 := by decide
  have hA : ∀ rt < 24, BitVec.ofNat 32 (rt * 32768 + rt / 2) &&& 1792#32 = 0#32 := by decide +kernel
  have hR : ∀ r < 16, BitVec.ofNat 32 r <<< 11 &&& 1792#32 = 0#32 := by decide +kernel
  have hL : ∀ l < 128, BitVec.ofNat 32 l <<< 1 &&& 1792#32 = 0#32 := by decide +kernel
  have hU : ∀ u < 8, BitVec.ofNat 32 u <<< 8 &&& ~~~ 1792#32 = 0#32 := by decide +kernel
  have dist : ∀ a b c : BitVec 32, (a ^^^ b) &&& c = (a &&& c) ^^^ (b &&& c) := fun a b c => by
    ext i hi; simp only [BitVec.getElem_and, BitVec.getElem_xor]; cases a[i] <;> cases b[i] <;> cases c[i] <;> decide
  rw [← BitVec.add_mul, hm, BitVec.xor_assoc,
    mask_add _ _ _ _ (by rw [dist, dist, hA rt hrt, hR r hr, hL l hl]; decide) (hU u hu)]
  unfold preW
  congr 1
  rw [BitVec.ushiftRight_xor_distrib, toNat_split1 rt r u l hrt hr hu hl, split1 rt r u l hr hu hl]
  have e1 : BitVec.ofNat 32 (rt * 32768 + rt / 2) = BitVec.ofNat 32 (2 ^ 15 * rt) ^^^ BitVec.ofNat 32 (rt / 2) := by
    rw [← ofNat_add_xor 15 rt _ (by omega)]; congr 1; ring
  rw [e1, shl_ofNat, shl_ofNat, shl_ofNat]
  ac_rfl

theorem and_xor (a b c : BitVec 32) : (a ^^^ b) &&& c = (a &&& c) ^^^ (b &&& c) := by
  ext i hi; simp only [BitVec.getElem_and, BitVec.getElem_xor]; cases a[i] <;> cases b[i] <;> cases c[i] <;> decide

theorem even_and (n : ℕ) : BitVec.ofNat 32 (2 * n) &&& 1#32 = 0#32 := by
  apply BitVec.eq_of_toNat_eq; simp [Nat.and_one_is_mod]

/-- The step to the second hash in the first layer. -/
theorem tile_next (k : BitVec 32) (rt r u l : ℕ) (hrt : rt < 24) (hr : r < 16) (hu : u < 8) (hl : l < 128) :
    preW (k ^^^ BitVec.ofNat 32 (2 * ((16 * rt + r) * 1024 + (128 * u + l))))
      + (if ((k ^^^ k >>> 16) ^^^ BitVec.ofNat 32 (rt / 2)) &&& 1#32 = 0#32 then 2246822507#32 else 2048144789#32)
      = preW (k ^^^ (BitVec.ofNat 32 (2 * ((16 * rt + r) * 1024 + (128 * u + l))) + 1#32)) := by
  refine (preW_next k _ _ rfl _ ?_).symm
  rw [BitVec.ushiftRight_xor_distrib, toNat_split1 rt r u l hrt hr hu hl]
  simp only [and_xor, even_and, BitVec.xor_zero]
  ac_rfl

/-- A tile's first multiplication in the second layer, whose numbers stay below `2 ^ 16`. -/
theorem tile_pre2 (k : BitVec 32) (n : ℕ) (hn : n < 2 ^ 15) :
    (BitVec.ofNat 32 (2 * n) ^^^ (k ^^^ k >>> 16)) * 2246822507#32 = preW (k ^^^ BitVec.ofNat 32 (2 * n)) := by
  unfold preW
  congr 1
  rw [BitVec.ushiftRight_xor_distrib, shr_ofNat 16 (2 * n) (by omega), show 2 * n / 2 ^ 16 = 0 by omega]
  simp only [BitVec.xor_zero]
  ac_rfl

theorem tile_next2 (k : BitVec 32) (n : ℕ) (hn : n < 2 ^ 15) :
    preW (k ^^^ BitVec.ofNat 32 (2 * n)) + (if (k ^^^ k >>> 16) &&& 1#32 = 0#32 then 2246822507#32 else 2048144789#32)
      = preW (k ^^^ (BitVec.ofNat 32 (2 * n) + 1#32)) := by
  refine (preW_next k _ _ rfl _ ?_).symm
  rw [BitVec.ushiftRight_xor_distrib, shr_ofNat 16 (2 * n) (by omega), show 2 * n / 2 ^ 16 = 0 by omega]
  simp only [and_xor, even_and, BitVec.xor_zero]

/-- The first uniform's number: the hash's last exclusive or after the shift. -/
theorem top24 (h : BitVec 32) : h >>> 8 ^^^ h >>> 24 = (h ^^^ h >>> 16) >>> 8 := by
  rw [BitVec.ushiftRight_xor_distrib, ← BitVec.shiftRight_add]

/-- The second uniform's number as a signed word of twenty-four bits. -/
theorem top24_signed (h : BitVec 32) :
    h.sshiftRight 8 ^^^ h >>> 24 = ((h ^^^ h >>> 16) >>> 8 |>.setWidth 24).signExtend 32 := by
  ext i hi
  rw [BitVec.getElem_signExtend]
  simp only [BitVec.getElem_xor, BitVec.getElem_sshiftRight, BitVec.getElem_ushiftRight, BitVec.getElem_setWidth, BitVec.getLsbD_ushiftRight,
    BitVec.getLsbD_xor, BitVec.msb_eq_getLsbD_last, BitVec.getLsbD_setWidth]
  by_cases h24 : i < 24
  · simp only [h24, dite_true]
    have : 8 + i < 32 := by omega
    simp [this, ← BitVec.getLsbD_eq_getElem, ← Nat.add_assoc]
  · have : ¬ 8 + i < 32 := by omega
    simp [h24, this, BitVec.getLsbD_of_ge h (24 + i) (by omega)]

theorem toInt_signed (h : BitVec 32) :
    (h.sshiftRight 8 ^^^ h >>> 24).toInt
      = if ((h ^^^ h >>> 16) >>> 8).toNat < 2 ^ 23 then (((h ^^^ h >>> 16) >>> 8).toNat : ℤ) else (((h ^^^ h >>> 16) >>> 8).toNat : ℤ) - 2 ^ 24 := by
  rw [top24_signed, BitVec.toInt_signExtend_of_le (by decide)]
  have hlt : ((h ^^^ h >>> 16) >>> 8).toNat < 2 ^ 24 := by
    rw [BitVec.toNat_ushiftRight, Nat.shiftRight_eq_div_pow]
    have := (h ^^^ h >>> 16).isLt
    omega
  rw [BitVec.toInt_eq_toNat_cond, BitVec.toNat_setWidth, Nat.mod_eq_of_lt hlt]
  split <;> split <;> first | rfl | (exfalso; omega)

end Cert.Words
-- ==== Proof.Noise.lean ====
module

public import proofs.«01_k».proof.Proof.Words
public import Idealize.ShloMosaic.PureOps
public import Idealize.ShloMosaic.Lib.IdealHost
public import Mathlib.Analysis.SpecialFunctions.Log.Basic
public import Mathlib.Tactic.Positivity
public import Mathlib.Tactic.Linarith

@[expose] public section

/-! The noise of one entry as a real number, and the two forms in which it is computed. -/

noncomputable section

namespace Cert.Noise

open Idealize.ShloMosaic Cert.Words

theorem lit_a0 : Ideal.ofBits .f32 0x34060A91#32 = ((8784529 / 2 ^ 46 : ℝ) : EReal) := by simp [Ideal.ofBits, Ideal.ieee, -EReal.coe_mul]; norm_num
theorem lit_a1 : Ideal.ofBits .f32 0x9BC3FB9A#32 = ((-12843930 / 2 ^ 95 : ℝ) : EReal) := by simp [Ideal.ofBits, Ideal.ieee, -EReal.coe_mul, -EReal.coe_neg]; norm_num
theorem lit_a2 : Ideal.ofBits .f32 0x02AA8EF0#32 = ((11177712 / 2 ^ 145 : ℝ) : EReal) := by simp [Ideal.ofBits, Ideal.ieee, -EReal.coe_mul]; norm_num
theorem lit_b0 : Ideal.ofBits .f32 0x40060A91#32 = ((8784529 / 2 ^ 22 : ℝ) : EReal) := by simp [Ideal.ofBits, Ideal.ieee, -EReal.coe_mul]; norm_num
theorem lit_b1 : Ideal.ofBits .f32 0xBFC3FB9A#32 = ((-12843930 / 2 ^ 23 : ℝ) : EReal) := by simp [Ideal.ofBits, Ideal.ieee, -EReal.coe_mul, -EReal.coe_neg]; norm_num
theorem lit_b2 : Ideal.ofBits .f32 0x3EAA8EF0#32 = ((11177712 / 2 ^ 25 : ℝ) : EReal) := by simp [Ideal.ofBits, Ideal.ieee, -EReal.coe_mul]; norm_num
theorem lit_tiny : Ideal.ofBits .f32 0x02081CEA#32 = ((8920298 / 2 ^ 146 : ℝ) : EReal) := by simp [Ideal.ofBits, Ideal.ieee, -EReal.coe_mul]; norm_num
theorem lit_inv24 : Ideal.ofBits .f32 0x33800000#32 = ((1 / 2 ^ 24 : ℝ) : EReal) := by simp [Ideal.ofBits, Ideal.ieee, -EReal.coe_mul]; norm_num
theorem lit_p22 : Ideal.ofBits .f32 0x4A800000#32 = ((2 ^ 22 : ℝ) : EReal) := by
  rw [show (2 ^ 22 : ℝ) = 4194304 by norm_num]; simp [Ideal.ofBits, Ideal.ieee, -EReal.coe_mul]; norm_num
theorem lit_k3 : Ideal.ofBits .f32 0x3F400000#32 = ((3 / 4 : ℝ) : EReal) := by simp [Ideal.ofBits, Ideal.ieee, -EReal.coe_mul]; norm_num
theorem lit_one : (1 : EReal) = ((1 : ℝ) : EReal) := EReal.coe_one.symm
theorem lit_quarter : Ideal.ofBits .f32 0x3E800000#32 = ((1 / 4 : ℝ) : EReal) := by simp [Ideal.ofBits, Ideal.ieee, -EReal.coe_mul]; norm_num
theorem lit_four : Ideal.ofBits .f32 0x40800000#32 = ((4 : ℝ) : EReal) := by simp [Ideal.ofBits, Ideal.ieee, -EReal.coe_mul]; norm_num
theorem lit_three : Ideal.ofBits .f32 0x40400000#32 = ((3 : ℝ) : EReal) := by simp [Ideal.ofBits, Ideal.ieee, -EReal.coe_mul]; norm_num
theorem lit_m2 : Ideal.ofBits .f32 0xC0000000#32 = ((-2 : ℝ) : EReal) := by simp [Ideal.ofBits, Ideal.ieee, -EReal.coe_mul, -EReal.coe_neg]; norm_num
theorem lit_376 : Ideal.ofBits .f32 0x43BC0000#32 = ((376 : ℝ) : EReal) := by simp [Ideal.ofBits, Ideal.ieee, -EReal.coe_mul]; norm_num
theorem lit_1024 : Ideal.ofBits .f32 0x44800000#32 = ((1024 : ℝ) : EReal) := by simp [Ideal.ofBits, Ideal.ieee, -EReal.coe_mul]; norm_num

/-- The cosine of `u` turns, by the quintic for a third of the angle. -/
def cosR (u : ℝ) : ℝ :=
  have d := min u (1 - u) - 1 / 4
  have s := d * (8784529 / 2 ^ 22 + d * d * (-12843930 / 2 ^ 23 + d * d * (11177712 / 2 ^ 25)))
  s * (4 * (s * s) - 3)

/-- The standard Gaussian of two numbers of twenty-four bits. -/
def gauss (x0 x1 : ℕ) : ℝ := Real.sqrt (-2 * Real.log ((x0 + 1 : ℝ) / 2 ^ 24)) * cosR (x1 / 2 ^ 24)

/-- An entry's noise in a matrix with `n` rows. -/
def noise (n : ℝ) (h0 h1 : BitVec 32) : ℝ := 1 / 10 * (Real.sqrt n)⁻¹ * gauss (h0 >>> 8).toNat (h1 >>> 8).toNat

theorem min_coe (a b : ℝ) : min (a : EReal) (b : EReal) = ((min a b : ℝ) : EReal) := (EReal.coe_strictMono.monotone.map_min).symm
theorem max_coe (a b : ℝ) : max (a : EReal) (b : EReal) = ((max a b : ℝ) : EReal) := (EReal.coe_strictMono.monotone.map_max).symm

/-- The reference's form of the Gaussian. -/
def epsE (n0 n1 : ℕ) : EReal :=
  have u1 : EReal := ((n0 : ℝ) : EReal) * Ideal.ofBits .f32 0x33800000#32
  have u : EReal := ((n1 : ℝ) : EReal) * Ideal.ofBits .f32 0x33800000#32
  have d := min u (1 - u) - Ideal.ofBits .f32 0x3E800000#32
  have d2 := d * d
  have s := d * (Ideal.ofBits .f32 0x40060A91#32 + d2 * (Ideal.ofBits .f32 0xBFC3FB9A#32 + d2 * Ideal.ofBits .f32 0x3EAA8EF0#32))
  Ideal.sqrt (Ideal.ofBits .f32 0xC0000000#32 * Ideal.log u1) * (s * (Ideal.ofBits .f32 0x40800000#32 * (s * s) - Ideal.ofBits .f32 0x40400000#32))

theorem log_nonpos (x : ℕ) (hx : x < 2 ^ 24) : Real.log ((x + 1 : ℝ) / 2 ^ 24) ≤ 0 := by
  apply Real.log_nonpos (by positivity)
  rw [div_le_one (by positivity)]
  exact_mod_cast hx

theorem epsE_eq (x0 x1 : ℕ) (h0 : x0 < 2 ^ 24) : epsE (x0 + 1) x1 = ((gauss x0 x1 : ℝ) : EReal) := by
  have hpos : ¬ ((x0 + 1 : ℝ) / 2 ^ 24) ≤ 0 := by rw [not_le]; positivity
  have hl := log_nonpos x0 h0
  have e1 : (x0 + 1 : ℝ) * (1 / 2 ^ 24) = (x0 + 1 : ℝ) / 2 ^ 24 := by ring
  have hs : ¬ (-2 * Real.log ((x0 + 1 : ℝ) / 2 ^ 24)) < 0 := by rw [not_lt]; linarith
  have e2 : (x1 : ℝ) * (1 / 2 ^ 24) = (x1 : ℝ) / 2 ^ 24 := by ring
  simp only [epsE, lit_b0, lit_b1, lit_b2, lit_inv24, lit_one, lit_quarter, lit_four, lit_three, lit_m2, Nat.cast_add, Nat.cast_one, ← EReal.coe_mul,
    ← EReal.coe_sub, ← EReal.coe_add, min_coe, e1, e2, Ideal.log_coe, if_neg hpos, Ideal.sqrt_coe, if_neg hs]
  rfl

/-- The kernel's form of the negated noise: from the two hashes before their last step, at a scale `c`. -/
def negE (inv c : EReal) (m0 m1 : BitVec 32) : EReal :=
  have y := Ideal.log (((((tailW m0 >>> 8 ^^^ tailW m0 >>> 24) + 1#32).toInt : ℝ) : EReal) * Ideal.ofBits .f32 0x33800000#32) * inv * c
  have t : EReal := ((((tailW m1).sshiftRight 8 ^^^ tailW m1 >>> 24).toInt : ℝ) : EReal)
  have s := max t (-t) - Ideal.ofBits .f32 0x4A800000#32
  have z := s * s
  have sn := s * ((Ideal.ofBits .f32 0x02AA8EF0#32 * z + Ideal.ofBits .f32 0x9BC3FB9A#32) * z + Ideal.ofBits .f32 0x34060A91#32)
  (y * Ideal.rsqrt (max y (Ideal.ofBits .f32 0x02081CEA#32))) * (sn * (Ideal.ofBits .f32 0x3F400000#32 - sn * sn))

theorem toNat_lt (h : BitVec 32) : (h >>> 8).toNat < 2 ^ 24 := by
  rw [BitVec.toNat_ushiftRight, Nat.shiftRight_eq_div_pow]
  have := h.isLt
  omega

/-- A square root by the reciprocal square root, whose argument is kept away from zero. -/
theorem root_eq (y : ℝ) (hy : y = 0 ∨ 8920298 / 2 ^ 146 ≤ y) :
    (y : EReal) * Ideal.rsqrt (max (y : EReal) ((8920298 / 2 ^ 146 : ℝ) : EReal)) = ((Real.sqrt y : ℝ) : EReal) := by
  have hp : (0 : ℝ) < 8920298 / 2 ^ 146 := by positivity
  have hm : 0 < max y (8920298 / 2 ^ 146) := lt_max_of_lt_right hp
  rw [max_coe, Ideal.rsqrt_coe, if_neg (not_lt.2 hm.le), if_neg hm.ne', ← EReal.coe_mul]
  congr 1
  rcases hy with rfl | hy
  · simp
  · rw [max_eq_left hy, ← div_eq_mul_inv, Real.div_sqrt]

theorem scale_eq (n L : ℝ) (hn : 0 < n) (hL : 0 ≤ -L) :
    Real.sqrt (L * (-32 / (100 * n))) = 4 * (1 / 10 * (Real.sqrt n)⁻¹ * Real.sqrt (-2 * L)) := by
  have : L * (-32 / (100 * n)) = (4 * (1 / 10)) ^ 2 * (n⁻¹ * (-2 * L)) := by field_simp; ring
  rw [this, Real.sqrt_mul (by positivity), Real.sqrt_sq (by norm_num), Real.sqrt_mul (by positivity), Real.sqrt_inv]
  ring

theorem negE_eq (n : ℝ) (hn : 0 < n) (hn' : n ≤ 1024) (m0 m1 : BitVec 32) :
    negE (((Real.log 2)⁻¹ : ℝ) : EReal) (((-32 / (100 * n)) * Real.log 2 : ℝ) : EReal) m0 m1
      = ((-noise n (tailW m0 ^^^ tailW m0 >>> 16) (tailW m1 ^^^ tailW m1 >>> 16) : ℝ) : EReal) := by
  unfold noise negE
  have h0 := toNat_lt (tailW m0 ^^^ tailW m0 >>> 16)
  have h1 := toNat_lt (tailW m1 ^^^ tailW m1 >>> 16)
  rw [toInt_signed, top24]
  generalize hx0 : ((tailW m0 ^^^ tailW m0 >>> 16) >>> 8) = w0 at *
  generalize hx1 : ((tailW m1 ^^^ tailW m1 >>> 16) >>> 8).toNat = x1 at *
  have hi : (w0 + 1#32).toInt = (w0.toNat : ℤ) + 1 := by
    rw [BitVec.toInt_eq_toNat_cond, BitVec.toNat_add]
    have : (w0.toNat + (1#32).toNat) % 2 ^ 32 = w0.toNat + 1 := by
      rw [Nat.mod_eq_of_lt] <;> simp <;> omega
    rw [this]; split <;> omega
  rw [hi]
  generalize w0.toNat = x0 at *
  have hl := log_nonpos x0 h0
  set L := Real.log ((x0 + 1 : ℝ) / 2 ^ 24) with hL
  have hlog2 : Real.log 2 ≠ 0 := (Real.log_pos (by norm_num)).ne'
  have hpos : ¬ ((x0 + 1 : ℝ) * (1 / 2 ^ 24)) ≤ 0 := by rw [not_le]; positivity
  have e1 : Real.log ((x0 + 1 : ℝ) * (1 / 2 ^ 24)) = L := by rw [hL]; congr 1; ring
  have ey : L * (Real.log 2)⁻¹ * (-32 / (100 * n) * Real.log 2) = L * (-32 / (100 * n)) := by field_simp
  have hy : L * (-32 / (100 * n)) = 0 ∨ 8920298 / 2 ^ 146 ≤ L * (-32 / (100 * n)) := by
    rcases Nat.lt_or_ge (x0 + 1) (2 ^ 24) with hlt | hge
    · right
      have hb : L ≤ (x0 + 1 : ℝ) / 2 ^ 24 - 1 := Real.log_le_sub_one_of_pos (by positivity)
      have hb' : (x0 + 1 : ℝ) + 1 ≤ 2 ^ 24 := by exact_mod_cast hlt
      have hb2 : L ≤ -(1 / 2 ^ 24) := by
        have : (x0 + 1 : ℝ) / 2 ^ 24 ≤ (2 ^ 24 - 1) / 2 ^ 24 := div_le_div_of_nonneg_right (by linarith) (by positivity)
        have e : ((2 : ℝ) ^ 24 - 1) / 2 ^ 24 = 1 - 1 / 2 ^ 24 := by norm_num
        linarith
      have : L * (-32 / (100 * n)) = (-L) * (32 / (100 * n)) := by ring
      rw [this]
      have hc : (32 : ℝ) / (100 * 1024) ≤ 32 / (100 * n) := by
        apply div_le_div_of_nonneg_left <;> linarith
      calc (8920298 : ℝ) / 2 ^ 146 ≤ (1 / 2 ^ 24) * (32 / (100 * 1024)) := by norm_num
        _ ≤ (-L) * (32 / (100 * n)) := mul_le_mul (by linarith) hc (by positivity) (by linarith)
    · left
      have : x0 + 1 = 2 ^ 24 := by omega
      have : (x0 + 1 : ℝ) = 2 ^ 24 := by exact_mod_cast this
      rw [hL, this]; simp
  have et : ∀ x : ℕ, x < 2 ^ 24 → max ((if x < 2 ^ 23 then (x : ℤ) else (x : ℤ) - 2 ^ 24 : ℤ) : ℝ) (-((if x < 2 ^ 23 then (x : ℤ) else (x : ℤ) - 2 ^ 24 : ℤ) : ℝ)) - 2 ^ 22
      = 2 ^ 24 * (min ((x : ℝ) / 2 ^ 24) (1 - (x : ℝ) / 2 ^ 24) - 1 / 4) := by
    intro x hx
    have hx' : (x : ℝ) < 2 ^ 24 := by exact_mod_cast hx
    have hx0 : (0 : ℝ) ≤ x := by positivity
    split
    · rename_i h
      have h' : (x : ℝ) < 2 ^ 23 := by exact_mod_cast h
      push_cast
      rw [max_eq_left (by linarith), min_eq_left]
      · ring
      · rw [le_sub_iff_add_le, ← add_div, div_le_one (by positivity)]; linarith
    · rename_i h
      have h' : (2 : ℝ) ^ 23 ≤ x := by exact_mod_cast not_lt.1 h
      push_cast
      rw [max_eq_right (by linarith), min_eq_right]
      · ring
      · rw [sub_le_iff_le_add, ← add_div, le_div_iff₀ (by positivity)]; linarith
  simp only [lit_a0, lit_a1, lit_a2, lit_inv24, lit_p22, lit_k3, lit_tiny, Int.cast_add, Int.cast_natCast, Int.cast_one, ← EReal.coe_mul,
    ← EReal.coe_sub, ← EReal.coe_add, ← EReal.coe_neg, max_coe, Ideal.log_coe, if_neg hpos, e1, ey, et x1 h1]
  rw [← max_coe, root_eq _ hy, ← EReal.coe_mul, scale_eq n L hn (by linarith)]
  congr 1
  unfold gauss cosR
  simp only [← hL]
  generalize min ((x1 : ℝ) / 2 ^ 24) (1 - (x1 : ℝ) / 2 ^ 24) - 1 / 4 = d
  ring

end Cert.Noise
-- ==== Proof.TileVal.lean ====
module

public import proofs.«01_k».proof.Proof.Tile
public import proofs.«01_k».proof.Proof.Noise
public import Idealize.ShloMosaic.Lib.Pointwise

@[expose] public section

set_option maxRecDepth 16384
set_option maxHeartbeats 1000000

noncomputable section

namespace Cert.KernelIdeal

open Idealize.ShloMosaic Idealize.ShloMosaic.TcCoe
open Cert.KernelIdeal.Gen Cert.Words Cert.Noise

/-- The noise of the entry at row `R` and column `q` of a matrix of `n` rows and `w` columns, under the key `k`. -/
def nz (n : ℝ) (w : ℕ) (k : BitVec 32) (R q : ℕ) : ℝ :=
  noise n (fmW (k ^^^ BitVec.ofNat 32 (2 * (R * w + q)))) (fmW (k ^^^ (BitVec.ofNat 32 (2 * (R * w + q)) + 1#32)))

/-- A base weight with the noise added or subtracted. -/
def sgn (s : ℕ) (b : EReal) (x : ℝ) : EReal := if s = 0 then b + (x : EReal) else b - (x : EReal)

theorem named_inv : Named.named (F := Ideal) κ "inv_ln2" (φ := .f32) 0x3FB8AA3B#32 = (((Real.log 2)⁻¹ : ℝ) : EReal) :=
  IdealRules.named_const.ideal_named_scalar _ _ _ _ rfl
theorem named_one : Named.named (F := Ideal) κ "noise1" (φ := .f32) 0xBA1AA45B#32 = (((-32 / (100 * 376)) * Real.log 2 : ℝ) : EReal) := by
  rw [IdealRules.named_const.ideal_named_scalar _ _ _ (((-1 / 1175) * (Real.log 2) : ℝ) : EReal) rfl]; norm_num

theorem noiseV_at (S : Shape) (cc : EReal) (m0 m1 : IVec S 32) (j : S.Idx) :
    noiseV (F := Ideal) S cc m0 m1 j = negE (Named.named (F := Ideal) κ "inv_ln2" (φ := .f32) 0x3FB8AA3B#32) cc (m0 j) (m1 j) := rfl

theorem genV_at (S : Shape) (ctr : IVec S 32) (k : BitVec 32) (cc t : BitVec 32) (j : S.Idx) (rt r u l : ℕ) (hrt : rt < 24) (hr : r < 16) (hu : u < 8) (hl : l < 128)
    (hctr : ctr j = BitVec.ofNat 32 r <<< 11 ^^^ BitVec.ofNat 32 l <<< 1) (hcc : cc * 2#32 + t = BitVec.ofNat 32 u) :
    genV (F := Ideal) S ctr (k ^^^ k >>> 16) 2246822507#32 (rowA rt) (rowG rt) cc t j = ((-nz 376 1024 k (16 * rt + r) (128 * u + l) : ℝ) : EReal) := by
  have e0 : (addi (headV S ctr (k ^^^ k >>> 16) 2246822507#32 (rowA rt)) (broadcast S (colK (k ^^^ k >>> 16) 2246822507#32 cc t))) j
      = preW (k ^^^ BitVec.ofNat 32 (2 * ((16 * rt + r) * 1024 + (128 * u + l)))) := by
    rw [← tile_pre k rt r u l hrt hr hu hl, ← hctr, ← hcc]
    rfl
  have e1 : (addi (headV S ctr (k ^^^ k >>> 16) 2246822507#32 (rowA rt)) (broadcast S (Scalar.addi (colK (k ^^^ k >>> 16) 2246822507#32 cc t) (deltaK (k ^^^ k >>> 16) 2246822507#32 (rowG rt))))) j
      = preW (k ^^^ (BitVec.ofNat 32 (2 * ((16 * rt + r) * 1024 + (128 * u + l))) + 1#32)) := by
    have hd : deltaK (k ^^^ k >>> 16) 2246822507#32 (rowG rt) = if ((k ^^^ k >>> 16) ^^^ BitVec.ofNat 32 (rt / 2)) &&& 1#32 = 0#32 then 2246822507#32 else 2048144789#32 := by
      unfold deltaK rowG
      show (if (BitVec.ofBool (decide (((k ^^^ k >>> 16) ^^^ BitVec.ofNat 32 (rt / 2)) &&& 1#32 = 0#32))) = 1#1 then _ else _) = _
      by_cases hb : ((k ^^^ k >>> 16) ^^^ BitVec.ofNat 32 (rt / 2)) &&& 1#32 = 0#32
      · simp [hb]
      · simp [hb]
    rw [hd, ← tile_next k rt r u l hrt hr hu hl, ← e0]
    exact (BitVec.add_assoc _ _ _).symm
  unfold genV
  rw [noiseV_at, e0, e1, named_inv, named_one, negE_eq 376 (by norm_num) (by norm_num)]
  rfl

theorem sgn_zero (b : EReal) (x : ℝ) : b - ((-x : ℝ) : EReal) = sgn 0 b x := by
  rw [EReal.coe_neg, sub_eq_add_neg, neg_neg]; rfl
theorem sgn_one (b : EReal) (x : ℝ) : b + ((-x : ℝ) : EReal) = sgn 1 b x := by
  simp [sgn, EReal.coe_neg, sub_eq_add_neg]

/-- A tile of sixteen rows at an index. -/
theorem tile16_at (v0 v1 : IVec S16x128 32) (hv0 : ∀ (r : Fin 16) (l : Fin 128), v0 (ix2 r l) = BitVec.ofNat 32 r) (hv1 : ∀ (r : Fin 16) (l : Fin 128), v1 (ix2 r l) = BitVec.ofNat 32 l)
    (s : Fin 2) (k : BitVec 32) (c : Fin 4) (rt : Fin 24) (t : Fin 2) (base : Vec Ideal S1x16x128 .f32) (r : Fin 16) (l : Fin 128) :
    tile16 (F := Ideal) s.val v0 v1 (k ^^^ k >>> 16) 2246822507#32 (rowA rt) (rowG rt) (BitVec.ofNat 32 c) (BitVec.ofNat 32 t) base (ix3 0 r l)
      = sgn s.val (base (ix3 0 r l)) (nz 376 1024 k (16 * rt.val + r.val) (256 * c.val + 128 * t.val + l.val)) := by
  have hg := genV_at S16x128 (ctrV v0 v1) k (BitVec.ofNat 32 c) (BitVec.ofNat 32 t) (ix2 r l) rt.val r.val (2 * c.val + t.val) l.val rt.isLt r.isLt (by omega) l.isLt
    (by rw [← hv0 r l, ← hv1 r l]; rfl) (by apply BitVec.eq_of_toNat_eq; simp [BitVec.toNat_add, BitVec.toNat_mul]; omega)
  rw [show 128 * (2 * c.val + t.val) + l.val = 256 * c.val + 128 * t.val + l.val by ring] at hg
  unfold tile16 signV
  fin_cases s <;> pointwise
  · exact (congrArg _ hg).trans (sgn_zero _ _)
  · exact (congrArg _ hg).trans (sgn_one _ _)

/-- The last tile at an index: eight rows, and zeros below. -/
theorem tile8_at (v0 v1 : IVec S16x128 32) (hv0 : ∀ (r : Fin 16) (l : Fin 128), v0 (ix2 r l) = BitVec.ofNat 32 r) (hv1 : ∀ (r : Fin 16) (l : Fin 128), v1 (ix2 r l) = BitVec.ofNat 32 l)
    (s : Fin 2) (k : BitVec 32) (c : Fin 4) (t : Fin 2) (base : Vec Ideal S1x8x128 .f32) (r : Fin 16) (l : Fin 128) :
    tile8 (F := Ideal) s.val v0 v1 (k ^^^ k >>> 16) 2246822507#32 (rowA 23) (rowG 23) (BitVec.ofNat 32 c) (BitVec.ofNat 32 t) base (ix3 0 r l)
      = if h : r.val < 8 then sgn s.val (base (ix3 0 ⟨r.val, h⟩ l)) (nz 376 1024 k (368 + r.val) (256 * c.val + 128 * t.val + l.val)) else 0 := by
  unfold tile8 signV
  by_cases h : r.val < 8
  · have hg := genV_at S8x128 (extractStridedSlice S8x128 ![0, 0] (ctrV v0 v1) slices_S16x128_o0_0_S8x128) k (BitVec.ofNat 32 c) (BitVec.ofNat 32 t) (ix2 ⟨r.val, h⟩ l) 23 r.val (2 * c.val + t.val) l.val (by norm_num) r.isLt (by omega) l.isLt
      (by rw [← hv0 r l, ← hv1 r l]; pointwise; rfl) (by apply BitVec.eq_of_toNat_eq; simp [BitVec.toNat_add, BitVec.toNat_mul]; omega)
    rw [show 128 * (2 * c.val + t.val) + l.val = 256 * c.val + 128 * t.val + l.val by ring] at hg
    rw [dif_pos h]
    fin_cases s <;> pointwise <;> rw [dif_pos h]
    · exact (congrArg _ hg).trans (sgn_zero _ _)
    · exact (congrArg _ hg).trans (sgn_one _ _)
  · rw [dif_neg h]
    fin_cases s <;> pointwise <;> rw [dif_neg h]

/-- The perturbed weights of a chunk. -/
def W1 (x : S4x384x256.Idx → EReal) (k : BitVec 32) (c : Fin 4) (y : S2x384x256.Idx) : EReal :=
  if (y 1).val < 376 then sgn (y 0).val (x (ix3 c (y 1) (y 2))) (nz 376 1024 k (y 1).val (256 * c.val + (y 2).val)) else 0

theorem tilePiece_at (arg10 : Memref sig .tc .vmem S4x384x256 .f32) (v0 v1 : IVec S16x128 32) (hv0 : ∀ (r : Fin 16) (l : Fin 128), v0 (ix2 r l) = BitVec.ofNat 32 r) (hv1 : ∀ (r : Fin 16) (l : Fin 128), v1 (ix2 r l) = BitVec.ofNat 32 l)
    (k : BitVec 32) (X10 : BufTy.Contents (Elt Ideal) arg10.view.ty) (c : Fin 4) (rt : Fin 24) (t s : Fin 2) (x) :
    (tilePiece (F := Ideal) arg10 v0 v1 (k ^^^ k >>> 16) 2246822507#32 X10 c rt t s).2 x
      = W1 (arg10.view.read (Elt Ideal) X10) k c ((tilePiece (F := Ideal) arg10 v0 v1 (k ^^^ k >>> 16) 2246822507#32 X10 c rt t s).1.emb x) := by
  revert x
  show ∀ x : S1x16x128.Idx, _
  intro x
  obtain ⟨z, r, l, rfl⟩ : ∃ (z : Fin 1) (r : Fin 16) (l : Fin 128), x = ix3 z r l := ⟨x 0, x 1, x 2, by funext a; fin_cases a <;> rfl⟩
  obtain rfl : z = 0 := Subsingleton.elim _ _
  have he : (tilePiece (F := Ideal) arg10 v0 v1 (k ^^^ k >>> 16) 2246822507#32 X10 c rt t s).1.emb (ix3 (0 : Fin 1) r l) = ix3 s (⟨16 * rt.val + r.val, by omega⟩ : Fin 384) (⟨128 * t.val + l.val, by omega⟩ : Fin 256) := by
    funext a; apply Fin.ext; fin_cases a
    · show s.val + 1 * 0 = s.val; omega
    · show 16 * rt.val + 1 * r.val = 16 * rt.val + r.val; omega
    · show 128 * t.val + 1 * l.val = 128 * t.val + l.val; omega
  rw [he]
  unfold tilePiece W1
  dsimp only
  by_cases h : rt.val < 23
  · rw [dif_pos h, tile16_at v0 v1 hv0 hv1]
    have h' : 16 * rt.val + r.val < 376 := by omega
    show _ = if 16 * rt.val + r.val < 376 then sgn s.val _ (nz 376 1024 k (16 * rt.val + r.val) (256 * c.val + (128 * t.val + l.val))) else 0
    rw [if_pos h', Nat.add_assoc]
    congr 1
    show arg10.view.read (Elt Ideal) X10 _ = arg10.view.read (Elt Ideal) X10 _
    congr 1
    funext a; apply Fin.ext; fin_cases a
    · show c.val + 1 * 0 = c.val; omega
    · show 16 * rt.val + 1 * r.val = 16 * rt.val + r.val; omega
    · show 128 * t.val + 1 * l.val = 128 * t.val + l.val; omega
  · have hr : rt = 23 := by apply Fin.ext; have := rt.isLt; show rt.val = 23; omega
    subst hr
    rw [dif_neg h]
    refine (tile8_at v0 v1 hv0 hv1 s k c t _ r l).trans ?_
    show _ = if 368 + r.val < 376 then sgn s.val _ (nz 376 1024 k (368 + r.val) (256 * c.val + (128 * t.val + l.val))) else 0
    by_cases h8 : r.val < 8
    · rw [dif_pos h8, if_pos (by omega), Nat.add_assoc]
      congr 1
      show arg10.view.read (Elt Ideal) X10 _ = arg10.view.read (Elt Ideal) X10 _
      congr 1
      funext a; apply Fin.ext; fin_cases a
      · show c.val + 1 * 0 = c.val; omega
      · show 368 + 1 * r.val = 368 + r.val; omega
      · show 128 * t.val + 1 * l.val = 128 * t.val + l.val; omega
    · rw [dif_neg h8, if_neg (by omega)]

theorem tilePiece_mem (arg10 : Memref sig .tc .vmem S4x384x256 .f32) (v0 v1 : IVec S16x128 32)
    (K M : BitVec 32) (X10 : BufTy.Contents (Elt Ideal) arg10.view.ty) (c : Fin 4) (y : S2x384x256.Idx) :
    ∃ p ∈ tiles (F := Ideal) arg10 v0 v1 K M X10 c, y ∈ p.1.set := by
  have h0 : (y 0).val < 2 := (y 0).isLt
  have h1 : (y 1).val < 384 := (y 1).isLt
  have h2 : (y 2).val < 256 := (y 2).isLt
  refine ⟨tilePiece (F := Ideal) arg10 v0 v1 K M X10 c ⟨(y 1).val / 16, by omega⟩ ⟨(y 2).val / 128, by omega⟩ ⟨(y 0).val, h0⟩, ?_, ?_⟩
  · unfold tiles
    rw [List.mem_flatMap]
    refine ⟨⟨(y 1).val / 16, by omega⟩, by simp, ?_⟩
    generalize (⟨(y 2).val / 128, _⟩ : Fin 2) = t
    generalize (⟨(y 0).val, h0⟩ : Fin 2) = s
    fin_cases t <;> fin_cases s <;> simp
  · refine (LoadRect.mem_set _).mpr fun a => ?_
    fin_cases a
    · exact ⟨0, by show 0 < 1; omega, by show (y 0).val = (y 0).val + 1 * 0; omega⟩
    · exact ⟨(y 1).val % 16, by show (y 1).val % 16 < 16; omega, by show (y 1).val = 16 * ((y 1).val / 16) + 1 * ((y 1).val % 16); omega⟩
    · exact ⟨(y 2).val % 128, by show (y 2).val % 128 < 128; omega, by show (y 2).val = 128 * ((y 2).val / 128) + 1 * ((y 2).val % 128); omega⟩

/-- What a chunk's tiles leave. -/
theorem tiles_canon (arg10 : Memref sig .tc .vmem S4x384x256 .f32) (v0 v1 : IVec S16x128 32) (hv0 : ∀ (r : Fin 16) (l : Fin 128), v0 (ix2 r l) = BitVec.ofNat 32 r) (hv1 : ∀ (r : Fin 16) (l : Fin 128), v1 (ix2 r l) = BitVec.ofNat 32 l)
    (k : BitVec 32) (X10 : BufTy.Contents (Elt Ideal) arg10.view.ty) (c : Fin 4) :
    View.canon (tiles (F := Ideal) arg10 v0 v1 (k ^^^ k >>> 16) 2246822507#32 X10 c) = W1 (arg10.view.read (Elt Ideal) X10) k c := by
  funext y
  refine View.canon_apply_of_pieces (W1 (arg10.view.read (Elt Ideal) X10) k c) _ ?_ y (tilePiece_mem arg10 v0 v1 _ _ X10 c y)
  intro p hp x
  unfold tiles at hp
  rw [List.mem_flatMap] at hp
  obtain ⟨rt, _, hp⟩ := hp
  simp only [List.mem_cons, List.not_mem_nil, or_false] at hp
  rcases hp with rfl | rfl | rfl | rfl <;> exact tilePiece_at arg10 v0 v1 hv0 hv1 k X10 c rt _ _ x

end Cert.KernelIdeal
-- ==== Proof.HidVal.lean ====
module

public import proofs.«01_k».proof.Proof.TripTiles
public import proofs.«01_k».proof.Proof.TileVal
public import Idealize.ShloMosaic.Lib.Pointwise
public import Idealize.ShloMosaic.Lib.ValueIdx
public import Idealize.ShloMosaic.Lib.WritesUnit

@[expose] public section

set_option maxRecDepth 16384
set_option maxHeartbeats 1000000

noncomputable section

namespace Cert.KernelIdeal

open Idealize.ShloMosaic Idealize.ShloMosaic.TcCoe
open Cert.KernelIdeal.Gen

/-- A chunk of hidden activations, from the window, a sign's weights and the biases. -/
def hidP {F : FTy → Type} [FloatOps F] [Named F] (x : Vec F S128x384 .bf16) (w : Vec F S1x384x256 .bf16) (b : Vec F S1x1x256 .f32) : FVec F S1x1x1x128x256 .bf16 :=
  shapeCast S1x1x1x128x256 (truncf .bf16 (tanh (addf (matmul dot_S128x384_S384x256_S128x256_1_0_0_1_n_n none (shapeCast S128x384 x shapeCasts_S128x384_S128x384)
    (shapeCast S384x256 w shapeCasts_S1x384x256_S384x256) (constant S128x256 .f32 0x00000000#32)) (broadcastTo S128x256 (shapeCast S1x256 b shapeCasts_S1x1x256_S1x256) broadcasts_S1x256_S128x256))) bitsLt_bf16_f32) shapeCasts_S128x256_S1x1x1x128x256

theorem trip_hid (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt Ideal) arg2.view.ty) (X5 : BufTy.Contents (Elt Ideal) arg5.view.ty) (X10 : BufTy.Contents (Elt Ideal) arg10.view.ty) (f14 : BufTy.Contents (Elt Ideal) arg14.view.ty) (k : Fin k0_t2_loop.trips) :
    ∃ h1 h2 h3 h4 g0 g1 b1 b2 x0, (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).2.2.1 = [
      ⟨Rect.unit (k0_off56 i k) S1x1x1x128x256.size h1, hidP (View.readAt (Elt Ideal) arg2.view (Rect.unit ![0, 0] S128x384.size x0 : Rect S128x384).toLoadRect X2) (arg13.view.readCov (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).1 (Rect.unit ![1, 0, 0] S1x384x256.size g1 : Rect S2x384x256).toLoadRect) (View.readAt (Elt Ideal) arg5.view (Rect.unit (k0_off54 k) S1x1x256.size b1 : Rect S4x1x256).toLoadRect X5)⟩,
      ⟨Rect.unit (k0_off55 i k) S1x1x1x128x256.size h2, hidP (View.readAt (Elt Ideal) arg2.view (Rect.unit ![0, 0] S128x384.size x0 : Rect S128x384).toLoadRect X2) (arg13.view.readCov (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).1 (Rect.unit ![0, 0, 0] S1x384x256.size g0 : Rect S2x384x256).toLoadRect) (View.readAt (Elt Ideal) arg5.view (Rect.unit (k0_off54 k) S1x1x256.size b1 : Rect S4x1x256).toLoadRect X5)⟩,
      ⟨Rect.unit (k0_off5 i k) S1x1x1x128x256.size h3, hidP (View.readAt (Elt Ideal) arg2.view (Rect.unit ![0, 0] S128x384.size x0 : Rect S128x384).toLoadRect X2) (View.readAt (Elt Ideal) arg14.view (Rect.unit ![1, 0, 0] S1x384x256.size g1 : Rect S2x384x256).toLoadRect f14) (View.readAt (Elt Ideal) arg5.view (Rect.unit (k0_off3 k) S1x1x256.size b2 : Rect S4x1x256).toLoadRect X5)⟩,
      ⟨Rect.unit (k0_off4 i k) S1x1x1x128x256.size h4, hidP (View.readAt (Elt Ideal) arg2.view (Rect.unit ![0, 0] S128x384.size x0 : Rect S128x384).toLoadRect X2) (View.readAt (Elt Ideal) arg14.view (Rect.unit ![0, 0, 0] S1x384x256.size g0 : Rect S2x384x256).toLoadRect f14) (View.readAt (Elt Ideal) arg5.view (Rect.unit (k0_off3 k) S1x1x256.size b2 : Rect S4x1x256).toLoadRect X5)⟩] := by
  exact ⟨_, _, _, _, _, _, _, _, _, by with_unfolding_all rfl⟩

theorem hidP_at (x : Vec Ideal S128x384 .bf16) (w : Vec Ideal S1x384x256 .bf16) (b : Vec Ideal S1x1x256 .f32) (y : Fin 128) (j : Fin 256) :
    hidP (F := Ideal) x w b (ix5 0 0 0 y j) = Ideal.tanh (∑ q : Fin 384, x (ix2 y q) * w (ix3 0 q j) + b (ix3 0 0 j)) := by
  unfold hidP
  pointwise

/-- A hidden activation, from the window, the weights and the biases. -/
def hidE (x : S128x384.Idx → EReal) (w : S2x384x256.Idx → EReal) (b : S4x1x256.Idx → EReal) (cc : Fin 4) (s : Fin 2) (y : Fin 128) (j : Fin 256) : EReal :=
  Ideal.tanh (∑ q : Fin 384, x (ix2 y q) * w (ix3 s q j) + b (ix3 cc 0 j))

theorem ld_x (x : S128x384.Idx → EReal) (h) (y : Fin 128) (q : Fin 384) :
    View.ld (Val := Elt Ideal) (e' := .bf16) x (Rect.unit ![0, 0] S128x384.size h : Rect S128x384) (ix2 y q) = x (ix2 y q) := by
  show x _ = x _
  congr 1
  funext a; apply Fin.ext; fin_cases a
  · show 0 + 1 * y.val = y.val; omega
  · show 0 + 1 * q.val = q.val; omega

theorem ld_w (w : S2x384x256.Idx → EReal) (off : Fin 3 → ℕ) (s : Fin 2) (ho : off = ![s.val, 0, 0]) (h) (q : Fin 384) (j : Fin 256) :
    View.ld (Val := Elt Ideal) (e' := .bf16) w (Rect.unit off S1x384x256.size h : Rect S2x384x256) (ix3 0 q j) = w (ix3 s q j) := by
  subst ho
  show w _ = w _
  congr 1
  funext a; apply Fin.ext; fin_cases a
  · show s.val + 1 * 0 = s.val; omega
  · show 0 + 1 * q.val = q.val; omega
  · show 0 + 1 * j.val = j.val; omega

theorem ld_b (b : S4x1x256.Idx → EReal) (off : Fin 3 → ℕ) (cc : Fin 4) (ho : off = ![cc.val, 0, 0]) (h) (j : Fin 256) :
    View.ld (Val := Elt Ideal) (e' := .f32) b (Rect.unit off S1x1x256.size h : Rect S4x1x256) (ix3 0 0 j) = b (ix3 cc 0 j) := by
  subst ho
  show b _ = b _
  congr 1
  funext a; apply Fin.ext; fin_cases a
  · show cc.val + 1 * 0 = cc.val; omega
  · rfl
  · show 0 + 1 * j.val = j.val; omega

theorem hidP_ld (x : S128x384.Idx → EReal) (w : S2x384x256.Idx → EReal) (b : S4x1x256.Idx → EReal) (cc : Fin 4) (s : Fin 2)
    (ow : Fin 3 → ℕ) (how : ow = ![s.val, 0, 0]) (ob : Fin 3 → ℕ) (hob : ob = ![cc.val, 0, 0]) (h0 h1 h2) (y : Fin 128) (j : Fin 256) :
    hidP (F := Ideal) (View.ld (Val := Elt Ideal) (e' := .bf16) x (Rect.unit ![0, 0] S128x384.size h0 : Rect S128x384))
      (View.ld (Val := Elt Ideal) (e' := .bf16) w (Rect.unit ow S1x384x256.size h1 : Rect S2x384x256))
      (View.ld (Val := Elt Ideal) (e' := .f32) b (Rect.unit ob S1x1x256.size h2 : Rect S4x1x256)) (ix5 0 0 0 y j) = hidE x w b cc s y j := by
  rw [hidP_at]
  unfold hidE
  rw [ld_b b ob cc hob]
  congr 2
  refine Finset.sum_congr rfl fun q _ => ?_
  rw [ld_w w ow s how, ld_x]

theorem rw5 (v : View sig .tc .vmem S2x2x4x128x256 .bf16) (f : v.ty.Contents (Elt Ideal)) (L : List (View.Piece (Elt Ideal) S2x2x4x128x256 .bf16))
    (off : Fin 5 → ℕ) (h) (w : S1x1x1x128x256.Idx → EReal) (p0 s0 c0 : ℕ) (ho : off = ![p0, s0, c0, 0, 0])
    (p s : Fin 2) (c : Fin 4) (y : Fin 128) (j : Fin 256) :
    v.read (Elt Ideal) (v.writes (Elt Ideal) f ((⟨Rect.unit off S1x1x1x128x256.size h, w⟩ : View.Piece (Elt Ideal) S2x2x4x128x256 .bf16) :: L)) (ix5 p s c y j)
      = if p.val = p0 ∧ s.val = s0 ∧ c.val = c0 then w (ix5 0 0 0 y j) else v.read (Elt Ideal) (v.writes (Elt Ideal) f L) (ix5 p s c y j) := by
  by_cases hc : p.val = p0 ∧ s.val = s0 ∧ c.val = c0
  · rw [if_pos hc]
    obtain ⟨h1, h2, h3⟩ := hc
    refine View.read_writes_cons_unit_of_mem v f h w L _ (ix5 (0 : Fin 1) (0 : Fin 1) (0 : Fin 1) y j) ho fun a => ?_
    fin_cases a
    · show p.val = p0 + 0; omega
    · show s.val = s0 + 0; omega
    · show c.val = c0 + 0; omega
    · show y.val = 0 + y.val; omega
    · show j.val = 0 + j.val; omega
  · rw [if_neg hc]
    by_cases h1 : p.val = p0
    · by_cases h2 : s.val = s0
      · have h3 : c.val ≠ c0 := fun h3 => hc ⟨h1, h2, h3⟩
        refine View.read_writes_cons_unit_of_not_mem v f h w L _ ho 2 ?_
        show c.val < c0 ∨ c0 + 1 ≤ c.val
        omega
      · refine View.read_writes_cons_unit_of_not_mem v f h w L _ ho 1 ?_
        show s.val < s0 ∨ s0 + 1 ≤ s.val
        omega
    · refine View.read_writes_cons_unit_of_not_mem v f h w L _ ho 0 ?_
      show p.val < p0 ∨ p0 + 1 ≤ p.val
      omega

/-- The first trip's activations. -/
theorem trip_hid_at (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (v15 : BitVec 32) (v35 : BitVec 32) (c_m2048144789_i32_13 : BitVec 32) (X2 : BufTy.Contents (Elt Ideal) arg2.view.ty) (X5 : BufTy.Contents (Elt Ideal) arg5.view.ty) (X10 : BufTy.Contents (Elt Ideal) arg10.view.ty) (f14 : BufTy.Contents (Elt Ideal) arg14.view.ty) (f16 : BufTy.Contents (Elt Ideal) arg16.view.ty) (k : Fin k0_t2_loop.trips)
    (ca cb : Fin 4) (hca : ca.val = 2 * k.val) (hcb : cb.val = (2 * k.val + 3) % 4)
    (hcov : ∀ y, ∃ p ∈ (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).1, y ∈ p.1.set)
    (p s : Fin 2) (cc : Fin 4) (y : Fin 128) (j : Fin 256) :
    arg16.view.read (Elt Ideal) (arg16.view.writes (Elt Ideal) f16 (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).2.2.1) (ix5 p s cc y j)
      = if p.val = (i 0).val % 2 ∧ cc = ca then
          hidE (arg2.view.read (Elt Ideal) X2) (View.canon (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).1) (arg5.view.read (Elt Ideal) X5) ca s y j
        else if p.val = ((i 0).val + 1 + k.val) % 2 ∧ cc = cb then
          hidE (arg2.view.read (Elt Ideal) X2) (arg14.view.read (Elt Ideal) f14) (arg5.view.read (Elt Ideal) X5) cb s y j
        else arg16.view.read (Elt Ideal) f16 (ix5 p s cc y j) := by
  obtain ⟨h1, h2, h3, h4, g0, g1, b1, b2, x0, e⟩ := trip_hid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k
  have hs : s.val = 0 ∨ s.val = 1 := by have := s.isLt; omega
  have e56 := k0_off56_eq' i k
  have e55 := k0_off55_eq' i k
  have e5 := k0_off5_eq' i k
  have e4 := k0_off4_eq' i k
  have e54 : k0_off54 k = ![ca.val, 0, 0] := by rw [hca]; exact k0_off54_eq k
  have e3 : k0_off3 k = ![cb.val, 0, 0] := by rw [hcb]; exact k0_off3_eq' k
  rw [e, rw5 _ _ _ _ _ _ _ _ _ e56, rw5 _ _ _ _ _ _ _ _ _ e55, rw5 _ _ _ _ _ _ _ _ _ e5, rw5 _ _ _ _ _ _ _ _ _ e4]
  rw [View.readCov_eq_canon_ld _ _ _ hcov, View.readCov_eq_canon_ld _ _ _ hcov]
  have p1 := hidP_ld (arg2.view.read (Elt Ideal) X2) (View.canon (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).1) (arg5.view.read (Elt Ideal) X5) ca 1 _ rfl _ e54 x0 g1 b1 y j
  have p2 := hidP_ld (arg2.view.read (Elt Ideal) X2) (View.canon (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 v35 c_m2048144789_i32_13 X2 X5 X10 f14 k).1) (arg5.view.read (Elt Ideal) X5) ca 0 _ rfl _ e54 x0 g0 b1 y j
  have p3 := hidP_ld (arg2.view.read (Elt Ideal) X2) (arg14.view.read (Elt Ideal) f14) (arg5.view.read (Elt Ideal) X5) cb 1 _ rfl _ e3 x0 g1 b2 y j
  have p4 := hidP_ld (arg2.view.read (Elt Ideal) X2) (arg14.view.read (Elt Ideal) f14) (arg5.view.read (Elt Ideal) X5) cb 0 _ rfl _ e3 x0 g0 b2 y j
  have hcca : cc = ca ↔ cc.val = 2 * k.val := by rw [← hca]; exact Fin.ext_iff
  have hccb : cc = cb ↔ cc.val = (2 * k.val + 3) % 4 := by rw [← hcb]; exact Fin.ext_iff
  rcases hs with hs | hs
  · obtain rfl : s = 0 := Fin.ext hs
    simp only [hcca, hccb]
    rw [if_neg (fun h => absurd h.2.1 (by decide))]
    by_cases hA : p.val = (i 0).val % 2 ∧ cc.val = 2 * k.val
    · rw [if_pos ⟨hA.1, rfl, hA.2⟩, if_pos hA]; exact p2
    · rw [if_neg (fun h => hA ⟨h.1, h.2.2⟩), if_neg hA, if_neg (fun h => absurd h.2.1 (by decide))]
      by_cases hB : p.val = ((i 0).val + 1 + k.val) % 2 ∧ cc.val = (2 * k.val + 3) % 4
      · rw [if_pos ⟨hB.1, rfl, hB.2⟩, if_pos hB]; exact p4
      · rw [if_neg (fun h => hB ⟨h.1, h.2.2⟩), if_neg hB]; rfl
  · obtain rfl : s = 1 := Fin.ext hs
    simp only [hcca, hccb]
    by_cases hA : p.val = (i 0).val % 2 ∧ cc.val = 2 * k.val
    · rw [if_pos ⟨hA.1, rfl, hA.2⟩, if_pos hA]; exact p1
    · rw [if_neg (fun h => hA ⟨h.1, h.2.2⟩), if_neg hA, if_neg (fun h => absurd h.2.1 (by decide))]
      by_cases hB : p.val = ((i 0).val + 1 + k.val) % 2 ∧ cc.val = (2 * k.val + 3) % 4
      · rw [if_pos ⟨hB.1, rfl, hB.2⟩, if_pos hB]; exact p3
      · rw [if_neg (fun h => hB ⟨h.1, h.2.2⟩), if_neg hB, if_neg (fun h => absurd h.2.1 (by decide))]; rfl

end Cert.KernelIdeal
-- ==== Proof.TripsVal.lean ====
module

public import proofs.«01_k».proof.Proof.HidVal

@[expose] public section

set_option maxRecDepth 16384
set_option maxHeartbeats 1000000

noncomputable section

namespace Cert.KernelIdeal

open Idealize.ShloMosaic Idealize.ShloMosaic.TcCoe
open Cert.KernelIdeal.Gen

/-- What the two trips of a step leave: the last two chunks' weights and the activations. -/
theorem trips_val (𝒱 : Variants) (c : Dev nD) (bd : Option 𝒱.V) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (v0 : IVec S16x128 32) (v1 : IVec S16x128 32) (hv0 : ∀ (r : Fin 16) (l : Fin 128), v0 (ix2 r l) = BitVec.ofNat 32 r) (hv1 : ∀ (r : Fin 16) (l : Fin 128), v1 (ix2 r l) = BitVec.ofNat 32 l)
    (v15 : BitVec 32) (kk : BitVec 32) (X2 : BufTy.Contents (Elt Ideal) arg2.view.ty) (X5 : BufTy.Contents (Elt Ideal) arg5.view.ty) (X10 : BufTy.Contents (Elt Ideal) arg10.view.ty) (f13 : BufTy.Contents (Elt Ideal) arg13.view.ty) (f14 : BufTy.Contents (Elt Ideal) arg14.view.ty) (f16 : BufTy.Contents (Elt Ideal) arg16.view.ty) :
    arg13.view.read (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 2).1 = W1 (arg10.view.read (Elt Ideal) X10) kk 2
    ∧ arg14.view.read (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 2).2.1 = W1 (arg10.view.read (Elt Ideal) X10) kk 3
    ∧ ∀ (p s : Fin 2) (cc : Fin 4) (y : Fin 128) (j : Fin 256),
      arg16.view.read (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 2).2.2 (ix5 p s cc y j)
        = if p.val = (i 0).val % 2 ∧ cc = 2 then hidE (arg2.view.read (Elt Ideal) X2) (W1 (arg10.view.read (Elt Ideal) X10) kk 2) (arg5.view.read (Elt Ideal) X5) 2 s y j
          else if p.val = (i 0).val % 2 ∧ cc = 1 then hidE (arg2.view.read (Elt Ideal) X2) (W1 (arg10.view.read (Elt Ideal) X10) kk 1) (arg5.view.read (Elt Ideal) X5) 1 s y j
          else if p.val = (i 0).val % 2 ∧ cc = 0 then hidE (arg2.view.read (Elt Ideal) X2) (W1 (arg10.view.read (Elt Ideal) X10) kk 0) (arg5.view.read (Elt Ideal) X5) 0 s y j
          else if p.val = ((i 0).val + 1) % 2 ∧ cc = 3 then hidE (arg2.view.read (Elt Ideal) X2) (arg14.view.read (Elt Ideal) f14) (arg5.view.read (Elt Ideal) X5) 3 s y j
          else arg16.view.read (Elt Ideal) f16 (ix5 p s cc y j) := by
  have e1 := trips_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) ⟨0, by decide⟩
  have e2 := trips_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) ⟨1, by decide⟩
  have e0 : trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 0 = (f13, f14, f16) := trips.eq_1 ..
  change trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1 = _ at e1
  change trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 2 = (arg13.view.writes (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).1 (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.1 ⟨1, by decide⟩).1,
         arg14.view.writes (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.1 (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.1 ⟨1, by decide⟩).2.1,
         arg16.view.writes (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.2 (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.1 ⟨1, by decide⟩).2.2.1) at e2
  dsimp only at e1
  rw [e0] at e1
  dsimp only at e1
  rw [e2]
  have hm := tilePiece_mem arg10 v0 v1 (kk ^^^ kk >>> 16) 2246822507#32 X10
  have hc := tiles_canon arg10 v0 v1 hv0 hv1 kk X10
  have q1 := fun g => trip_first (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 g
  have q2 := fun g => trip_second (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 g
  have q3 := fun g => trip_third (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 g
  have q4 := fun g => trip_fourth (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 g
  have r14 : arg14.view.read (Elt Ideal) (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.1 = W1 (arg10.view.read (Elt Ideal) X10) kk 1 := by
    rw [e1]
    dsimp only
    rw [q2, View.read_writes_eq_canon _ _ _ (hm 1), hc]
  refine ⟨?_, ?_, ?_⟩
  · dsimp only
    rw [q3, View.read_writes_eq_canon _ _ _ (hm 2), hc]
  · dsimp only
    rw [q4, View.read_writes_eq_canon _ _ _ (hm 3), hc]
  · intro p s cc y j
    dsimp only
    have t2 := trip_hid_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.1 (trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 (f13, f14, f16) 1).2.2 ⟨1, by decide⟩ 2 1 rfl rfl (by rw [q3]; exact hm 2) p s cc y j
    have t1 := trip_hid_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v15 (kk ^^^ kk >>> 16) 2246822507#32 X2 X5 X10 f14 f16 ⟨0, by decide⟩ 0 3 rfl rfl (by rw [q1]; exact hm 0) p s cc y j
    rw [t2, r14, q3, hc, show ((i 0).val + 1 + (⟨1, by decide⟩ : Fin k0_t2_loop.trips).val) % 2 = (i 0).val % 2 from by show ((i 0).val + 1 + 1) % 2 = _; omega]
    rw [e1]
    dsimp only
    rw [t1, q1, hc]
    rfl

end Cert.KernelIdeal
-- ==== Proof.RestVal.lean ====
module

public import proofs.«01_k».proof.Proof.TripsVal
public import proofs.«01_k».proof.Proof.Body

@[expose] public section

set_option maxRecDepth 16384
set_option maxHeartbeats 1000000

noncomputable section

namespace Cert.KernelIdeal

open Idealize.ShloMosaic Idealize.ShloMosaic.TcCoe
open Cert.KernelIdeal.Gen

/-- A layer's key, before its last mixing. -/
def lkey (s b l : BitVec 32) : BitVec 32 := Words.fmW (Words.fmW (s ^^^ b) ^^^ l)

/-- The rows and the lanes of a tile. -/
def io0 : IVec S16x128 32 := iota .tc S16x128 32 [0] iota_S16x128_d0_w32
def io1 : IVec S16x128 32 := iota .tc S16x128 32 [1] iota_S16x128_d1_w32

theorem io0_at (r : Fin 16) (l : Fin 128) : io0 (ix2 r l) = BitVec.ofNat 32 r := by
  unfold io0
  pointwise
theorem io1_at (r : Fin 16) (l : Fin 128) : io1 (ix2 r l) = BitVec.ofNat 32 l := by
  unfold io1
  pointwise

/-- The step's parity as the kernel computes it. -/
def par (i : grid0.Coords) : BitVec 32 := rest.sl.v15 i

theorem io0_eq : rest.sl.v0 = io0 := by with_unfolding_all rfl
theorem io1_eq : rest.sl.v1 = io1 := by with_unfolding_all rfl
theorem key_eq (i : grid0.Coords) (arg1 : Memref sig .tc .smem S1 .i32) (X1 : BufTy.Contents (Elt Ideal) arg1.view.ty) :
    rest.sl.v35 (F := Ideal) i arg1 X1 = (lkey (View.readAt (Elt Ideal) arg1.view (Rect.unit ![0] S1.size inb_S1_S1_0 : Rect S1).toLoadRect X1 (ix1 0)) (BitVec.ofNat 32 (i 0)) 0#32 ^^^ lkey (View.readAt (Elt Ideal) arg1.view (Rect.unit ![0] S1.size inb_S1_S1_0 : Rect S1).toLoadRect X1 (ix1 0)) (BitVec.ofNat 32 (i 0)) 0#32 >>> 16) := by
  have e0 : rest.sl.r (F := Ideal) arg1 X1 = (View.readAt (Elt Ideal) arg1.view (Rect.unit ![0] S1.size inb_S1_S1_0 : Rect S1).toLoadRect X1 (ix1 0)) := by
    unfold rest.sl.r
    refine congrArg _ (funext fun a => ?_)
    fin_cases a
    exact Subsingleton.elim (α := Fin 1) _ _
  have e1 : ∀ x : BitVec 32, Scalar.shrui x 16#32 = x >>> 16 := fun _ => rfl
  have e2 : ∀ x : BitVec 32, Scalar.shrui x 13#32 = x >>> 13 := fun _ => rfl
  have e3 : ∀ x y : BitVec 32, Scalar.xori x y = x ^^^ y := fun _ _ => rfl
  have e4 : ∀ x y : BitVec 32, Scalar.muli x y = x * y := fun _ _ => rfl
  simp only [rest.sl.v16, rest.sl.v17, rest.sl.v18, rest.sl.v19, rest.sl.v20, rest.sl.v21, rest.sl.v22, rest.sl.v23, rest.sl.v24, rest.sl.v25, rest.sl.v26, rest.sl.v27, rest.sl.v28, rest.sl.v29, rest.sl.v30, rest.sl.v31, rest.sl.v32, rest.sl.v33, rest.sl.v34, rest.sl.v35, e0, e1, e2, e3, e4, lkey, Words.fmW, Words.tailW, Words.preW]

theorem rest_13 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) :
    (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.1 = (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).1 := by
  with_unfolding_all rfl

theorem rest_14 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) :
    (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.1 = (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).2.1 := by
  with_unfolding_all rfl

end Cert.KernelIdeal
-- ==== Proof.OutVal.lean ====
module

public import proofs.«01_k».proof.Proof.RestVal

@[expose] public section

set_option maxRecDepth 16384
set_option maxHeartbeats 1000000

noncomputable section

namespace Cert.KernelIdeal

open Idealize.ShloMosaic Idealize.ShloMosaic.TcCoe
open Cert.KernelIdeal.Gen

attribute [local irreducible] trips

theorem rest_16 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) :
    (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.2.2.1 = (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).2.2 := by
  rfl

/-- A sign's block of the output, from four chunks of activations and of weights. -/
def outP (h0 h1 h2 h3 : Vec Ideal S1x1x1x128x256 .bf16) (w0 w1 w2 w3 : Vec Ideal S1x1x1x32x256 .bf16) (b : Vec Ideal S1x32 .f32) : FVec Ideal S1x1x128x17 .bf16 :=
  have mm (h : Vec Ideal S1x1x1x128x256 .bf16) (w : Vec Ideal S1x1x1x32x256 .bf16) : FVec Ideal S128x32 .f32 :=
    matmul (φ₁ := .bf16) (φ₂ := .bf16) dot_S128x256_S32x256_S128x32_1_1_0_0_n_n none (shapeCast S128x256 h shapeCasts_S1x1x1x128x256_S128x256) (shapeCast S32x256 w shapeCasts_S1x1x1x32x256_S32x256) (constant S128x32 .f32 0x00000000#32)
  shapeCast S1x1x128x17 (truncf .bf16 (extractStridedSlice S128x17 ![0, 0] (tanh (addf (addf (addf (addf (addf (broadcast S128x32 (Scalar.ofBits .f32 0x00000000#32))
    (mm h0 w0)) (mm h1 w1)) (mm h2 w2)) (mm h3 w3)) (broadcastTo S128x32 (shapeCast S1x32 b shapeCasts_S1x32_S1x32) broadcasts_S1x32_S128x32))) slices_S128x32_o0_0_S128x17) bitsLt_bf16_f32) shapeCasts_S128x17_S1x1x128x17

theorem outP_at (h0 h1 h2 h3 : Vec Ideal S1x1x1x128x256 .bf16) (w0 w1 w2 w3 : Vec Ideal S1x1x1x32x256 .bf16) (b : Vec Ideal S1x32 .f32) (y : Fin 128) (a : Fin 17) :
    outP h0 h1 h2 h3 w0 w1 w2 w3 b (ix4 0 0 y a) = Ideal.tanh
      (∑ x : Fin 256, h0 (ix5 0 0 0 y x) * w0 (ix5 0 0 0 (⟨a.val, by omega⟩ : Fin 32) x) + ∑ x : Fin 256, h1 (ix5 0 0 0 y x) * w1 (ix5 0 0 0 (⟨a.val, by omega⟩ : Fin 32) x) +
            ∑ x : Fin 256, h2 (ix5 0 0 0 y x) * w2 (ix5 0 0 0 (⟨a.val, by omega⟩ : Fin 32) x) +
          ∑ x : Fin 256, h3 (ix5 0 0 0 y x) * w3 (ix5 0 0 0 (⟨a.val, by omega⟩ : Fin 32) x) +
        b (ix2 0 (⟨a.val, by omega⟩ : Fin 32))) := by
  unfold outP
  pointwise

/-- An entry of the output, from a slot's activations and weights. -/
def outE (h : S2x2x4x128x256.Idx → EReal) (w : S2x2x4x32x256.Idx → EReal) (b : S1x32.Idx → EReal) (p s : Fin 2) (y : Fin 128) (a : Fin 17) : EReal :=
  Ideal.tanh
    (∑ x : Fin 256, h (ix5 p s 0 y x) * w (ix5 p s 0 (⟨a.val, by omega⟩ : Fin 32) x) + ∑ x : Fin 256, h (ix5 p s 1 y x) * w (ix5 p s 1 (⟨a.val, by omega⟩ : Fin 32) x) +
          ∑ x : Fin 256, h (ix5 p s 2 y x) * w (ix5 p s 2 (⟨a.val, by omega⟩ : Fin 32) x) +
        ∑ x : Fin 256, h (ix5 p s 3 y x) * w (ix5 p s 3 (⟨a.val, by omega⟩ : Fin 32) x) +
      b (ix2 0 (⟨a.val, by omega⟩ : Fin 32)))

theorem ld_h5 (h : S2x2x4x128x256.Idx → EReal) (off : Fin 5 → ℕ) (p s : Fin 2) (c : Fin 4) (ho : off = ![p.val, s.val, c.val, 0, 0]) (hi) (y : Fin 128) (j : Fin 256) :
    View.ld (Val := Elt Ideal) (e' := .bf16) h (Rect.unit off S1x1x1x128x256.size hi : Rect S2x2x4x128x256) (ix5 0 0 0 y j) = h (ix5 p s c y j) := by
  subst ho
  show h _ = h _
  congr 1
  funext a; apply Fin.ext; fin_cases a
  · show p.val + 1 * 0 = p.val; omega
  · show s.val + 1 * 0 = s.val; omega
  · show c.val + 1 * 0 = c.val; omega
  · show 0 + 1 * y.val = y.val; omega
  · show 0 + 1 * j.val = j.val; omega

theorem ld_w5 (h : S2x2x4x32x256.Idx → EReal) (off : Fin 5 → ℕ) (p s : Fin 2) (c : Fin 4) (ho : off = ![p.val, s.val, c.val, 0, 0]) (hi) (y : Fin 32) (j : Fin 256) :
    View.ld (Val := Elt Ideal) (e' := .bf16) h (Rect.unit off S1x1x1x32x256.size hi : Rect S2x2x4x32x256) (ix5 0 0 0 y j) = h (ix5 p s c y j) := by
  subst ho
  show h _ = h _
  congr 1
  funext a; apply Fin.ext; fin_cases a
  · show p.val + 1 * 0 = p.val; omega
  · show s.val + 1 * 0 = s.val; omega
  · show c.val + 1 * 0 = c.val; omega
  · show 0 + 1 * y.val = y.val; omega
  · show 0 + 1 * j.val = j.val; omega

theorem ld_b2 (b : S1x32.Idx → EReal) (hi) (a : Fin 32) :
    View.ld (Val := Elt Ideal) (e' := .f32) b (Rect.unit ![0, 0] S1x32.size hi : Rect S1x32) (ix2 0 a) = b (ix2 0 a) := by
  show b _ = b _
  congr 1
  funext x; apply Fin.ext; fin_cases x
  · rfl
  · show 0 + 1 * a.val = a.val; omega

theorem outP_ld (h : S2x2x4x128x256.Idx → EReal) (w : S2x2x4x32x256.Idx → EReal) (b : S1x32.Idx → EReal) (p s : Fin 2) (o0 o1 o2 o3 u0 u1 u2 u3 : Fin 5 → ℕ)
    (e0 : o0 = ![p.val, s.val, 0, 0, 0]) (e1 : o1 = ![p.val, s.val, 1, 0, 0]) (e2 : o2 = ![p.val, s.val, 2, 0, 0]) (e3 : o3 = ![p.val, s.val, 3, 0, 0])
    (f0 : u0 = ![p.val, s.val, 0, 0, 0]) (f1 : u1 = ![p.val, s.val, 1, 0, 0]) (f2 : u2 = ![p.val, s.val, 2, 0, 0]) (f3 : u3 = ![p.val, s.val, 3, 0, 0])
    (h0 h1 h2 h3 k0 k1 k2 k3 kb) (y : Fin 128) (a : Fin 17) :
    outP (View.ld (Val := Elt Ideal) (e' := .bf16) h (Rect.unit o0 S1x1x1x128x256.size h0 : Rect S2x2x4x128x256)) (View.ld (Val := Elt Ideal) (e' := .bf16) h (Rect.unit o1 S1x1x1x128x256.size h1 : Rect S2x2x4x128x256))
      (View.ld (Val := Elt Ideal) (e' := .bf16) h (Rect.unit o2 S1x1x1x128x256.size h2 : Rect S2x2x4x128x256)) (View.ld (Val := Elt Ideal) (e' := .bf16) h (Rect.unit o3 S1x1x1x128x256.size h3 : Rect S2x2x4x128x256))
      (View.ld (Val := Elt Ideal) (e' := .bf16) w (Rect.unit u0 S1x1x1x32x256.size k0 : Rect S2x2x4x32x256)) (View.ld (Val := Elt Ideal) (e' := .bf16) w (Rect.unit u1 S1x1x1x32x256.size k1 : Rect S2x2x4x32x256))
      (View.ld (Val := Elt Ideal) (e' := .bf16) w (Rect.unit u2 S1x1x1x32x256.size k2 : Rect S2x2x4x32x256)) (View.ld (Val := Elt Ideal) (e' := .bf16) w (Rect.unit u3 S1x1x1x32x256.size k3 : Rect S2x2x4x32x256))
      (View.ld (Val := Elt Ideal) (e' := .f32) b (Rect.unit ![0, 0] S1x32.size kb : Rect S1x32)) (ix4 0 0 y a) = outE h w b p s y a := by
  rw [outP_at]
  unfold outE
  simp only [fun hi y j => ld_h5 h o0 p s 0 e0 hi y j, fun hi y j => ld_h5 h o1 p s 1 e1 hi y j, fun hi y j => ld_h5 h o2 p s 2 e2 hi y j, fun hi y j => ld_h5 h o3 p s 3 e3 hi y j,
    fun hi y j => ld_w5 w u0 p s 0 f0 hi y j, fun hi y j => ld_w5 w u1 p s 1 f1 hi y j, fun hi y j => ld_w5 w u2 p s 2 f2 hi y j, fun hi y j => ld_w5 w u3 p s 3 f3 hi y j]
  exact congrArg (fun z => Ideal.tanh (_ + z)) (ld_b2 b kb _)

theorem sl_87 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (T : BufTy.Contents (Elt Ideal) arg16.view.ty) (hT : (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).2.2 = T) : ∃ hb, rest.sl.v87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X13 X14 X15 X16 = outP (View.readAt (Elt Ideal) arg16.view (Rect.unit (k0_off105 i) S1x1x1x128x256.size (k0_off105_inb i) : Rect S2x2x4x128x256).toLoadRect T) (View.readAt (Elt Ideal) arg16.view (Rect.unit (k0_off107 i) S1x1x1x128x256.size (k0_off107_inb i) : Rect S2x2x4x128x256).toLoadRect T) (View.readAt (Elt Ideal) arg16.view (Rect.unit (k0_off109 i) S1x1x1x128x256.size (k0_off109_inb i) : Rect S2x2x4x128x256).toLoadRect T) (View.readAt (Elt Ideal) arg16.view (Rect.unit (k0_off111 i) S1x1x1x128x256.size (k0_off111_inb i) : Rect S2x2x4x128x256).toLoadRect T) (View.readAt (Elt Ideal) arg15.view (Rect.unit (k0_off106 i) S1x1x1x32x256.size (k0_off106_inb i) : Rect S2x2x4x32x256).toLoadRect X15) (View.readAt (Elt Ideal) arg15.view (Rect.unit (k0_off108 i) S1x1x1x32x256.size (k0_off108_inb i) : Rect S2x2x4x32x256).toLoadRect X15) (View.readAt (Elt Ideal) arg15.view (Rect.unit (k0_off110 i) S1x1x1x32x256.size (k0_off110_inb i) : Rect S2x2x4x32x256).toLoadRect X15) (View.readAt (Elt Ideal) arg15.view (Rect.unit (k0_off112 i) S1x1x1x32x256.size (k0_off112_inb i) : Rect S2x2x4x32x256).toLoadRect X15) (View.readAt (Elt Ideal) arg8.view (Rect.unit ![0, 0] S1x32.size hb : Rect S1x32).toLoadRect X8) := by
  subst hT
  refine ⟨inb_S1x32_S1x32_0_0, ?_⟩
  unfold outP
  simp only [rest.sl.v87, rest.sl.v84, rest.sl.v83, rest.sl.v82, rest.sl.v81, rest.sl.v77, rest.sl.v67, rest.sl.r_1, rest.sl.v40, rest.sl.v50, rest.sl.v66, rest.sl.r_2, rest.sl.v60, rest.sl.v65, rest.sl.cst_48, rest.sl.v76, rest.sl.v71, rest.sl.v70, rest.sl.v75, rest.sl.v80, rest.sl.v79]
  rfl

theorem sl_138 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (T : BufTy.Contents (Elt Ideal) arg16.view.ty) (hT : (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).2.2 = T) : ∃ hb, rest.sl.v138 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X13 X14 X15 X16 = outP (View.readAt (Elt Ideal) arg16.view (Rect.unit (k0_off113 i) S1x1x1x128x256.size (k0_off113_inb i) : Rect S2x2x4x128x256).toLoadRect T) (View.readAt (Elt Ideal) arg16.view (Rect.unit (k0_off115 i) S1x1x1x128x256.size (k0_off115_inb i) : Rect S2x2x4x128x256).toLoadRect T) (View.readAt (Elt Ideal) arg16.view (Rect.unit (k0_off117 i) S1x1x1x128x256.size (k0_off117_inb i) : Rect S2x2x4x128x256).toLoadRect T) (View.readAt (Elt Ideal) arg16.view (Rect.unit (k0_off119 i) S1x1x1x128x256.size (k0_off119_inb i) : Rect S2x2x4x128x256).toLoadRect T) (View.readAt (Elt Ideal) arg15.view (Rect.unit (k0_off114 i) S1x1x1x32x256.size (k0_off114_inb i) : Rect S2x2x4x32x256).toLoadRect X15) (View.readAt (Elt Ideal) arg15.view (Rect.unit (k0_off116 i) S1x1x1x32x256.size (k0_off116_inb i) : Rect S2x2x4x32x256).toLoadRect X15) (View.readAt (Elt Ideal) arg15.view (Rect.unit (k0_off118 i) S1x1x1x32x256.size (k0_off118_inb i) : Rect S2x2x4x32x256).toLoadRect X15) (View.readAt (Elt Ideal) arg15.view (Rect.unit (k0_off120 i) S1x1x1x32x256.size (k0_off120_inb i) : Rect S2x2x4x32x256).toLoadRect X15) (View.readAt (Elt Ideal) arg8.view (Rect.unit ![0, 0] S1x32.size hb : Rect S1x32).toLoadRect X8) := by
  subst hT
  refine ⟨inb_S1x32_S1x32_0_0, ?_⟩
  unfold outP
  simp only [rest.sl.v138, rest.sl.v135, rest.sl.v134, rest.sl.v133, rest.sl.v132, rest.sl.v128, rest.sl.v118, rest.sl.v108, rest.sl.v98, rest.sl.v88, rest.sl.cst_65, rest.sl.v97, rest.sl.v92, rest.sl.v91, rest.sl.v96, rest.sl.cst_48, rest.sl.v107, rest.sl.v102, rest.sl.v101, rest.sl.v106, rest.sl.v117, rest.sl.v112, rest.sl.v111, rest.sl.v116, rest.sl.v127, rest.sl.v122, rest.sl.v121, rest.sl.v126, rest.sl.v80, rest.sl.v79]

theorem rest_9 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty)  : ∃ h1 h0, (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).1 = [
      ⟨Rect.unit ![0, 1, 0, 0] S1x1x128x17.size h1, rest.sl.v138 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X13 X14 X15 X16⟩, ⟨Rect.unit ![0, 0, 0, 0] S1x1x128x17.size h0, rest.sl.v87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X13 X14 X15 X16⟩] := by
  exact ⟨_, _, by rfl⟩

theorem canon_pair (P1 P0 : S1x1x128x17.Idx → EReal) (h1 h0) (s : Fin 2) (y : Fin 128) (a : Fin 17) :
    View.canon (Val := Elt Ideal) (s := S1x2x128x17) (e := .bf16) [⟨Rect.unit ![0, 1, 0, 0] S1x1x128x17.size h1, P1⟩, ⟨Rect.unit ![0, 0, 0, 0] S1x1x128x17.size h0, P0⟩] (ix4 0 s y a)
      = if s.val = 0 then P0 (ix4 0 0 y a) else P1 (ix4 0 0 y a) := by
  have hs : s.val = 0 ∨ s.val = 1 := by have := s.isLt; omega
  rcases hs with hs | hs
  · obtain rfl : s = 0 := Fin.ext hs
    rw [if_pos hs]
    have hn : (ix4 0 0 y a : S1x2x128x17.Idx) ∉ (Rect.unit ![0, 1, 0, 0] S1x1x128x17.size h1 : Rect S1x2x128x17).set := by
      rw [Rect.mem_set_unit]
      intro h
      have h := (h 1).1
      have h' : (1 : ℕ) ≤ 0 := h
      omega
    have hx : (Rect.unit ![0, 0, 0, 0] S1x1x128x17.size h0 : Rect S1x2x128x17).emb (ix4 (0 : Fin 1) (0 : Fin 1) y a) = ix4 0 0 y a := by
      funext x; apply Fin.ext; fin_cases x
      · rfl
      · rfl
      · show 0 + 1 * y.val = y.val; omega
      · show 0 + 1 * a.val = a.val; omega
    have e1 := View.canon_cons_of_not_mem (Val := Elt Ideal) (s := S1x2x128x17) (e := .bf16) ⟨Rect.unit ![0, 1, 0, 0] S1x1x128x17.size h1, P1⟩ [⟨Rect.unit ![0, 0, 0, 0] S1x1x128x17.size h0, P0⟩] hn
    have e2 := View.canon_cons_emb (Val := Elt Ideal) (s := S1x2x128x17) (e := .bf16) (Rect.unit ![0, 0, 0, 0] S1x1x128x17.size h0) P0 [] (ix4 (0 : Fin 1) (0 : Fin 1) y a)
    rw [hx] at e2
    exact e1.trans e2
  · obtain rfl : s = 1 := Fin.ext hs
    rw [if_neg (by omega)]
    have hx : (Rect.unit ![0, 1, 0, 0] S1x1x128x17.size h1 : Rect S1x2x128x17).emb (ix4 (0 : Fin 1) (0 : Fin 1) y a) = ix4 0 1 y a := by
      funext x; apply Fin.ext; fin_cases x
      · rfl
      · rfl
      · show 0 + 1 * y.val = y.val; omega
      · show 0 + 1 * a.val = a.val; omega
    have e2 := View.canon_cons_emb (Val := Elt Ideal) (s := S1x2x128x17) (e := .bf16) (Rect.unit ![0, 1, 0, 0] S1x1x128x17.size h1) P1 [⟨Rect.unit ![0, 0, 0, 0] S1x1x128x17.size h0, P0⟩] (ix4 (0 : Fin 1) (0 : Fin 1) y a)
    rw [hx] at e2
    exact e2

theorem sl_87_at (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (T : BufTy.Contents (Elt Ideal) arg16.view.ty) (hT : (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).2.2 = T) (p : Fin 2) (hp : p.val = ((i 0).val + 1) % 2) (y : Fin 128) (a : Fin 17) :
    rest.sl.v87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X13 X14 X15 X16 (ix4 0 0 y a) = outE (arg16.view.read (Elt Ideal) T) (arg15.view.read (Elt Ideal) X15) (arg8.view.read (Elt Ideal) X8) p 0 y a := by
  obtain ⟨hb, e⟩ := sl_87 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16 T hT
  rw [e]
  clear e hT
  exact outP_ld (arg16.view.read (Elt Ideal) T) (arg15.view.read (Elt Ideal) X15) (arg8.view.read (Elt Ideal) X8) p 0 _ _ _ _ _ _ _ _ (by rw [hp]; exact k0_off105_eq' i) (by rw [hp]; exact k0_off107_eq' i) (by rw [hp]; exact k0_off109_eq' i) (by rw [hp]; exact k0_off111_eq' i) (by rw [hp]; exact k0_off106_eq' i) (by rw [hp]; exact k0_off108_eq' i) (by rw [hp]; exact k0_off110_eq' i) (by rw [hp]; exact k0_off112_eq' i) _ _ _ _ _ _ _ _ _ y a

theorem sl_138_at (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (T : BufTy.Contents (Elt Ideal) arg16.view.ty) (hT : (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 i arg1 X1) 2246822507#32 X2 X5 X10 (X13, X14, X16) (Scf.trips k0_t2_loop.lb k0_t2_loop.ub k0_t2_loop.st)).2.2 = T) (p : Fin 2) (hp : p.val = ((i 0).val + 1) % 2) (y : Fin 128) (a : Fin 17) :
    rest.sl.v138 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X13 X14 X15 X16 (ix4 0 0 y a) = outE (arg16.view.read (Elt Ideal) T) (arg15.view.read (Elt Ideal) X15) (arg8.view.read (Elt Ideal) X8) p 1 y a := by
  obtain ⟨hb, e⟩ := sl_138 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16 T hT
  rw [e]
  clear e hT
  exact outP_ld (arg16.view.read (Elt Ideal) T) (arg15.view.read (Elt Ideal) X15) (arg8.view.read (Elt Ideal) X8) p 1 _ _ _ _ _ _ _ _ (by rw [hp]; exact k0_off113_eq' i) (by rw [hp]; exact k0_off115_eq' i) (by rw [hp]; exact k0_off117_eq' i) (by rw [hp]; exact k0_off119_eq' i) (by rw [hp]; exact k0_off114_eq' i) (by rw [hp]; exact k0_off116_eq' i) (by rw [hp]; exact k0_off118_eq' i) (by rw [hp]; exact k0_off120_eq' i) _ _ _ _ _ _ _ _ _ y a

/-- The block that a step writes to the output, at an index. -/
theorem rest_out_at (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (p s : Fin 2) (hp : p.val = ((i 0).val + 1) % 2) (y : Fin 128) (a : Fin 17) :
    View.canon (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).1 (ix4 0 s y a)
      = outE (arg16.view.read (Elt Ideal) (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.2.2.1) (arg15.view.read (Elt Ideal) X15) (arg8.view.read (Elt Ideal) X8) p s y a := by
  generalize hT : (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.2.2.1 = T
  rw [rest_16] at hT
  have e0 := sl_87_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16 T hT p hp y a
  have e1 := sl_138_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16 T hT p hp y a
  obtain ⟨h1, h0, e⟩ := rest_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16
  rw [e]
  refine (canon_pair _ _ h1 h0 s y a).trans ?_
  have hs : s.val = 0 ∨ s.val = 1 := by have := s.isLt; omega
  rcases hs with hs | hs
  · obtain rfl : s = 0 := Fin.ext hs
    exact (if_pos rfl).trans e0
  · obtain rfl : s = 1 := Fin.ext hs
    exact (if_neg (by show ¬ 1 = 0; omega)).trans e1

end Cert.KernelIdeal
-- ==== Proof.W2Val.lean ====
module

public import proofs.«01_k».proof.Proof.RestVal

@[expose] public section

set_option maxRecDepth 16384
set_option maxHeartbeats 1000000

noncomputable section

namespace Cert.KernelIdeal

open Idealize.ShloMosaic Idealize.ShloMosaic.TcCoe
open Cert.KernelIdeal.Gen

/-- A tile of the second layer's weights, with eight rows of zeros below. -/
def w2Tile (s : ℕ) (K D : BitVec 32) (ctr : Vec Ideal S24x128 .i32) (base : Vec Ideal S24x128 .f32) : FVec Ideal S1x1x1x32x128 .bf16 :=
  have m0 : IVec S24x128 32 := muli (xori ctr (broadcast S24x128 K)) (broadcast S24x128 2246822507#32)
  have m1 : IVec S24x128 32 := addi m0 (broadcast S24x128 D)
  shapeCast S1x1x1x32x128 (truncf .bf16 (concatenate S32x128 0 [⟨S24x128, signV s base (noiseV S24x128 (Named.named κ "noise2" 0xB9632166#32) m0 m1)⟩,
    ⟨S8x128, broadcast S8x128 (Scalar.ofBits .f32 0x00000000#32)⟩] concatenates_S24x128_S8x128_S32x128_d0) bitsLt_bf16_f32) shapeCasts_S32x128_S1x1x1x32x128

theorem rest_15 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) :
    (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.2.1 = [
      ⟨Rect.unit (k0_off136 i) S1x1x1x32x128.size (k0_off136_inb i), w2Tile 1 (rest.sl.v158 (F := Ideal) i arg1 X1) (rest.sl.v161 (F := Ideal) i arg1 X1) (View.readAt (Elt Ideal) arg12.view (Rect.unit ![0, 896] S24x128.size inb_S24x1024_S24x128_0_896 : Rect S24x1024).toLoadRect X12) (View.readAt (Elt Ideal) arg11.view (Rect.unit ![0, 896] S24x128.size inb_S32x1024_S24x128_0_896 : Rect S32x1024).toLoadRect X11)⟩,
      ⟨Rect.unit (k0_off135 i) S1x1x1x32x128.size (k0_off135_inb i), w2Tile 0 (rest.sl.v158 (F := Ideal) i arg1 X1) (rest.sl.v161 (F := Ideal) i arg1 X1) (View.readAt (Elt Ideal) arg12.view (Rect.unit ![0, 896] S24x128.size inb_S24x1024_S24x128_0_896 : Rect S24x1024).toLoadRect X12) (View.readAt (Elt Ideal) arg11.view (Rect.unit ![0, 896] S24x128.size inb_S32x1024_S24x128_0_896 : Rect S32x1024).toLoadRect X11)⟩,
      ⟨Rect.unit (k0_off134 i) S1x1x1x32x128.size (k0_off134_inb i), w2Tile 1 (rest.sl.v158 (F := Ideal) i arg1 X1) (rest.sl.v161 (F := Ideal) i arg1 X1) (View.readAt (Elt Ideal) arg12.view (Rect.unit ![0, 768] S24x128.size inb_S24x1024_S24x128_0_768 : Rect S24x1024).toLoadRect X12) (View.readAt (Elt Ideal) arg11.view (Rect.unit ![0, 768] S24x128.size inb_S32x1024_S24x128_0_768 : Rect S32x1024).toLoadRect X11)⟩,
      ⟨Rect.unit (k0_off133 i) S1x1x1x32x128.size (k0_off133_inb i), w2Tile 0 (rest.sl.v158 (F := Ideal) i arg1 X1) (rest.sl.v161 (F := Ideal) i arg1 X1) (View.readAt (Elt Ideal) arg12.view (Rect.unit ![0, 768] S24x128.size inb_S24x1024_S24x128_0_768 : Rect S24x1024).toLoadRect X12) (View.readAt (Elt Ideal) arg11.view (Rect.unit ![0, 768] S24x128.size inb_S32x1024_S24x128_0_768 : Rect S32x1024).toLoadRect X11)⟩,
      ⟨Rect.unit (k0_off132 i) S1x1x1x32x128.size (k0_off132_inb i), w2Tile 1 (rest.sl.v158 (F := Ideal) i arg1 X1) (rest.sl.v161 (F := Ideal) i arg1 X1) (View.readAt (Elt Ideal) arg12.view (Rect.unit ![0, 640] S24x128.size inb_S24x1024_S24x128_0_640 : Rect S24x1024).toLoadRect X12) (View.readAt (Elt Ideal) arg11.view (Rect.unit ![0, 640] S24x128.size inb_S32x1024_S24x128_0_640 : Rect S32x1024).toLoadRect X11)⟩,
      ⟨Rect.unit (k0_off131 i) S1x1x1x32x128.size (k0_off131_inb i), w2Tile 0 (rest.sl.v158 (F := Ideal) i arg1 X1) (rest.sl.v161 (F := Ideal) i arg1 X1) (View.readAt (Elt Ideal) arg12.view (Rect.unit ![0, 640] S24x128.size inb_S24x1024_S24x128_0_640 : Rect S24x1024).toLoadRect X12) (View.readAt (Elt Ideal) arg11.view (Rect.unit ![0, 640] S24x128.size inb_S32x1024_S24x128_0_640 : Rect S32x1024).toLoadRect X11)⟩,
      ⟨Rect.unit (k0_off130 i) S1x1x1x32x128.size (k0_off130_inb i), w2Tile 1 (rest.sl.v158 (F := Ideal) i arg1 X1) (rest.sl.v161 (F := Ideal) i arg1 X1) (View.readAt (Elt Ideal) arg12.view (Rect.unit ![0, 512] S24x128.size inb_S24x1024_S24x128_0_512 : Rect S24x1024).toLoadRect X12) (View.readAt (Elt Ideal) arg11.view (Rect.unit ![0, 512] S24x128.size inb_S32x1024_S24x128_0_512 : Rect S32x1024).toLoadRect X11)⟩,
      ⟨Rect.unit (k0_off129 i) S1x1x1x32x128.size (k0_off129_inb i), w2Tile 0 (rest.sl.v158 (F := Ideal) i arg1 X1) (rest.sl.v161 (F := Ideal) i arg1 X1) (View.readAt (Elt Ideal) arg12.view (Rect.unit ![0, 512] S24x128.size inb_S24x1024_S24x128_0_512 : Rect S24x1024).toLoadRect X12) (View.readAt (Elt Ideal) arg11.view (Rect.unit ![0, 512] S24x128.size inb_S32x1024_S24x128_0_512 : Rect S32x1024).toLoadRect X11)⟩,
      ⟨Rect.unit (k0_off128 i) S1x1x1x32x128.size (k0_off128_inb i), w2Tile 1 (rest.sl.v158 (F := Ideal) i arg1 X1) (rest.sl.v161 (F := Ideal) i arg1 X1) (View.readAt (Elt Ideal) arg12.view (Rect.unit ![0, 384] S24x128.size inb_S24x1024_S24x128_0_384 : Rect S24x1024).toLoadRect X12) (View.readAt (Elt Ideal) arg11.view (Rect.unit ![0, 384] S24x128.size inb_S32x1024_S24x128_0_384 : Rect S32x1024).toLoadRect X11)⟩,
      ⟨Rect.unit (k0_off127 i) S1x1x1x32x128.size (k0_off127_inb i), w2Tile 0 (rest.sl.v158 (F := Ideal) i arg1 X1) (rest.sl.v161 (F := Ideal) i arg1 X1) (View.readAt (Elt Ideal) arg12.view (Rect.unit ![0, 384] S24x128.size inb_S24x1024_S24x128_0_384 : Rect S24x1024).toLoadRect X12) (View.readAt (Elt Ideal) arg11.view (Rect.unit ![0, 384] S24x128.size inb_S32x1024_S24x128_0_384 : Rect S32x1024).toLoadRect X11)⟩,
      ⟨Rect.unit (k0_off126 i) S1x1x1x32x128.size (k0_off126_inb i), w2Tile 1 (rest.sl.v158 (F := Ideal) i arg1 X1) (rest.sl.v161 (F := Ideal) i arg1 X1) (View.readAt (Elt Ideal) arg12.view (Rect.unit ![0, 256] S24x128.size inb_S24x1024_S24x128_0_256 : Rect S24x1024).toLoadRect X12) (View.readAt (Elt Ideal) arg11.view (Rect.unit ![0, 256] S24x128.size inb_S32x1024_S24x128_0_256 : Rect S32x1024).toLoadRect X11)⟩,
      ⟨Rect.unit (k0_off125 i) S1x1x1x32x128.size (k0_off125_inb i), w2Tile 0 (rest.sl.v158 (F := Ideal) i arg1 X1) (rest.sl.v161 (F := Ideal) i arg1 X1) (View.readAt (Elt Ideal) arg12.view (Rect.unit ![0, 256] S24x128.size inb_S24x1024_S24x128_0_256 : Rect S24x1024).toLoadRect X12) (View.readAt (Elt Ideal) arg11.view (Rect.unit ![0, 256] S24x128.size inb_S32x1024_S24x128_0_256 : Rect S32x1024).toLoadRect X11)⟩,
      ⟨Rect.unit (k0_off124 i) S1x1x1x32x128.size (k0_off124_inb i), w2Tile 1 (rest.sl.v158 (F := Ideal) i arg1 X1) (rest.sl.v161 (F := Ideal) i arg1 X1) (View.readAt (Elt Ideal) arg12.view (Rect.unit ![0, 128] S24x128.size inb_S24x1024_S24x128_0_128 : Rect S24x1024).toLoadRect X12) (View.readAt (Elt Ideal) arg11.view (Rect.unit ![0, 128] S24x128.size inb_S32x1024_S24x128_0_128 : Rect S32x1024).toLoadRect X11)⟩,
      ⟨Rect.unit (k0_off123 i) S1x1x1x32x128.size (k0_off123_inb i), w2Tile 0 (rest.sl.v158 (F := Ideal) i arg1 X1) (rest.sl.v161 (F := Ideal) i arg1 X1) (View.readAt (Elt Ideal) arg12.view (Rect.unit ![0, 128] S24x128.size inb_S24x1024_S24x128_0_128 : Rect S24x1024).toLoadRect X12) (View.readAt (Elt Ideal) arg11.view (Rect.unit ![0, 128] S24x128.size inb_S32x1024_S24x128_0_128 : Rect S32x1024).toLoadRect X11)⟩,
      ⟨Rect.unit (k0_off122 i) S1x1x1x32x128.size (k0_off122_inb i), w2Tile 1 (rest.sl.v158 (F := Ideal) i arg1 X1) (rest.sl.v161 (F := Ideal) i arg1 X1) (View.readAt (Elt Ideal) arg12.view (Rect.unit ![0, 0] S24x128.size inb_S24x1024_S24x128_0_0 : Rect S24x1024).toLoadRect X12) (View.readAt (Elt Ideal) arg11.view (Rect.unit ![0, 0] S24x128.size inb_S32x1024_S24x128_0_0 : Rect S32x1024).toLoadRect X11)⟩,
      ⟨Rect.unit (k0_off121 i) S1x1x1x32x128.size (k0_off121_inb i), w2Tile 0 (rest.sl.v158 (F := Ideal) i arg1 X1) (rest.sl.v161 (F := Ideal) i arg1 X1) (View.readAt (Elt Ideal) arg12.view (Rect.unit ![0, 0] S24x128.size inb_S24x1024_S24x128_0_0 : Rect S24x1024).toLoadRect X12) (View.readAt (Elt Ideal) arg11.view (Rect.unit ![0, 0] S24x128.size inb_S32x1024_S24x128_0_0 : Rect S32x1024).toLoadRect X11)⟩] := by
  rfl

theorem w2Tile_at (s : Fin 2) (k : BitVec 32) (ctr : Vec Ideal S24x128 .i32) (base : Vec Ideal S24x128 .f32) (r : Fin 32) (l : Fin 128) (q : ℕ) (hq : q < 1024)
    (hctr : ∀ h : r.val < 24, ctr (ix2 ⟨r.val, h⟩ l) = BitVec.ofNat 32 (2 * (q * 17 + r.val))) :
    w2Tile s.val (k ^^^ k >>> 16) (if (k ^^^ k >>> 16) &&& 1#32 = 0#32 then 2246822507#32 else 2048144789#32) ctr base (ix5 0 0 0 r l)
      = if h : r.val < 24 then sgn s.val (base (ix2 ⟨r.val, h⟩ l)) (nz 1024 17 k q r.val) else 0 := by
  unfold w2Tile signV
  by_cases h : r.val < 24
  · rw [dif_pos h]
    have hn : q * 17 + r.val < 2 ^ 15 := by omega
    have hg : noiseV (F := Ideal) S24x128 (Named.named κ "noise2" 0xB9632166#32) (muli (xori ctr (broadcast S24x128 (k ^^^ k >>> 16))) (broadcast S24x128 2246822507#32))
        (addi (muli (xori ctr (broadcast S24x128 (k ^^^ k >>> 16))) (broadcast S24x128 2246822507#32)) (broadcast S24x128 (if (k ^^^ k >>> 16) &&& 1#32 = 0#32 then 2246822507#32 else 2048144789#32)))
        (ix2 ⟨r.val, h⟩ l) = ((-nz 1024 17 k q r.val : ℝ) : EReal) := by
      have e0 : (muli (xori ctr (broadcast S24x128 (k ^^^ k >>> 16))) (broadcast S24x128 2246822507#32)) (ix2 ⟨r.val, h⟩ l) = Words.preW (k ^^^ BitVec.ofNat 32 (2 * (q * 17 + r.val))) := by
        rw [← Words.tile_pre2 k _ hn, ← hctr h]
        rfl
      have e1 : (addi (muli (xori ctr (broadcast S24x128 (k ^^^ k >>> 16))) (broadcast S24x128 2246822507#32)) (broadcast S24x128 (if (k ^^^ k >>> 16) &&& 1#32 = 0#32 then 2246822507#32 else 2048144789#32))) (ix2 ⟨r.val, h⟩ l)
          = Words.preW (k ^^^ (BitVec.ofNat 32 (2 * (q * 17 + r.val)) + 1#32)) := by
        rw [← Words.tile_next2 k _ hn, ← e0]
        rfl
      have hnm : Named.named (F := Ideal) κ "noise2" (φ := .f32) 0xB9632166#32 = (((-32 / (100 * 1024)) * Real.log 2 : ℝ) : EReal) := by
        rw [IdealRules.named_const.ideal_named_scalar _ _ _ (((-1 / 3200) * (Real.log 2) : ℝ) : EReal) rfl]; norm_num
      rw [noiseV_at, e0, e1, named_inv, hnm, Noise.negE_eq 1024 (by norm_num) (by norm_num)]
      rfl
    fin_cases s <;> pointwise <;> rw [dif_pos h]
    · exact (congrArg _ hg).trans (sgn_zero _ _)
    · exact (congrArg _ hg).trans (sgn_one _ _)
  · rw [dif_neg h]
    fin_cases s <;> pointwise <;> rw [dif_neg h]

theorem rw6 (v : View sig .tc .vmem S2x2x4x32x256 .bf16) (f : v.ty.Contents (Elt Ideal)) (L : List (View.Piece (Elt Ideal) S2x2x4x32x256 .bf16))
    (off : Fin 5 → ℕ) (h) (w : S1x1x1x32x128.Idx → EReal) (p0 s0 c0 t0 : ℕ) (ho : off = ![p0, s0, c0, 0, 128 * t0])
    (p s : Fin 2) (c : Fin 4) (y : Fin 32) (j : Fin 256) :
    v.read (Elt Ideal) (v.writes (Elt Ideal) f ((⟨Rect.unit off S1x1x1x32x128.size h, w⟩ : View.Piece (Elt Ideal) S2x2x4x32x256 .bf16) :: L)) (ix5 p s c y j)
      = if p.val = p0 ∧ s.val = s0 ∧ c.val = c0 ∧ j.val / 128 = t0 then w (ix5 0 0 0 y (⟨j.val % 128, by omega⟩ : Fin 128)) else v.read (Elt Ideal) (v.writes (Elt Ideal) f L) (ix5 p s c y j) := by
  by_cases hc : p.val = p0 ∧ s.val = s0 ∧ c.val = c0 ∧ j.val / 128 = t0
  · rw [if_pos hc]
    obtain ⟨h1, h2, h3, h4⟩ := hc
    refine View.read_writes_cons_unit_of_mem v f h w L _ (ix5 (0 : Fin 1) (0 : Fin 1) (0 : Fin 1) y (⟨j.val % 128, by omega⟩ : Fin 128)) ho fun a => ?_
    fin_cases a
    · show p.val = p0 + 0; omega
    · show s.val = s0 + 0; omega
    · show c.val = c0 + 0; omega
    · show y.val = 0 + y.val; omega
    · show j.val = 128 * t0 + j.val % 128; omega
  · rw [if_neg hc]
    by_cases h1 : p.val = p0
    · by_cases h2 : s.val = s0
      · by_cases h3 : c.val = c0
        · have h4 : j.val / 128 ≠ t0 := fun h4 => hc ⟨h1, h2, h3, h4⟩
          refine View.read_writes_cons_unit_of_not_mem v f h w L _ ho 4 ?_
          show j.val < 128 * t0 ∨ 128 * t0 + 128 ≤ j.val
          omega
        · refine View.read_writes_cons_unit_of_not_mem v f h w L _ ho 2 ?_
          show c.val < c0 ∨ c0 + 1 ≤ c.val
          omega
      · refine View.read_writes_cons_unit_of_not_mem v f h w L _ ho 1 ?_
        show s.val < s0 ∨ s0 + 1 ≤ s.val
        omega
    · refine View.read_writes_cons_unit_of_not_mem v f h w L _ ho 0 ?_
      show p.val < p0 ∨ p0 + 1 ≤ p.val
      omega

/-- The first trip's activations. -/

theorem w2_read (v : View sig .tc .vmem S2x2x4x32x256 .bf16) (f : v.ty.Contents (Elt Ideal)) (i : grid0.Coords) (W : Fin 2 → Fin 4 → Fin 2 → S1x1x1x32x128.Idx → EReal)
    (p s : Fin 2) (c : Fin 4) (y : Fin 32) (j : Fin 256) :
    v.read (Elt Ideal) (v.writes (Elt Ideal) f ([
      ⟨Rect.unit (k0_off136 i) S1x1x1x32x128.size (k0_off136_inb i), W 1 3 1⟩,
      ⟨Rect.unit (k0_off135 i) S1x1x1x32x128.size (k0_off135_inb i), W 0 3 1⟩,
      ⟨Rect.unit (k0_off134 i) S1x1x1x32x128.size (k0_off134_inb i), W 1 3 0⟩,
      ⟨Rect.unit (k0_off133 i) S1x1x1x32x128.size (k0_off133_inb i), W 0 3 0⟩,
      ⟨Rect.unit (k0_off132 i) S1x1x1x32x128.size (k0_off132_inb i), W 1 2 1⟩,
      ⟨Rect.unit (k0_off131 i) S1x1x1x32x128.size (k0_off131_inb i), W 0 2 1⟩,
      ⟨Rect.unit (k0_off130 i) S1x1x1x32x128.size (k0_off130_inb i), W 1 2 0⟩,
      ⟨Rect.unit (k0_off129 i) S1x1x1x32x128.size (k0_off129_inb i), W 0 2 0⟩,
      ⟨Rect.unit (k0_off128 i) S1x1x1x32x128.size (k0_off128_inb i), W 1 1 1⟩,
      ⟨Rect.unit (k0_off127 i) S1x1x1x32x128.size (k0_off127_inb i), W 0 1 1⟩,
      ⟨Rect.unit (k0_off126 i) S1x1x1x32x128.size (k0_off126_inb i), W 1 1 0⟩,
      ⟨Rect.unit (k0_off125 i) S1x1x1x32x128.size (k0_off125_inb i), W 0 1 0⟩,
      ⟨Rect.unit (k0_off124 i) S1x1x1x32x128.size (k0_off124_inb i), W 1 0 1⟩,
      ⟨Rect.unit (k0_off123 i) S1x1x1x32x128.size (k0_off123_inb i), W 0 0 1⟩,
      ⟨Rect.unit (k0_off122 i) S1x1x1x32x128.size (k0_off122_inb i), W 1 0 0⟩,
      ⟨Rect.unit (k0_off121 i) S1x1x1x32x128.size (k0_off121_inb i), W 0 0 0⟩] : List (View.Piece (Elt Ideal) S2x2x4x32x256 .bf16))) (ix5 p s c y j)
      = if p.val = (i 0).val % 2 then W s c (⟨j.val / 128, by omega⟩ : Fin 2) (ix5 0 0 0 y (⟨j.val % 128, by omega⟩ : Fin 128)) else v.read (Elt Ideal) f (ix5 p s c y j) := by
  rw [rw6 v f _ (k0_off136 i) _ _ ((i 0).val % 2) 1 3 1 (k0_off136_eq' i), rw6 v f _ (k0_off135 i) _ _ ((i 0).val % 2) 0 3 1 (k0_off135_eq' i), rw6 v f _ (k0_off134 i) _ _ ((i 0).val % 2) 1 3 0 (k0_off134_eq' i), rw6 v f _ (k0_off133 i) _ _ ((i 0).val % 2) 0 3 0 (k0_off133_eq' i), rw6 v f _ (k0_off132 i) _ _ ((i 0).val % 2) 1 2 1 (k0_off132_eq' i), rw6 v f _ (k0_off131 i) _ _ ((i 0).val % 2) 0 2 1 (k0_off131_eq' i), rw6 v f _ (k0_off130 i) _ _ ((i 0).val % 2) 1 2 0 (k0_off130_eq' i), rw6 v f _ (k0_off129 i) _ _ ((i 0).val % 2) 0 2 0 (k0_off129_eq' i), rw6 v f _ (k0_off128 i) _ _ ((i 0).val % 2) 1 1 1 (k0_off128_eq' i), rw6 v f _ (k0_off127 i) _ _ ((i 0).val % 2) 0 1 1 (k0_off127_eq' i), rw6 v f _ (k0_off126 i) _ _ ((i 0).val % 2) 1 1 0 (k0_off126_eq' i), rw6 v f _ (k0_off125 i) _ _ ((i 0).val % 2) 0 1 0 (k0_off125_eq' i), rw6 v f _ (k0_off124 i) _ _ ((i 0).val % 2) 1 0 1 (k0_off124_eq' i), rw6 v f _ (k0_off123 i) _ _ ((i 0).val % 2) 0 0 1 (k0_off123_eq' i), rw6 v f _ (k0_off122 i) _ _ ((i 0).val % 2) 1 0 0 (k0_off122_eq' i), rw6 v f _ (k0_off121 i) _ _ ((i 0).val % 2) 0 0 0 (k0_off121_eq' i)]
  by_cases hp : p.val = (i 0).val % 2
  · rw [if_pos hp]
    simp only [hp, true_and]
    have ht : j.val / 128 = 0 ∨ j.val / 128 = 1 := by omega
    rcases ht with ht | ht <;> simp only [ht] <;> fin_cases s <;> fin_cases c <;> rfl
  · simp only [hp, false_and, if_false]
    rfl

theorem inb11 (c : Fin 4) (t : Fin 2) : ∀ a, (![0, 256 * c.val + 128 * t.val] : Fin 2 → ℕ) a + S24x128.size a ≤ S32x1024.size a := by
  intro a; fin_cases a
  · show 0 + 24 ≤ 32; omega
  · show 256 * c.val + 128 * t.val + 128 ≤ 1024; omega

theorem inb12 (c : Fin 4) (t : Fin 2) : ∀ a, (![0, 256 * c.val + 128 * t.val] : Fin 2 → ℕ) a + S24x128.size a ≤ S24x1024.size a := by
  intro a; fin_cases a
  · show 0 + 24 ≤ 24; omega
  · show 256 * c.val + 128 * t.val + 128 ≤ 1024; omega

/-- The tile of a sign, a quarter and a half. -/
def w2P (K D : BitVec 32) (x12 : S24x1024.Idx → BitVec 32) (x11 : S32x1024.Idx → EReal) (s : Fin 2) (c : Fin 4) (t : Fin 2) : S1x1x1x32x128.Idx → EReal :=
  w2Tile s.val K D (View.ld (Val := Elt Ideal) (e' := .i32) x12 (Rect.unit ![0, 256 * c.val + 128 * t.val] S24x128.size (inb12 c t) : Rect S24x1024))
    (View.ld (Val := Elt Ideal) (e' := .f32) x11 (Rect.unit ![0, 256 * c.val + 128 * t.val] S24x128.size (inb11 c t) : Rect S32x1024))

/-- An entry of the second layer's weights, with noise. -/
def W2 (x11 : S32x1024.Idx → EReal) (k : BitVec 32) (s : Fin 2) (c : Fin 4) (r : Fin 32) (j : Fin 256) : EReal :=
  if r.val < 24 then sgn s.val (x11 (ix2 r (⟨256 * c.val + j.val, by omega⟩ : Fin 1024))) (nz 1024 17 k (256 * c.val + j.val) r.val) else 0

theorem w2P_at (k : BitVec 32) (x12 : S24x1024.Idx → BitVec 32) (x11 : S32x1024.Idx → EReal) (hx : ∀ (r : Fin 24) (q : Fin 1024), x12 (ix2 r q) = BitVec.ofNat 32 (2 * (q.val * 17 + r.val)))
    (s : Fin 2) (c : Fin 4) (r : Fin 32) (j : Fin 256) :
    w2P (k ^^^ k >>> 16) (if (k ^^^ k >>> 16) &&& 1#32 = 0#32 then 2246822507#32 else 2048144789#32) x12 x11 s c (⟨j.val / 128, by omega⟩ : Fin 2) (ix5 0 0 0 r (⟨j.val % 128, by omega⟩ : Fin 128))
      = W2 x11 k s c r j := by
  unfold w2P W2
  rw [w2Tile_at s k _ _ r _ (256 * c.val + j.val) (by omega)]
  · by_cases h : r.val < 24
    · rw [dif_pos h, if_pos h]
      congr 1
      show x11 _ = x11 _
      congr 1
      funext a; apply Fin.ext; fin_cases a
      · show 0 + 1 * r.val = r.val; omega
      · show 256 * c.val + 128 * (j.val / 128) + 1 * (j.val % 128) = 256 * c.val + j.val; omega
    · rw [dif_neg h, if_neg h]
  · intro h
    rw [← hx ⟨r.val, h⟩ ⟨256 * c.val + j.val, by omega⟩]
    show x12 _ = x12 _
    congr 1
    funext a; apply Fin.ext; fin_cases a
    · show 0 + 1 * r.val = r.val; omega
    · show 256 * c.val + 128 * (j.val / 128) + 1 * (j.val % 128) = 256 * c.val + j.val; omega

theorem key2_eq (i : grid0.Coords) (arg1 : Memref sig .tc .smem S1 .i32) (X1 : BufTy.Contents (Elt Ideal) arg1.view.ty) :
    rest.sl.v158 (F := Ideal) i arg1 X1 = (lkey (View.readAt (Elt Ideal) arg1.view (Rect.unit ![0] S1.size inb_S1_S1_0 : Rect S1).toLoadRect X1 (ix1 0)) (BitVec.ofNat 32 (i 0)) 1#32 ^^^ lkey (View.readAt (Elt Ideal) arg1.view (Rect.unit ![0] S1.size inb_S1_S1_0 : Rect S1).toLoadRect X1 (ix1 0)) (BitVec.ofNat 32 (i 0)) 1#32 >>> 16) := by
  have e0 : rest.sl.r (F := Ideal) arg1 X1 = (View.readAt (Elt Ideal) arg1.view (Rect.unit ![0] S1.size inb_S1_S1_0 : Rect S1).toLoadRect X1 (ix1 0)) := by
    unfold rest.sl.r
    refine congrArg _ (funext fun a => ?_)
    fin_cases a
    exact Subsingleton.elim (α := Fin 1) _ _
  have e1 : ∀ x : BitVec 32, Scalar.shrui x 16#32 = x >>> 16 := fun _ => rfl
  have e2 : ∀ x : BitVec 32, Scalar.shrui x 13#32 = x >>> 13 := fun _ => rfl
  have e3 : ∀ x y : BitVec 32, Scalar.xori x y = x ^^^ y := fun _ _ => rfl
  have e4 : ∀ x y : BitVec 32, Scalar.muli x y = x * y := fun _ _ => rfl
  simp only [rest.sl.v139, rest.sl.v140, rest.sl.v141, rest.sl.v142, rest.sl.v143, rest.sl.v144, rest.sl.v145, rest.sl.v146, rest.sl.v147, rest.sl.v148, rest.sl.v149, rest.sl.v150, rest.sl.v151, rest.sl.v152, rest.sl.v153, rest.sl.v154, rest.sl.v155, rest.sl.v156, rest.sl.v157, rest.sl.v158, e0, e1, e2, e3, e4, lkey, Words.fmW, Words.tailW, Words.preW]

theorem sel_eq (i : grid0.Coords) (arg1 : Memref sig .tc .smem S1 .i32) (X1 : BufTy.Contents (Elt Ideal) arg1.view.ty) :
    rest.sl.v161 (F := Ideal) i arg1 X1 = if rest.sl.v158 (F := Ideal) i arg1 X1 &&& 1#32 = 0#32 then 2246822507#32 else 2048144789#32 := by
  unfold rest.sl.v161 rest.sl.v160 rest.sl.v159
  generalize rest.sl.v158 (F := Ideal) i arg1 X1 = K
  have e : Scalar.andi K 1#32 = K &&& 1#32 := rfl
  rw [e]
  by_cases h : K &&& 1#32 = 0#32
  · rw [if_pos h, h]; rfl
  · rw [if_neg h]
    have h1 : K &&& 1#32 = 1#32 := by
      have := BitVec.and_one_eq_setWidth_ofBool_getLsbD (x := K)
      rw [this] at h ⊢
      cases hb : K.getLsbD 0 <;> simp_all
    rw [h1]; rfl

theorem rest_15w (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) :
    (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.2.1 = (fun (W : Fin 2 → Fin 4 → Fin 2 → S1x1x1x32x128.Idx → EReal) => ([
      ⟨Rect.unit (k0_off136 i) S1x1x1x32x128.size (k0_off136_inb i), W 1 3 1⟩,
      ⟨Rect.unit (k0_off135 i) S1x1x1x32x128.size (k0_off135_inb i), W 0 3 1⟩,
      ⟨Rect.unit (k0_off134 i) S1x1x1x32x128.size (k0_off134_inb i), W 1 3 0⟩,
      ⟨Rect.unit (k0_off133 i) S1x1x1x32x128.size (k0_off133_inb i), W 0 3 0⟩,
      ⟨Rect.unit (k0_off132 i) S1x1x1x32x128.size (k0_off132_inb i), W 1 2 1⟩,
      ⟨Rect.unit (k0_off131 i) S1x1x1x32x128.size (k0_off131_inb i), W 0 2 1⟩,
      ⟨Rect.unit (k0_off130 i) S1x1x1x32x128.size (k0_off130_inb i), W 1 2 0⟩,
      ⟨Rect.unit (k0_off129 i) S1x1x1x32x128.size (k0_off129_inb i), W 0 2 0⟩,
      ⟨Rect.unit (k0_off128 i) S1x1x1x32x128.size (k0_off128_inb i), W 1 1 1⟩,
      ⟨Rect.unit (k0_off127 i) S1x1x1x32x128.size (k0_off127_inb i), W 0 1 1⟩,
      ⟨Rect.unit (k0_off126 i) S1x1x1x32x128.size (k0_off126_inb i), W 1 1 0⟩,
      ⟨Rect.unit (k0_off125 i) S1x1x1x32x128.size (k0_off125_inb i), W 0 1 0⟩,
      ⟨Rect.unit (k0_off124 i) S1x1x1x32x128.size (k0_off124_inb i), W 1 0 1⟩,
      ⟨Rect.unit (k0_off123 i) S1x1x1x32x128.size (k0_off123_inb i), W 0 0 1⟩,
      ⟨Rect.unit (k0_off122 i) S1x1x1x32x128.size (k0_off122_inb i), W 1 0 0⟩,
      ⟨Rect.unit (k0_off121 i) S1x1x1x32x128.size (k0_off121_inb i), W 0 0 0⟩] : List (View.Piece (Elt Ideal) S2x2x4x32x256 .bf16)))
      (w2P (rest.sl.v158 (F := Ideal) i arg1 X1) (rest.sl.v161 (F := Ideal) i arg1 X1) (arg12.view.read (Elt Ideal) X12) (arg11.view.read (Elt Ideal) X11)) := by
  rw [rest_15]
  rfl

theorem rest_15_at (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (X1 : BufTy.Contents (Elt Ideal) arg1.view.ty) (X2 : BufTy.Contents (Elt Ideal) arg2.view.ty) (X5 : BufTy.Contents (Elt Ideal) arg5.view.ty) (X8 : BufTy.Contents (Elt Ideal) arg8.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (F15 : BufTy.Contents (Elt Ideal) arg15.view.ty)
    (hx : ∀ (r : Fin 24) (q : Fin 1024), arg12.view.read (Elt Ideal) X12 (ix2 r q) = BitVec.ofNat 32 (2 * (q.val * 17 + r.val)))
    (p s : Fin 2) (c' : Fin 4) (r : Fin 32) (j : Fin 256) :
    arg15.view.read (Elt Ideal) (arg15.view.writes (Elt Ideal) F15 (rest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X5 X8 X10 X11 X12 X13 X14 X15 X16).2.2.2.1) (ix5 p s c' r j)
      = if p.val = (i 0).val % 2 then W2 (arg11.view.read (Elt Ideal) X11) (lkey (View.readAt (Elt Ideal) arg1.view (Rect.unit ![0] S1.size inb_S1_S1_0 : Rect S1).toLoadRect X1 (ix1 0)) (BitVec.ofNat 32 (i 0)) 1#32) s c' r j else arg15.view.read (Elt Ideal) F15 (ix5 p s c' r j) := by
  rw [rest_15w]
  refine (w2_read arg15.view F15 i _ p s c' r j).trans ?_
  rw [sel_eq, key2_eq, w2P_at _ _ _ hx]

end Cert.KernelIdeal
-- ==== Proof.StepVal.lean ====
module

public import proofs.«01_k».proof.Proof.OutVal
public import proofs.«01_k».proof.Proof.W2Val
public import proofs.«01_k».proof.Proof.State

@[expose] public section

set_option maxRecDepth 16384
set_option maxHeartbeats 1000000

noncomputable section

namespace Cert.KernelIdeal

open Idealize.ShloMosaic Idealize.ShloMosaic.TcCoe
open Cert.KernelIdeal.Gen

attribute [local irreducible] trips rest

theorem seed_rd (arg1 : Memref sig .tc .smem S1 .i32) (harg1 : arg1.IsWhole) (x1 : S1.Idx → BitVec 32) :
    (View.readAt (Elt Ideal) arg1.view (Rect.unit ![0] S1.size inb_S1_S1_0 : Rect S1).toLoadRect (harg1.unread x1) (ix1 0)) = x1 (ix1 0) := by
  rw [View.readAt_eq_ld, Memref.IsWhole.read_unread]
  show x1 _ = x1 _
  congr 1
  funext a
  fin_cases a
  exact Subsingleton.elim (α := Fin 1) _ _

theorem trips_st (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) :
    arg14.view.read (Elt Ideal) (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 (F := Ideal) i arg1 (harg1.unread (Val := Elt Ideal) x1)) 2246822507#32 (harg2.unread x2) (harg5.unread x5) (harg10.unread s.x10) ((harg13.unread s.x13), (harg14.unread s.x14), (harg16.unread s.x16)) (Scf.trips k0_t2_loop.lb k0_t2_loop.ub k0_t2_loop.st)).2.1 = W1 s.x10 (lkey (x1 (ix1 0)) (BitVec.ofNat 32 (i 0)) 0#32) 3
    ∧ ∀ (p s' : Fin 2) (cc : Fin 4) (y : Fin 128) (j : Fin 256),
      arg16.view.read (Elt Ideal) (trips (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (rest.sl.v15 i) (rest.sl.v35 (F := Ideal) i arg1 (harg1.unread (Val := Elt Ideal) x1)) 2246822507#32 (harg2.unread x2) (harg5.unread x5) (harg10.unread s.x10) ((harg13.unread s.x13), (harg14.unread s.x14), (harg16.unread s.x16)) (Scf.trips k0_t2_loop.lb k0_t2_loop.ub k0_t2_loop.st)).2.2 (ix5 p s' cc y j)
        = if p.val = (i 0).val % 2 ∧ cc = 2 then hidE x2 (W1 s.x10 (lkey (x1 (ix1 0)) (BitVec.ofNat 32 (i 0)) 0#32) 2) x5 2 s' y j
          else if p.val = (i 0).val % 2 ∧ cc = 1 then hidE x2 (W1 s.x10 (lkey (x1 (ix1 0)) (BitVec.ofNat 32 (i 0)) 0#32) 1) x5 1 s' y j
          else if p.val = (i 0).val % 2 ∧ cc = 0 then hidE x2 (W1 s.x10 (lkey (x1 (ix1 0)) (BitVec.ofNat 32 (i 0)) 0#32) 0) x5 0 s' y j
          else if p.val = ((i 0).val + 1) % 2 ∧ cc = 3 then hidE x2 s.x14 x5 3 s' y j
          else s.x16 (ix5 p s' cc y j) := by
  have h2 : Scf.trips k0_t2_loop.lb k0_t2_loop.ub k0_t2_loop.st = 2 := by decide
  rw [h2, key_eq, seed_rd]
  have := trips_val Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rest.sl.v0 rest.sl.v1 (by rw [io0_eq]; exact io0_at) (by rw [io1_eq]; exact io1_at) (rest.sl.v15 i) (lkey (x1 (ix1 0)) (BitVec.ofNat 32 (i 0)) 0#32) (harg2.unread x2) (harg5.unread x5) (harg10.unread s.x10) (harg13.unread s.x13) (harg14.unread s.x14) (harg16.unread s.x16)
  simp only [Memref.IsWhole.read_unread] at this
  exact ⟨this.2.1, this.2.2⟩

theorem restSt_x14 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) :
    (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x14 = W1 s.x10 (lkey (x1 (ix1 0)) (BitVec.ofNat 32 (i 0)) 0#32) 3 := by
  unfold restSt
  dsimp only
  rw [rest_14]
  exact (trips_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).1

theorem restSt_x16 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) (p s' : Fin 2) (cc : Fin 4) (y : Fin 128) (j : Fin 256) :
    (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x16 (ix5 p s' cc y j)
        = if p.val = (i 0).val % 2 ∧ cc = 2 then hidE x2 (W1 s.x10 (lkey (x1 (ix1 0)) (BitVec.ofNat 32 (i 0)) 0#32) 2) x5 2 s' y j
          else if p.val = (i 0).val % 2 ∧ cc = 1 then hidE x2 (W1 s.x10 (lkey (x1 (ix1 0)) (BitVec.ofNat 32 (i 0)) 0#32) 1) x5 1 s' y j
          else if p.val = (i 0).val % 2 ∧ cc = 0 then hidE x2 (W1 s.x10 (lkey (x1 (ix1 0)) (BitVec.ofNat 32 (i 0)) 0#32) 0) x5 0 s' y j
          else if p.val = ((i 0).val + 1) % 2 ∧ cc = 3 then hidE x2 s.x14 x5 3 s' y j
          else s.x16 (ix5 p s' cc y j) := by
  unfold restSt
  dsimp only
  rw [rest_16]
  exact (trips_st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).2 p s' cc y j

theorem restSt_x15 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal)
    (hx : ∀ (r : Fin 24) (q : Fin 1024), s.x12 (ix2 r q) = BitVec.ofNat 32 (2 * (q.val * 17 + r.val)))
    (p s' : Fin 2) (cc : Fin 4) (r : Fin 32) (j : Fin 256) :
    (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x15 (ix5 p s' cc r j) = if p.val = (i 0).val % 2 then W2 s.x11 (lkey (x1 (ix1 0)) (BitVec.ofNat 32 (i 0)) 1#32) s' cc r j else s.x15 (ix5 p s' cc r j) := by
  unfold restSt
  dsimp only
  rw [rest_15_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16) (harg15.unread s.x15) (by rw [Memref.IsWhole.read_unread]; exact hx), seed_rd]
  simp only [Memref.IsWhole.read_unread]

theorem restOut_at (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) (p s' : Fin 2) (hp : p.val = ((i 0).val + 1) % 2) (y : Fin 128) (a : Fin 17) :
    restOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s (ix4 0 s' y a) = outE (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x16 s.x15 x8 p s' y a := by
  unfold restOut restSt
  dsimp only
  rw [rest_out_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x1) (harg2.unread x2) (harg5.unread x5) (harg8.unread x8) (harg10.unread s.x10) (harg11.unread s.x11) (harg12.unread s.x12) (harg13.unread s.x13) (harg14.unread s.x14) (harg15.unread s.x15) (harg16.unread s.x16) p s' hp y a]
  simp only [Memref.IsWhole.read_unread]

theorem restSt_x10 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) : (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x10 = s.x10 := rfl
theorem restSt_x11 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) : (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x11 = s.x11 := rfl
theorem restSt_x12 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (x1 : S1.Idx → BitVec 32) (x2 : S128x384.Idx → EReal) (x5 : S4x1x256.Idx → EReal) (x8 : S1x32.Idx → EReal) (s : St Ideal) : (restSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x5 x8 s).x12 = s.x12 := rfl

end Cert.KernelIdeal
-- ==== Proof.InitVal.lean ====
module

public import proofs.«01_k».proof.Proof.State
public import Idealize.ShloMosaic.Lib.Pointwise
public import Idealize.ShloMosaic.Lib.WritesUnit

@[expose] public section

set_option maxRecDepth 16384
set_option maxHeartbeats 1000000

noncomputable section

namespace Cert.KernelIdeal

open Idealize.ShloMosaic Idealize.ShloMosaic.TcCoe
open Cert.KernelIdeal.Gen

/-- The first layer's dequantised codes. -/
def dq (x3 : S4x384x256.Idx → EReal) (x4 : S4x1x256.Idx → EReal) (y : S4x384x256.Idx) : EReal := x3 y * x4 (ix3 (y 0) 0 (y 2))

theorem pb_val (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → EReal) (x4 : S4x1x256.Idx → EReal)
    (n : ℕ) (hn : n ≤ 48) : ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) n, ∀ x, p.2 x = dq x3 x4 (p.1.emb x) := by
  induction n with
  | zero => intro p hp; exact absurd hp (List.not_mem_nil)
  | succ n ih =>
    have h48 : k0_t1_loop.trips = 48 := rfl
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) ⟨n, by omega⟩
    simp only at e
    rw [e, tripL_eq]
    intro p hp
    rcases List.mem_append.mp hp with hp | hp
    · obtain rfl := List.mem_singleton.mp hp
      have ho : (k0_off1 ⟨n, by omega⟩ : Fin 3 → ℕ) = ![n / 12, (n % 12) * 32, 0] := k0_off1_eq' _
      have ho2 : (k0_off2 ⟨n, by omega⟩ : Fin 3 → ℕ) = ![n / 12, 0, 0] := k0_off2_eq' _
      intro (x : S1x32x256.Idx)
      obtain ⟨a, b, d, rfl⟩ : ∃ (a : Fin 1) (b : Fin 32) (d : Fin 256), x = ix3 a b d := ⟨x 0, x 1, x 2, by funext k; fin_cases k <;> rfl⟩
      rw [View.readAt_eq_ld, View.readAt_eq_ld, Memref.IsWhole.read_unread, Memref.IsWhole.read_unread]
      dsimp only
      unfold k0_pay4 k0_pay3
      pointwise
      unfold dq
      refine congrArg₂ (· * ·) ?_ ?_
      · show x3 _ = x3 _
        congr 1
        funext k; apply Fin.ext; fin_cases k
        · show (k0_off1 ⟨n, by omega⟩ : Fin 3 → ℕ) 0 = (k0_off1 ⟨n, by omega⟩ : Fin 3 → ℕ) 0 + 1 * a.val
          omega
        · show (k0_off1 ⟨n, by omega⟩ : Fin 3 → ℕ) 1 + b.val = (k0_off1 ⟨n, by omega⟩ : Fin 3 → ℕ) 1 + 1 * b.val
          omega
        · show (k0_off1 ⟨n, by omega⟩ : Fin 3 → ℕ) 2 + d.val = (k0_off1 ⟨n, by omega⟩ : Fin 3 → ℕ) 2 + 1 * d.val
          omega
      · show x4 _ = x4 _
        congr 1
        funext k; apply Fin.ext; fin_cases k
        · show (k0_off2 ⟨n, by omega⟩ : Fin 3 → ℕ) 0 = (k0_off1 ⟨n, by omega⟩ : Fin 3 → ℕ) 0 + 1 * a.val
          rw [ho, ho2]
          show n / 12 = n / 12 + 1 * a.val
          omega
        · show (k0_off2 ⟨n, by omega⟩ : Fin 3 → ℕ) 1 = 0
          rw [ho2]; rfl
        · show (k0_off2 ⟨n, by omega⟩ : Fin 3 → ℕ) 2 + d.val = (k0_off1 ⟨n, by omega⟩ : Fin 3 → ℕ) 2 + 1 * d.val
          rw [ho, ho2]
          show 0 + d.val = 0 + 1 * d.val
          omega
    · exact ih (by omega) p hp

theorem initSt_x10 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → EReal) (x4 : S4x1x256.Idx → EReal) (x6 : S32x1024.Idx → EReal) (x7 : S32x1.Idx → EReal) : (initSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x10 = dq x3 x4 := by
  funext y
  exact View.canon_apply_of_pieces (Val := Elt Ideal) (S := S4x384x256) (e := .f32) (dq x3 x4) (init (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).1 (pb_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 48 (le_refl _)) y (cover10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7 y)

theorem initSt_x11 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → EReal) (x4 : S4x1x256.Idx → EReal) (x6 : S32x1024.Idx → EReal) (x7 : S32x1.Idx → EReal) (r : Fin 32) (q : Fin 1024) : (initSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x11 (ix2 r q) = x6 (ix2 r q) * x7 (ix2 r 0) := by
  have e : (init (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.1 = [⟨Rect.unit ![0, 0] S32x1024.size inb_S32x1024_S32x1024_0_0, k0_pay5 (View.readAt (Elt Ideal) arg6.view (Rect.unit ![0, 0] S32x1024.size inb_S32x1024_S32x1024_0_0 : Rect S32x1024).toLoadRect (harg6.unread x6)) (View.readAt (Elt Ideal) arg7.view (Rect.unit ![0, 0] S32x1.size inb_S32x1_S32x1_0_0 : Rect S32x1).toLoadRect (harg7.unread x7))⟩] := by with_unfolding_all rfl
  have hz : (![0, 0] : Fin 2 → ℕ) = fun _ => 0 := by funext k; fin_cases k <;> rfl
  unfold initSt
  dsimp only
  rw [e, View.canon_cons_unit_zero hz, View.readAt_eq_ld, View.readAt_eq_ld, Memref.IsWhole.read_unread, Memref.IsWhole.read_unread]
  unfold k0_pay5
  pointwise

theorem initSt_x12 (c : Dev nD) (i : grid0.Coords) (arg1 : Memref sig .tc .smem S1 .i32) (harg1 : arg1.IsWhole) (arg2 : Memref sig .tc .vmem S128x384 .bf16) (harg2 : arg2.IsWhole) (arg3 : Memref sig .tc .vmem S4x384x256 .fp8e4m3) (harg3 : arg3.IsWhole) (arg4 : Memref sig .tc .vmem S4x1x256 .f32) (harg4 : arg4.IsWhole) (arg5 : Memref sig .tc .vmem S4x1x256 .f32) (harg5 : arg5.IsWhole) (arg6 : Memref sig .tc .vmem S32x1024 .fp8e4m3) (harg6 : arg6.IsWhole) (arg7 : Memref sig .tc .vmem S32x1 .f32) (harg7 : arg7.IsWhole) (arg8 : Memref sig .tc .vmem S1x32 .f32) (harg8 : arg8.IsWhole) (arg9 : Memref sig .tc .vmem S1x2x128x17 .bf16) (harg9 : arg9.IsWhole) (arg10 : Memref sig .tc .vmem S4x384x256 .f32) (harg10 : arg10.IsWhole) (arg11 : Memref sig .tc .vmem S32x1024 .f32) (harg11 : arg11.IsWhole) (arg12 : Memref sig .tc .vmem S24x1024 .i32) (harg12 : arg12.IsWhole) (arg13 : Memref sig .tc .vmem S2x384x256 .bf16) (harg13 : arg13.IsWhole) (arg14 : Memref sig .tc .vmem S2x384x256 .bf16) (harg14 : arg14.IsWhole) (arg15 : Memref sig .tc .vmem S2x2x4x32x256 .bf16) (harg15 : arg15.IsWhole) (arg16 : Memref sig .tc .vmem S2x2x4x128x256 .bf16) (harg16 : arg16.IsWhole) (h : k0_cond1 i = 1#1) (x3 : S4x384x256.Idx → EReal) (x4 : S4x1x256.Idx → EReal) (x6 : S32x1024.Idx → EReal) (x7 : S32x1.Idx → EReal) (r : Fin 24) (q : Fin 1024) : (initSt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h x3 x4 x6 x7).x12 (ix2 r q) = BitVec.ofNat 32 (2 * (q.val * 17 + r.val)) := by
  have e : (init (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h (harg3.unread x3) (harg4.unread x4) (harg6.unread x6) (harg7.unread x7)).2.2.1 = [⟨Rect.unit ![0, 0] S24x1024.size inb_S24x1024_S24x1024_0_0, init.sl.v790⟩] := by with_unfolding_all rfl
  have hz : (![0, 0] : Fin 2 → ℕ) = fun _ => 0 := by funext k; fin_cases k <;> rfl
  unfold initSt
  dsimp only
  rw [e, View.canon_cons_unit_zero hz]
  unfold init.sl.v790 init.sl.v785 init.sl.v782 init.sl.v783 init.sl.v781 init.sl.v786
  pointwise
  show (BitVec.ofNat 32 q.val * BitVec.ofNat 32 17 + BitVec.ofNat 32 r.val) * BitVec.ofNat 32 2 = _
  rw [← BitVec.ofNat_mul, ← BitVec.ofNat_add, ← BitVec.ofNat_mul, Nat.mul_comm]

end Cert.KernelIdeal
-- ==== Proof.StateVal.lean ====
module

public import proofs.«01_k».proof.Proof.StepVal
public import proofs.«01_k».proof.Proof.InitVal
public import proofs.«01_k».proof.Proof.Run
public import Idealize.ShloMosaic.Lib.Pipeline.Value

@[expose] public section

set_option maxRecDepth 16384
set_option maxHeartbeats 1000000

noncomputable section

namespace Cert.KernelIdeal

open Idealize.ShloMosaic Idealize.ShloMosaic.TcCoe
open Cert.KernelIdeal.Gen

attribute [local irreducible] restSt restOut initSt

open Idealize.ShloMosaic.Pipeline (Dat Cfg Window)

variable (m : (ℓ : Loc nD τ sig) → Buf (Elt Ideal) ℓ)

/-- Window 0's array as the kernel finds it: every point reads it whole. -/
def X0 (c : Dev nD) : S1.Idx → BitVec 32 := V m c (Pipeline.arrRef spec0 0)
theorem iblk_0 (c : Dev nD) (t : Fin cfg0.N) : iblk m c 0 t = X0 m c := by
  funext y
  exact congrArg (V m c (Pipeline.arrRef spec0 0)) (funext fun a => Fin.ext ((cfg0.win 0).rect_emb_val_of_index_zero t a (by fin_cases a <;> rfl) y))
/-- Window 1's array as the kernel finds it: every point reads it whole. -/
def X1 (c : Dev nD) : S128x384.Idx → EReal := V m c (Pipeline.arrRef spec0 1)
theorem iblk_1 (c : Dev nD) (t : Fin cfg0.N) : iblk m c 1 t = X1 m c := by
  funext y
  exact congrArg (V m c (Pipeline.arrRef spec0 1)) (funext fun a => Fin.ext ((cfg0.win 1).rect_emb_val_of_index_zero t a (by fin_cases a <;> rfl) y))
/-- Window 2's array as the kernel finds it: every point reads it whole. -/
def X2 (c : Dev nD) : S4x384x256.Idx → EReal := V m c (Pipeline.arrRef spec0 2)
theorem iblk_2 (c : Dev nD) (t : Fin cfg0.N) : iblk m c 2 t = X2 m c := by
  funext y
  exact congrArg (V m c (Pipeline.arrRef spec0 2)) (funext fun a => Fin.ext ((cfg0.win 2).rect_emb_val_of_index_zero t a (by fin_cases a <;> rfl) y))
/-- Window 3's array as the kernel finds it: every point reads it whole. -/
def X3 (c : Dev nD) : S4x1x256.Idx → EReal := V m c (Pipeline.arrRef spec0 3)
theorem iblk_3 (c : Dev nD) (t : Fin cfg0.N) : iblk m c 3 t = X3 m c := by
  funext y
  exact congrArg (V m c (Pipeline.arrRef spec0 3)) (funext fun a => Fin.ext ((cfg0.win 3).rect_emb_val_of_index_zero t a (by fin_cases a <;> rfl) y))
/-- Window 4's array as the kernel finds it: every point reads it whole. -/
def X4 (c : Dev nD) : S4x1x256.Idx → EReal := V m c (Pipeline.arrRef spec0 4)
theorem iblk_4 (c : Dev nD) (t : Fin cfg0.N) : iblk m c 4 t = X4 m c := by
  funext y
  exact congrArg (V m c (Pipeline.arrRef spec0 4)) (funext fun a => Fin.ext ((cfg0.win 4).rect_emb_val_of_index_zero t a (by fin_cases a <;> rfl) y))
/-- Window 5's array as the kernel finds it: every point reads it whole. -/
def X5 (c : Dev nD) : S32x1024.Idx → EReal := V m c (Pipeline.arrRef spec0 5)
theorem iblk_5 (c : Dev nD) (t : Fin cfg0.N) : iblk m c 5 t = X5 m c := by
  funext y
  exact congrArg (V m c (Pipeline.arrRef spec0 5)) (funext fun a => Fin.ext ((cfg0.win 5).rect_emb_val_of_index_zero t a (by fin_cases a <;> rfl) y))
/-- Window 6's array as the kernel finds it: every point reads it whole. -/
def X6 (c : Dev nD) : S32x1.Idx → EReal := V m c (Pipeline.arrRef spec0 6)
theorem iblk_6 (c : Dev nD) (t : Fin cfg0.N) : iblk m c 6 t = X6 m c := by
  funext y
  exact congrArg (V m c (Pipeline.arrRef spec0 6)) (funext fun a => Fin.ext ((cfg0.win 6).rect_emb_val_of_index_zero t a (by fin_cases a <;> rfl) y))
/-- Window 7's array as the kernel finds it: every point reads it whole. -/
def X7 (c : Dev nD) : S1x32.Idx → EReal := V m c (Pipeline.arrRef spec0 7)
theorem iblk_7 (c : Dev nD) (t : Fin cfg0.N) : iblk m c 7 t = X7 m c := by
  funext y
  exact congrArg (V m c (Pipeline.arrRef spec0 7)) (funext fun a => Fin.ext ((cfg0.win 7).rect_emb_val_of_index_zero t a (by fin_cases a <;> rfl) y))

/-- The dequantised layers, and a member's keys. -/
def D1 (c : Dev nD) : S4x384x256.Idx → EReal := dq (X2 m c) (X3 m c)
def D2 (c : Dev nD) (y : S32x1024.Idx) : EReal := X5 m c y * X6 m c (ix2 (y 0) 0)
def key (c : Dev nD) (n : ℕ) (l : BitVec 32) : BitVec 32 := lkey (X0 m c (ix1 0)) (BitVec.ofNat 32 n) l

theorem coords_val : ∀ t : Fin cfg0.N, ((grid0.coords t) 0).val = t.val := by decide +kernel
theorem cond1_iff : ∀ i : grid0.Coords, k0_cond1 i = 1#1 ↔ (i 0).val = 0 := by decide +kernel

/-- What every point finds in the buffers filled at the first. -/
structure Const (c : Dev nD) (s : St Ideal) : Prop where
  h10 : s.x10 = D1 m c
  h11 : s.x11 = D2 m c
  h12 : ∀ (r : Fin 24) (q : Fin 1024), s.x12 (ix2 r q) = BitVec.ofNat 32 (2 * (q.val * 17 + r.val))

theorem mid_pos (c : Dev nD) (t : Fin cfg0.N) (ht : t.val ≠ 0) (s : St Ideal) : mid m c t s = s := by
  unfold mid preSt
  exact dif_neg (fun h => ht ((coords_val t).symm.trans ((cond1_iff _).mp h)))

theorem mid_const (c : Dev nD) (t : Fin cfg0.N) (s : St Ideal) (h : t.val ≠ 0 → Const m c s) : Const m c (mid m c t s) := by
  by_cases ht : t.val = 0
  · have hc : k0_cond1 (grid0.coords t) = 1#1 := (cond1_iff _).mpr ((coords_val t).trans ht)
    unfold mid preSt
    rw [dif_pos hc]
    refine ⟨?_, ?_, ?_⟩
    · rw [initSt_x10, iblk_2, iblk_3]; rfl
    · funext y
      obtain ⟨r, q, rfl⟩ : ∃ (r : Fin 32) (q : Fin 1024), y = ix2 r q := ⟨y 0, y 1, by funext k; fin_cases k <;> rfl⟩
      rw [initSt_x11, iblk_5, iblk_6]; rfl
    · intro r q
      rw [initSt_x12]
  · rw [mid_pos m c t ht]; exact h ht

/-- What member `n`'s point leaves for the next. -/
structure Inv (c : Dev nD) (n : ℕ) (s : St Ideal) : Prop where
  hc : Const m c s
  h14 : s.x14 = W1 (D1 m c) (key m c n 0#32) 3
  h15 : ∀ (p s' : Fin 2) (cc : Fin 4) (r : Fin 32) (j : Fin 256), p.val = n % 2 → s.x15 (ix5 p s' cc r j) = W2 (D2 m c) (key m c n 1#32) s' cc r j
  h16 : ∀ (p s' : Fin 2) (cc : Fin 4) (y : Fin 128) (j : Fin 256), p.val = n % 2 → cc ≠ 3 →
    s.x16 (ix5 p s' cc y j) = hidE (X1 m c) (W1 (D1 m c) (key m c n 0#32) cc) (X4 m c) cc s' y j

theorem next_inv (c : Dev nD) (t : Fin cfg0.N) (s : St Ideal) (h : t.val ≠ 0 → Const m c s) : Inv m c t.val (next m c t s) := by
  obtain ⟨h10, h11, h12⟩ := mid_const m c t s h
  unfold next
  rw [iblk_0, iblk_1, iblk_4, iblk_7]
  generalize mid m c t s = s0 at h10 h11 h12
  refine ⟨⟨?_, ?_, ?_⟩, ?_, ?_, ?_⟩
  · rw [restSt_x10, h10]
  · rw [restSt_x11, h11]
  · rw [restSt_x12]; exact h12
  · rw [restSt_x14, h10, coords_val]; rfl
  · intro p s' cc r j hp
    rw [restSt_x15 _ _ _ _ _ _ _ _ _ _ _ _ _ _ _ _ _ _ _ _ _ _ _ _ _ _ _ _ _ _ _ _ _ _ _ _ _ _ _ h12, coords_val, if_pos hp, h11]; rfl
  · intro p s' cc y j hp hcc
    rw [restSt_x16, coords_val, h10]
    have hcs : cc = 2 ∨ cc = 1 ∨ cc = 0 := by
      have := cc.isLt
      have : cc.val ≠ 3 := fun e => hcc (Fin.ext e)
      rcases (by omega : cc.val = 2 ∨ cc.val = 1 ∨ cc.val = 0) with e | e | e
      · exact .inl (Fin.ext e)
      · exact .inr (.inl (Fin.ext e))
      · exact .inr (.inr (Fin.ext e))
    rcases hcs with rfl | rfl | rfl
    · rw [if_pos ⟨hp, rfl⟩]; rfl
    · rw [if_neg (fun e => absurd e.2 (by decide)), if_pos ⟨hp, rfl⟩]; rfl
    · rw [if_neg (fun e => absurd e.2 (by decide)), if_neg (fun e => absurd e.2 (by decide)), if_pos ⟨hp, rfl⟩]; rfl

theorem stAt_inv (c : Dev nD) (n : ℕ) (hn : n < cfg0.N) : Inv m c n (stAt m c (n + 1)) := by
  induction n with
  | zero =>
    rw [stAt_succ m c ⟨0, hn⟩]
    exact next_inv m c ⟨0, hn⟩ _ (fun h => absurd rfl h)
  | succ n ih =>
    rw [stAt_succ m c ⟨n + 1, hn⟩]
    exact next_inv m c ⟨n + 1, hn⟩ _ (fun _ => (ih (by omega)).hc)

/-- Member `n`'s output. -/
def outB (c : Dev nD) (n : ℕ) (s : Fin 2) (y : Fin 128) (a : Fin 17) : EReal :=
  have h (cc : Fin 4) : EReal := ∑ x : Fin 256, hidE (X1 m c) (W1 (D1 m c) (key m c n 0#32) cc) (X4 m c) cc s y x * W2 (D2 m c) (key m c n 1#32) s cc (⟨a.val, by omega⟩ : Fin 32) x
  Ideal.tanh (h 0 + h 1 + h 2 + h 3 + X7 m c (ix2 0 (⟨a.val, by omega⟩ : Fin 32)))

theorem outAt_val (c : Dev nD) (t : Fin cfg0.N) (n : ℕ) (ht : t.val = n + 1) (s : Fin 2) (y : Fin 128) (a : Fin 17) :
    outAt m c t (stAt m c t.val) (ix4 0 s y a) = outB m c n s y a := by
  have I := stAt_inv m c n (by omega)
  rw [← ht] at I
  unfold outAt
  rw [mid_pos m c t (by omega), iblk_0, iblk_1, iblk_4, iblk_7]
  generalize stAt m c t.val = s0 at I
  have hp : (⟨(t.val + 1) % 2, by omega⟩ : Fin 2).val = ((grid0.coords t 0).val + 1) % 2 := by rw [coords_val]
  rw [restOut_at _ _ _ _ _ _ _ _ _ _ _ _ _ _ _ _ _ _ _ _ _ _ _ _ _ _ _ _ _ _ _ _ _ _ _ _ _ _ _ _ s hp]
  have hpn : (⟨(t.val + 1) % 2, by omega⟩ : Fin 2).val = n % 2 := by show (t.val + 1) % 2 = n % 2; omega
  generalize (⟨(t.val + 1) % 2, by omega⟩ : Fin 2) = p at hp hpn
  have hne : ¬ p.val = ((grid0.coords t) 0).val % 2 := by rw [hp]; omega
  unfold outE outB
  have e (cc : Fin 4) (x : Fin 256) : (restSt (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (X0 m c) (X1 m c) (X4 m c) (X7 m c) s0).x16 (ix5 p s cc y x)
      = hidE (X1 m c) (W1 (D1 m c) (key m c n 0#32) cc) (X4 m c) cc s y x := by
    rw [restSt_x16, if_neg (fun e => hne e.1), if_neg (fun e => hne e.1), if_neg (fun e => hne e.1)]
    by_cases h3 : cc = 3
    · subst h3
      rw [if_pos ⟨hp, rfl⟩, I.h14]
    · rw [if_neg (fun e => h3 e.2)]
      exact I.h16 p s cc y x hpn h3
  simp only [e, fun cc r j => I.h15 p s cc r j hpn]

end Cert.KernelIdeal
-- ==== Proof.HostVal.lean ====
module

public import proofs.«01_k».proof.Proof.StateVal
public import Idealize.ShloMosaic.Lib.StableHlo.ReadAt
public import Idealize.ShloMosaic.Lib.Pointwise

@[expose] public section

set_option maxRecDepth 16384
set_option maxHeartbeats 1000000

noncomputable section

namespace Cert.KernelIdeal

open Idealize.ShloMosaic Idealize.ShloMosaic.TcCoe
open Cert.KernelIdeal.Gen

variable (m : (ℓ : Loc nD τ sig) → Buf (Elt Ideal) ℓ)

theorem X0_at (c : Dev nD) : X0 m c (ix1 0) = (m (c, Proc.tc.devRef main_arg7) : S1.Idx → BitVec 32) (ix1 0) := by
  unfold X0
  unfold V
  after_reads_at
  rfl

theorem X1_at (c : Dev nD) (y : Fin 128) (q : Fin 384) (h : q.val < 376) :
    X1 m c (ix2 y q) = (m (c, Proc.tc.devRef main_arg0) : S128x376.Idx → EReal) (ix2 y ⟨q.val, h⟩) := by
  unfold X1
  unfold V
  after_reads_at
  exact dif_pos h

theorem X2_at (c : Dev nD) (s : Fin 4) (r : Fin 384) (j : Fin 256) (h : r.val < 376) :
    X2 m c (ix3 s r j) = (m (c, Proc.tc.devRef main_arg1) : S376x1024.Idx → EReal) (ix2 ⟨r.val, h⟩ ⟨256 * s.val + j.val, by omega⟩) := by
  unfold X2
  unfold V
  after_reads_at
  rw [dif_pos ⟨h, by omega⟩]
  exact congrArg _ (congrArg (ix2 _) (Fin.ext (by show s.val * 256 + j.val = 256 * s.val + j.val; omega)))

theorem X3_at (c : Dev nD) (s : Fin 4) (j : Fin 256) :
    X3 m c (ix3 s 0 j) = (m (c, Proc.tc.devRef main_arg2) : S1024.Idx → EReal) (ix1 ⟨256 * s.val + j.val, by omega⟩) := by
  unfold X3
  unfold V
  after_reads_at
  exact congrArg _ (congrArg ix1 (Fin.ext (by show s.val * 256 + j.val = 256 * s.val + j.val; omega)))

theorem X4_at (c : Dev nD) (s : Fin 4) (j : Fin 256) :
    X4 m c (ix3 s 0 j) = (m (c, Proc.tc.devRef main_arg3) : S1024.Idx → EReal) (ix1 ⟨256 * s.val + j.val, by omega⟩) := by
  unfold X4
  unfold V
  after_reads_at
  exact congrArg _ (congrArg ix1 (Fin.ext (by show s.val * 256 + j.val = 256 * s.val + j.val; omega)))

theorem X5_at (c : Dev nD) (r : Fin 32) (q : Fin 1024) (h : r.val < 17) :
    X5 m c (ix2 r q) = (m (c, Proc.tc.devRef main_arg4) : S1024x17.Idx → EReal) (ix2 q ⟨r.val, h⟩) := by
  unfold X5
  unfold V
  after_reads_at
  exact dif_pos h

theorem X6_at (c : Dev nD) (r : Fin 32) (h : r.val < 17) :
    X6 m c (ix2 r 0) = (m (c, Proc.tc.devRef main_arg5) : S17.Idx → EReal) (ix1 ⟨r.val, h⟩) := by
  unfold X6
  unfold V
  after_reads_at
  exact dif_pos h

theorem X7_at (c : Dev nD) (r : Fin 32) (h : r.val < 17) :
    X7 m c (ix2 0 r) = (m (c, Proc.tc.devRef main_arg6) : S17.Idx → EReal) (ix1 ⟨r.val, h⟩) := by
  unfold X7
  unfold V
  after_reads_at
  exact dif_pos h

end Cert.KernelIdeal
-- ==== Proof.OutArr.lean ====
module

public import proofs.«01_k».proof.Proof.StateVal
public import Idealize.ShloMosaic.Lib.Pipeline.Value

@[expose] public section

set_option maxRecDepth 16384
set_option maxHeartbeats 1000000

noncomputable section

namespace Cert.KernelIdeal

open Idealize.ShloMosaic Idealize.ShloMosaic.TcCoe
open Cert.KernelIdeal.Gen

open Idealize.ShloMosaic.Pipeline (Dat Cfg Window)

attribute [local irreducible] outAt stAt outB

variable (m : (ℓ : Loc nD τ sig) → Buf (Elt Ideal) ℓ)

theorem flush_pos : ∀ t : Fin cfg0.N, (cfg0.win 8).flush t = true → t.val ≠ 0 := by decide +kernel
theorem flush_succ : ∀ t : Fin cfg0.N, t.val ≠ 0 → (cfg0.win 8).flush t = true := by decide +kernel
theorem index_8 : ∀ t : Fin cfg0.N, (cfg0.win 8).index t = ![t.val - 1, 0, 0, 0] := by decide +kernel

/-- The kernel's result. -/
def outK (c : Dev nD) (y : S512x2x128x17.Idx) : EReal := outB m c (y 0).val (y 1) (y 2) (y 3)

theorem emb_8 (t : Fin cfg0.N) (ht : t.val ≠ 0) (s : Fin 2) (y : Fin 128) (a : Fin 17) :
    ((cfg0.win 8).blk t).view.emb (ix4 (0 : Fin 1) s y a) = (ix4 (⟨t.val - 1, by have := t.isLt; have h : cfg0.N = 513 := rfl; omega⟩ : Fin 512) s y a : S512x2x128x17.Idx) := by
  funext b
  apply Fin.ext
  refine ((cfg0.win 8).rect_emb_val t (ix4 (0 : Fin 1) s y a) b).trans ?_
  rw [index_8]
  fin_cases b
  · show (t.val - 1) * 1 + 0 = t.val - 1; omega
  · show 0 * 2 + s.val = s.val; omega
  · show 0 * 128 + y.val = y.val; omega
  · show 0 * 17 + a.val = a.val; omega

theorem flushed_8 (c : Dev nD) (t : Fin cfg0.N) (hf : (cfg0.win 8).flush t = true) :
    (dats m 0 c).flushed 8 t = ((cfg0.win 8).blk t).view.read (Elt Ideal) (outK m c) := by
  have ht := flush_pos t hf
  have hv : t.val = (t.val - 1) + 1 := by omega
  funext (x : S1x2x128x17.Idx)
  obtain ⟨z, s, y, a, rfl⟩ : ∃ (z : Fin 1) (s : Fin 2) (y : Fin 128) (a : Fin 17), x = ix4 z s y a := ⟨x 0, x 1, x 2, x 3, by funext k; fin_cases k <;> rfl⟩
  obtain rfl : z = 0 := Subsingleton.elim _ _
  have e1 : (dats m 0 c).flushed 8 t (ix4 (0 : Fin 1) s y a) = outAt m c t (stAt m c t.val) (ix4 0 s y a) := by
    rw [← after0_8]; rfl
  have e2 : ((cfg0.win 8).blk t).view.read (Elt Ideal) (outK m c) (ix4 (0 : Fin 1) s y a) = outB m c (t.val - 1) s y a := by
    show outK m c (((cfg0.win 8).blk t).view.emb (ix4 (0 : Fin 1) s y a)) = _
    rw [emb_8 t ht]; rfl
  exact e1.trans ((outAt_val m c t _ hv s y a).trans e2.symm)

theorem arrAt_8 (c : Dev nD) : (dats m 0 c).arrAt 8 cfg0.N = outK m c := by
  refine (dats m 0 c).arrAt_eq_of_cover 8 (outK m c) (flushed_8 m c) fun (i : S512x2x128x17.Idx) => ?_
  obtain ⟨n, s, y, a, rfl⟩ : ∃ (n : Fin 512) (s : Fin 2) (y : Fin 128) (a : Fin 17), i = ix4 n s y a := ⟨i 0, i 1, i 2, i 3, by funext k; fin_cases k <;> rfl⟩
  let t : Fin cfg0.N := ⟨n.val + 1, by have h : cfg0.N = 513 := rfl; omega⟩
  have ht : t.val ≠ 0 := Nat.succ_ne_zero _
  refine ⟨t, flush_succ t ht, ?_⟩
  have e := emb_8 t ht s y a
  have hm := ((cfg0.win 8).blk t).view.emb_mem_set (ix4 (0 : Fin 1) s y a)
  rw [e] at hm
  exact hm

end Cert.KernelIdeal
-- ==== Proof.RefHash.lean ====
module

public import proofs.«01_k».proof.Proof.Gen.ReferenceIdeal.Frame
public import proofs.«01_k».proof.Proof.Noise
public import Idealize.ShloMosaic.Lib.Pointwise
public import Idealize.ShloMosaic.Lib.Claim
public import Idealize.ShloMosaic.Lib.StableHlo.ReadAt

@[expose] public section

set_option maxRecDepth 16384
set_option maxHeartbeats 1000000

noncomputable section

namespace Cert.ReferenceIdeal

open Idealize.ShloMosaic Idealize.ShloMosaic.TcCoe Idealize.SL.Sem
open Cert.ReferenceIdeal.Gen

variable (m : (ℓ : Loc nD τ sig) → Buf (Elt Ideal) ℓ)

/-- The hash's finaliser, as the host computes it. -/
def fmH (h : BitVec 32) : BitVec 32 :=
  have h1 := IntOp.muli (IntOp.xori h (IntOp.shrui .host h 16#32)) 2246822507#32
  have h2 := IntOp.muli (IntOp.xori h1 (IntOp.shrui .host h1 13#32)) 3266489909#32
  IntOp.xori h2 (IntOp.shrui .host h2 16#32)

/-- The seed. -/
def seed (c : Dev nD) : BitVec 32 := (m (c, Proc.tc.devRef main_arg7) : S1.Idx → BitVec 32) (ix1 0)

/-- The key of member pair `b` in layer `l`. -/
def lkeyH (s b l : BitVec 32) : BitVec 32 := fmH (IntOp.xori (fmH (IntOp.xori s b)) l)

/-- Twice the number of the entry at row `r` and column `q` of a matrix with `n` columns. -/
def twoH (r n q : BitVec 32) : BitVec 32 := IntOp.muli (IntOp.addi (IntOp.muli r n) q) 2#32

/-- The standard Gaussian of two hashes. -/
def epsH (h0 h1 : BitVec 32) : EReal :=
  Noise.epsE (IntOp.addi (IntOp.shrui .host h0 8#32) 1#32).toNat (IntOp.shrui .host h1 8#32).toNat

/-- The first layer's Gaussians. -/
theorem eps0_at (c : Dev nD) (b : Fin 512) (r : Fin 376) (q : Fin 1024) :
    (V m c main_v115 : S512x376x1024.Idx → EReal) (ix3 b r q)
      = epsH (fmH (IntOp.xori (lkeyH (seed m c) (BitVec.ofNat 32 b) 0#32) (twoH (BitVec.ofNat 32 r) 1024#32 (BitVec.ofNat 32 q))))
          (fmH (IntOp.xori (lkeyH (seed m c) (BitVec.ofNat 32 b) 0#32) (IntOp.addi (twoH (BitVec.ofNat 32 r) 1024#32 (BitVec.ofNat 32 q)) 1#32))) := by
  unfold V
  after_reads_at
  rfl

/-- The second layer's Gaussians. -/
theorem eps1_at (c : Dev nD) (b : Fin 512) (r : Fin 1024) (q : Fin 17) :
    (V m c main_v231 : S512x1024x17.Idx → EReal) (ix3 b r q)
      = epsH (fmH (IntOp.xori (lkeyH (seed m c) (BitVec.ofNat 32 b) 1#32) (twoH (BitVec.ofNat 32 r) 17#32 (BitVec.ofNat 32 q))))
          (fmH (IntOp.xori (lkeyH (seed m c) (BitVec.ofNat 32 b) 1#32) (IntOp.addi (twoH (BitVec.ofNat 32 r) 17#32 (BitVec.ofNat 32 q)) 1#32))) := by
  unfold V
  after_reads_at
  rfl

theorem fmH_eq (h : BitVec 32) : fmH h = Words.fmW h := rfl

theorem epsH_eq (h0 h1 : BitVec 32) : epsH h0 h1 = ((Noise.gauss (h0 >>> 8).toNat (h1 >>> 8).toNat : ℝ) : EReal) := by
  have hlt := Noise.toNat_lt h0
  rw [← Noise.epsE_eq _ _ hlt]
  unfold epsH
  have : (IntOp.addi (IntOp.shrui .host h0 8#32) 1#32).toNat = (h0 >>> 8).toNat + 1 := by
    show (h0 >>> 8 + 1#32).toNat = _
    rw [BitVec.toNat_add]; simp only [BitVec.toNat_ofNat]; omega
  rw [this]
  rfl

end Cert.ReferenceIdeal
-- ==== Proof.RefVal.lean ====
module

public import proofs.«01_k».proof.Proof.RefHash
public import proofs.«01_k».proof.Proof.RestVal
public import Idealize.ShloMosaic.Lib.Pipeline.Value
public import proofs.«01_k».proof.Proof.Gen.ReferenceIdeal.Frame
public import Idealize.ShloMosaic.Lib.Pointwise
public import Idealize.ShloMosaic.Lib.ValueIdx

@[expose] public section

set_option maxRecDepth 16384
set_option maxHeartbeats 1000000

noncomputable section

namespace Cert.ReferenceIdeal

open Idealize.ShloMosaic Idealize.ShloMosaic.TcCoe
open Cert.ReferenceIdeal.Gen

open Idealize.ShloMosaic.Pipeline (Dat Cfg Window)
open Cert.KernelIdeal (sgn nz lkey)

theorem c_376 : Named.named (F := Ideal) κ "sigma" (φ := .f32) 0x3DCCCCCD#32 * Scalar.rsqrt (F := Ideal) (φ := .f32) (Ideal.ofBits FTy.f32 0x43BC0000#32) = ((1 / 10 * (Real.sqrt 376)⁻¹ : ℝ) : EReal) := by
  rw [IdealRules.named_const.ideal_named_scalar _ _ _ ((1 / 10 : ℝ) : EReal) rfl, Noise.lit_376]
  show ((1 / 10 : ℝ) : EReal) * Ideal.rsqrt ((376 : ℝ) : EReal) = _
  rw [Ideal.rsqrt_coe, if_neg (by norm_num), if_neg (by norm_num), ← EReal.coe_mul]

theorem c_1024 : Named.named (F := Ideal) κ "sigma" (φ := .f32) 0x3DCCCCCD#32 * Scalar.rsqrt (F := Ideal) (φ := .f32) (Ideal.ofBits FTy.f32 0x44800000#32) = ((1 / 10 * (Real.sqrt 1024)⁻¹ : ℝ) : EReal) := by
  rw [IdealRules.named_const.ideal_named_scalar _ _ _ ((1 / 10 : ℝ) : EReal) rfl, Noise.lit_1024]
  show ((1 / 10 : ℝ) : EReal) * Ideal.rsqrt ((1024 : ℝ) : EReal) = _
  rw [Ideal.rsqrt_coe, if_neg (by norm_num), if_neg (by norm_num), ← EReal.coe_mul]

/-- A member's output, from the two layers' noises. -/
def refE (s : Fin 2) (x0 : S128x376.Idx → EReal) (x1 : S376x1024.Idx → EReal) (x2 x3 : S1x1024.Idx → EReal) (x4 : S1024x17.Idx → EReal) (x5 x6 : S1x17.Idx → EReal) (ν0 : Fin 376 → Fin 1024 → ℝ) (ν1 : Fin 1024 → Fin 17 → ℝ) (y : Fin 128) (a : Fin 17) : EReal :=
  Ideal.tanh (∑ q : Fin 1024, Ideal.tanh (∑ r : Fin 376, x0 (ix2 y r) * sgn s.val (x1 (ix2 r q) * x2 (ix2 0 q)) (ν0 r q) + x3 (ix2 0 q))
    * sgn s.val (x4 (ix2 q a) * x5 (ix2 0 a)) (ν1 q a) + x6 (ix2 0 a))

theorem pos_at (x0 : Vec Ideal S128x376 .bf16) (x1 : Vec Ideal S376x1024 .fp8e4m3) (x2 : Vec Ideal S1x1024 .f32) (x3 : Vec Ideal S1x1024 .f32) (x4 : Vec Ideal S1024x17 .fp8e4m3) (x5 : Vec Ideal S1x17 .f32) (x6 : Vec Ideal S1x17 .f32) (x7 : Vec Ideal S512x376x1024 .f32) (x8 : Vec Ideal S512x1024x17 .f32) (g0 : Fin 376 → Fin 1024 → ℝ) (g1 : Fin 1024 → Fin 17 → ℝ) (n : Fin 512) (e0 : ∀ r q, x7 (ix3 n r q) = ((g0 r q : ℝ) : EReal)) (e1 : ∀ q a, x8 (ix3 n q a) = ((g1 q a : ℝ) : EReal)) (y : Fin 128) (a : Fin 17) :
    k0_pay9 (k0_pay3 x8) (k0_pay5 x4 x5) (k0_pay7 x7 x1 x2 x0) (k0_pay8 x3) x6 (ix4 n 0 y a) = refE 0 x0 x1 x2 x3 x4 x5 x6 (fun r q => 1 / 10 * (Real.sqrt 376)⁻¹ * g0 r q) (fun q a => 1 / 10 * (Real.sqrt 1024)⁻¹ * g1 q a) y a := by
  unfold k0_pay9 k0_pay3 k0_pay5 k0_pay7 k0_pay8 k0_pay6 k0_pay4 k0_pay2
  pointwise
  simp only [c_376, c_1024, e0, e1, ← EReal.coe_mul]
  rfl

theorem neg_at (x0 : Vec Ideal S128x376 .bf16) (x1 : Vec Ideal S376x1024 .fp8e4m3) (x2 : Vec Ideal S1x1024 .f32) (x3 : Vec Ideal S1x1024 .f32) (x4 : Vec Ideal S1024x17 .fp8e4m3) (x5 : Vec Ideal S1x17 .f32) (x6 : Vec Ideal S1x17 .f32) (x7 : Vec Ideal S512x376x1024 .f32) (x8 : Vec Ideal S512x1024x17 .f32) (g0 : Fin 376 → Fin 1024 → ℝ) (g1 : Fin 1024 → Fin 17 → ℝ) (n : Fin 512) (e0 : ∀ r q, x7 (ix3 n r q) = ((g0 r q : ℝ) : EReal)) (e1 : ∀ q a, x8 (ix3 n q a) = ((g1 q a : ℝ) : EReal)) (y : Fin 128) (a : Fin 17) :
    k0_pay1 (k0_pay10 (k0_pay2 x7) (k0_pay3 x8) (k0_pay4 x1 x2) (k0_pay5 x4 x5) (k0_pay6 x0) x3 x6) (ix4 n 0 y a) = refE 1 x0 x1 x2 x3 x4 x5 x6 (fun r q => 1 / 10 * (Real.sqrt 376)⁻¹ * g0 r q) (fun q a => 1 / 10 * (Real.sqrt 1024)⁻¹ * g1 q a) y a := by
  unfold k0_pay1 k0_pay10 k0_pay3 k0_pay5 k0_pay6 k0_pay4 k0_pay2
  pointwise
  simp only [c_376, c_1024, e0, e1, ← EReal.coe_mul]
  rfl

theorem canon_pair (P1 P0 : S512x1x128x17.Idx → EReal) (n : Fin 512) (s : Fin 2) (y : Fin 128) (a : Fin 17) :
    View.canon (Val := Elt Ideal) (s := S512x2x128x17) (e := .bf16) [⟨r0_8, P1⟩, ⟨r0_7, P0⟩] (ix4 n s y a)
      = if s.val = 0 then P0 (ix4 n 0 y a) else P1 (ix4 n 0 y a) := by
  have hs : s.val = 0 ∨ s.val = 1 := by have := s.isLt; omega
  rcases hs with hs | hs
  · obtain rfl : s = 0 := Fin.ext hs
    rw [if_pos hs]
    have hn : (ix4 n 0 y a : S512x2x128x17.Idx) ∉ r0_8.set := by
      rw [Rect.mem_set_unit]
      intro h
      have h := (h 1).1
      have h' : (1 : ℕ) ≤ 0 := h
      omega
    have hx : r0_7.emb (ix4 n (0 : Fin 1) y a) = ix4 n 0 y a := by
      funext x; apply Fin.ext; fin_cases x
      · show 0 + 1 * n.val = n.val; omega
      · rfl
      · show 0 + 1 * y.val = y.val; omega
      · show 0 + 1 * a.val = a.val; omega
    have e1 := View.canon_cons_of_not_mem (Val := Elt Ideal) (s := S512x2x128x17) (e := .bf16) ⟨r0_8, P1⟩ [⟨r0_7, P0⟩] hn
    have e2 := View.canon_cons_emb (Val := Elt Ideal) (s := S512x2x128x17) (e := .bf16) r0_7 P0 [] (ix4 n (0 : Fin 1) y a)
    rw [hx] at e2
    exact e1.trans e2
  · obtain rfl : s = 1 := Fin.ext hs
    rw [if_neg (by omega)]
    have hx : r0_8.emb (ix4 n (0 : Fin 1) y a) = ix4 n 1 y a := by
      funext x; apply Fin.ext; fin_cases x
      · show 0 + 1 * n.val = n.val; omega
      · rfl
      · show 0 + 1 * y.val = y.val; omega
      · show 0 + 1 * a.val = a.val; omega
    have e2 := View.canon_cons_emb (Val := Elt Ideal) (s := S512x2x128x17) (e := .bf16) r0_8 P1 [⟨r0_7, P0⟩] (ix4 n (0 : Fin 1) y a)
    rw [hx] at e2
    exact e2

theorem z2 : (![0, 0] : Fin 2 → ℕ) = fun _ => 0 := by funext k; fin_cases k <;> rfl
theorem z3 : (![0, 0, 0] : Fin 3 → ℕ) = fun _ => 0 := by funext k; fin_cases k <;> rfl

theorem out_at (x0 : Vec Ideal S128x376 .bf16) (x1 : Vec Ideal S376x1024 .fp8e4m3) (x2 : Vec Ideal S1x1024 .f32) (x3 : Vec Ideal S1x1024 .f32) (x4 : Vec Ideal S1024x17 .fp8e4m3) (x5 : Vec Ideal S1x17 .f32) (x6 : Vec Ideal S1x17 .f32) (x7 : Vec Ideal S512x376x1024 .f32) (x8 : Vec Ideal S512x1024x17 .f32) (g0 : Fin 376 → Fin 1024 → ℝ) (g1 : Fin 1024 → Fin 17 → ℝ) (n : Fin 512) (e0 : ∀ r q, x7 (ix3 n r q) = ((g0 r q : ℝ) : EReal)) (e1 : ∀ q a, x8 (ix3 n q a) = ((g1 q a : ℝ) : EReal)) (s : Fin 2) (y : Fin 128) (a : Fin 17) :
    out0_9 x0 x1 x2 x3 x4 x5 x6 x7 x8 (ix4 n s y a) = refE s x0 x1 x2 x3 x4 x5 x6 (fun r q => 1 / 10 * (Real.sqrt 376)⁻¹ * g0 r q) (fun q a => 1 / 10 * (Real.sqrt 1024)⁻¹ * g1 q a) y a := by
  have l0 : View.ld (Val := Elt Ideal) (e' := .f32) x7 r0_0 = x7 := View.ld_unit_zero z3 _ _
  have l1 : View.ld (Val := Elt Ideal) (e' := .f32) x8 r0_1 = x8 := View.ld_unit_zero z3 _ _
  have l2 : View.ld (Val := Elt Ideal) (e' := .fp8e4m3) x1 r0_2 = x1 := View.ld_unit_zero z2 _ _
  have l3 : View.ld (Val := Elt Ideal) (e' := .f32) x2 r0_3 = x2 := View.ld_unit_zero z2 _ _
  have l4 : View.ld (Val := Elt Ideal) (e' := .f32) x3 r0_3 = x3 := View.ld_unit_zero z2 _ _
  have l5 : View.ld (Val := Elt Ideal) (e' := .fp8e4m3) x4 r0_4 = x4 := View.ld_unit_zero z2 _ _
  have l6 : View.ld (Val := Elt Ideal) (e' := .f32) x5 r0_5 = x5 := View.ld_unit_zero z2 _ _
  have l7 : View.ld (Val := Elt Ideal) (e' := .f32) x6 r0_5 = x6 := View.ld_unit_zero z2 _ _
  have l8 : View.ld (Val := Elt Ideal) (e' := .bf16) x0 r0_6 = x0 := View.ld_unit_zero z2 _ _
  unfold out0_9 k0_pay12 k0_pay11
  rw [l0, l1, l2, l3, l4, l5, l6, l7, l8]
  refine (canon_pair _ _ n s y a).trans ?_
  have hs : s.val = 0 ∨ s.val = 1 := by have := s.isLt; omega
  rcases hs with hs | hs
  · obtain rfl : s = 0 := Fin.ext hs
    exact (if_pos hs).trans (pos_at x0 x1 x2 x3 x4 x5 x6 x7 x8 g0 g1 n e0 e1 y a)
  · obtain rfl : s = 1 := Fin.ext hs
    exact (if_neg (by omega)).trans (neg_at x0 x1 x2 x3 x4 x5 x6 x7 x8 g0 g1 n e0 e1 y a)

end Cert.ReferenceIdeal
-- ==== Proof.RefArr.lean ====
module

public import proofs.«01_k».proof.Proof.RefVal

@[expose] public section

set_option maxRecDepth 16384
set_option maxHeartbeats 1000000

noncomputable section

namespace Cert.ReferenceIdeal

open Idealize.ShloMosaic Idealize.ShloMosaic.TcCoe
open Cert.ReferenceIdeal.Gen

open Idealize.ShloMosaic.Pipeline (Dat Cfg Window)
open Cert.KernelIdeal (sgn nz lkey)

attribute [local irreducible] out0_9

variable (m : (ℓ : Loc nD τ sig) → Buf (Elt Ideal) ℓ)

theorem iblk_0 (c : Dev nD) (t : Fin cfg0.N) : iblk m c 0 t = (V m c main_arg0 : S128x376.Idx → EReal) := by
  funext y
  exact congrArg (V m c main_arg0) (funext fun a => Fin.ext ((cfg0.win 0).rect_emb_val_of_index_zero t a (by fin_cases a <;> rfl) y))
theorem iblk_1 (c : Dev nD) (t : Fin cfg0.N) : iblk m c 1 t = (V m c main_arg1 : S376x1024.Idx → EReal) := by
  funext y
  exact congrArg (V m c main_arg1) (funext fun a => Fin.ext ((cfg0.win 1).rect_emb_val_of_index_zero t a (by fin_cases a <;> rfl) y))
theorem iblk_2 (c : Dev nD) (t : Fin cfg0.N) : iblk m c 2 t = (V m c main_v232 : S1x1024.Idx → EReal) := by
  funext y
  exact congrArg (V m c main_v232) (funext fun a => Fin.ext ((cfg0.win 2).rect_emb_val_of_index_zero t a (by fin_cases a <;> rfl) y))
theorem iblk_3 (c : Dev nD) (t : Fin cfg0.N) : iblk m c 3 t = (V m c main_v233 : S1x1024.Idx → EReal) := by
  funext y
  exact congrArg (V m c main_v233) (funext fun a => Fin.ext ((cfg0.win 3).rect_emb_val_of_index_zero t a (by fin_cases a <;> rfl) y))
theorem iblk_4 (c : Dev nD) (t : Fin cfg0.N) : iblk m c 4 t = (V m c main_arg4 : S1024x17.Idx → EReal) := by
  funext y
  exact congrArg (V m c main_arg4) (funext fun a => Fin.ext ((cfg0.win 4).rect_emb_val_of_index_zero t a (by fin_cases a <;> rfl) y))
theorem iblk_5 (c : Dev nD) (t : Fin cfg0.N) : iblk m c 5 t = (V m c main_v234 : S1x17.Idx → EReal) := by
  funext y
  exact congrArg (V m c main_v234) (funext fun a => Fin.ext ((cfg0.win 5).rect_emb_val_of_index_zero t a (by fin_cases a <;> rfl) y))
theorem iblk_6 (c : Dev nD) (t : Fin cfg0.N) : iblk m c 6 t = (V m c main_v235 : S1x17.Idx → EReal) := by
  funext y
  exact congrArg (V m c main_v235) (funext fun a => Fin.ext ((cfg0.win 6).rect_emb_val_of_index_zero t a (by fin_cases a <;> rfl) y))
theorem iblk_7 (c : Dev nD) (t : Fin cfg0.N) : iblk m c 7 t = (V m c main_v115 : S512x376x1024.Idx → EReal) := by
  funext y
  exact congrArg (V m c main_v115) (funext fun a => Fin.ext ((cfg0.win 7).rect_emb_val_of_index_zero t a (by fin_cases a <;> rfl) y))
theorem iblk_8 (c : Dev nD) (t : Fin cfg0.N) : iblk m c 8 t = (V m c main_v231 : S512x1024x17.Idx → EReal) := by
  funext y
  exact congrArg (V m c main_v231) (funext fun a => Fin.ext ((cfg0.win 8).rect_emb_val_of_index_zero t a (by fin_cases a <;> rfl) y))

theorem v232_at (c : Dev nD) (q : Fin 1024) : (V m c main_v232 : S1x1024.Idx → EReal) (ix2 0 q) = (m (c, Proc.tc.devRef main_arg2) : S1024.Idx → EReal) (ix1 q) := by
  unfold V
  after_reads_at
theorem v233_at (c : Dev nD) (q : Fin 1024) : (V m c main_v233 : S1x1024.Idx → EReal) (ix2 0 q) = (m (c, Proc.tc.devRef main_arg3) : S1024.Idx → EReal) (ix1 q) := by
  unfold V
  after_reads_at
theorem v234_at (c : Dev nD) (q : Fin 17) : (V m c main_v234 : S1x17.Idx → EReal) (ix2 0 q) = (m (c, Proc.tc.devRef main_arg5) : S17.Idx → EReal) (ix1 q) := by
  unfold V
  after_reads_at
theorem v235_at (c : Dev nD) (q : Fin 17) : (V m c main_v235 : S1x17.Idx → EReal) (ix2 0 q) = (m (c, Proc.tc.devRef main_arg6) : S17.Idx → EReal) (ix1 q) := by
  unfold V
  after_reads_at

/-- A member's key. -/
def keyR (c : Dev nD) (n : ℕ) (l : BitVec 32) : BitVec 32 := lkey (seed m c) (BitVec.ofNat 32 n) l

theorem twoH_eq (r n q : ℕ) : twoH (BitVec.ofNat 32 r) (BitVec.ofNat 32 n) (BitVec.ofNat 32 q) = BitVec.ofNat 32 (2 * (r * n + q)) := by
  show (BitVec.ofNat 32 r * BitVec.ofNat 32 n + BitVec.ofNat 32 q) * BitVec.ofNat 32 2 = _
  rw [← BitVec.ofNat_mul, ← BitVec.ofNat_add, ← BitVec.ofNat_mul, Nat.mul_comm]

/-- The Gaussian of an entry. -/
def gz (w : ℕ) (k : BitVec 32) (R q : ℕ) : ℝ :=
  Noise.gauss (Words.fmW (k ^^^ BitVec.ofNat 32 (2 * (R * w + q))) >>> 8).toNat (Words.fmW (k ^^^ (BitVec.ofNat 32 (2 * (R * w + q)) + 1#32)) >>> 8).toNat

theorem nz_eq (n : ℝ) (w : ℕ) (k : BitVec 32) (R q : ℕ) : 1 / 10 * (Real.sqrt n)⁻¹ * gz w k R q = nz n w k R q := by
  unfold nz Noise.noise gz
  congr 2
  norm_num

theorem v115_at (c : Dev nD) (n : Fin 512) (r : Fin 376) (q : Fin 1024) : (V m c main_v115 : S512x376x1024.Idx → EReal) (ix3 n r q) = ((gz 1024 (keyR m c n.val 0#32) r.val q.val : ℝ) : EReal) := by
  rw [eps0_at, epsH_eq, fmH_eq, fmH_eq, twoH_eq]
  rfl
theorem v231_at (c : Dev nD) (n : Fin 512) (r : Fin 1024) (q : Fin 17) : (V m c main_v231 : S512x1024x17.Idx → EReal) (ix3 n r q) = ((gz 17 (keyR m c n.val 1#32) r.val q.val : ℝ) : EReal) := by
  rw [eps1_at, epsH_eq, fmH_eq, fmH_eq, twoH_eq]
  rfl

/-- The reference's result. -/
def outR (c : Dev nD) (y : S512x2x128x17.Idx) : EReal :=
  refE (y 1) (V m c main_arg0) (V m c main_arg1) (V m c main_v232) (V m c main_v233) (V m c main_arg4) (V m c main_v234) (V m c main_v235)
    (fun r q => nz 376 1024 (keyR m c (y 0).val 0#32) r.val q.val) (fun q a => nz 1024 17 (keyR m c (y 0).val 1#32) q.val a.val) (y 2) (y 3)

theorem emb_9 (t : Fin cfg0.N) (i : S512x2x128x17.Idx) : ((cfg0.win 9).blk t).view.emb i = i :=
  funext fun a => Fin.ext ((cfg0.win 9).rect_emb_val_of_index_zero t a (by fin_cases a <;> rfl) i)

theorem flush_9 : ∀ t : Fin cfg0.N, (cfg0.win 9).flush t = true := by decide +kernel

theorem out_val (c : Dev nD) (n : Fin 512) (s : Fin 2) (y : Fin 128) (a : Fin 17) :
    out0_9 (V m c main_arg0) (V m c main_arg1) (V m c main_v232) (V m c main_v233) (V m c main_arg4) (V m c main_v234) (V m c main_v235) (V m c main_v115) (V m c main_v231) (ix4 n s y a) = outR m c (ix4 n s y a) := by
  have h := out_at (V m c main_arg0) (V m c main_arg1) (V m c main_v232) (V m c main_v233) (V m c main_arg4) (V m c main_v234) (V m c main_v235) (V m c main_v115) (V m c main_v231)
    (fun r q => gz 1024 (keyR m c n.val 0#32) r.val q.val) (fun q a => gz 17 (keyR m c n.val 1#32) q.val a.val) n (v115_at m c n) (v231_at m c n) s y a
  simp only [nz_eq] at h
  exact h

attribute [local irreducible] outR

theorem flushed_9 (c : Dev nD) (t : Fin cfg0.N) : (dats m 0 c).flushed 9 t = ((cfg0.win 9).blk t).view.read (Elt Ideal) (outR m c) := by
  funext (x : S512x2x128x17.Idx)
  have e2 : ((cfg0.win 9).blk t).view.read (Elt Ideal) (outR m c) x = outR m c x := congrArg (outR m c) (emb_9 t x)
  obtain ⟨n, s, y, a, rfl⟩ : ∃ (n : Fin 512) (s : Fin 2) (y : Fin 128) (a : Fin 17), x = ix4 n s y a := ⟨x 0, x 1, x 2, x 3, by funext k; fin_cases k <;> rfl⟩
  have e1 : (dats m 0 c).flushed 9 t (ix4 n s y a) = out0_9 (iblk m c 0 t) (iblk m c 1 t) (iblk m c 2 t) (iblk m c 3 t) (iblk m c 4 t) (iblk m c 5 t) (iblk m c 6 t) (iblk m c 7 t) (iblk m c 8 t) (ix4 n s y a) := by
    rw [← after0_9]; rfl
  rw [iblk_0, iblk_1, iblk_2, iblk_3, iblk_4, iblk_5, iblk_6, iblk_7, iblk_8, out_val] at e1
  exact e1.trans e2.symm

theorem arrAt_9 (c : Dev nD) : (dats m 0 c).arrAt 9 cfg0.N = outR m c := by
  refine (dats m 0 c).arrAt_eq_of_cover 9 (outR m c) (fun t _ => flushed_9 m c t) fun (i : S512x2x128x17.Idx) => ?_
  let t : Fin cfg0.N := ⟨0, by decide⟩
  refine ⟨t, flush_9 t, ?_⟩
  have hm := ((cfg0.win 9).blk t).view.emb_mem_set i
  rw [emb_9] at hm
  exact hm

end Cert.ReferenceIdeal
-- ==== Proof.Value.lean ====
module

public import proofs.«01_k».proof.Proof.HostVal
public import proofs.«01_k».proof.Proof.OutArr
public import proofs.«01_k».proof.Proof.RefArr
public import proofs.«01_k».proof.Defs

@[expose] public section

set_option maxRecDepth 16384
set_option maxHeartbeats 1000000

noncomputable section

namespace Cert.KernelIdeal

open Idealize.ShloMosaic Idealize.ShloMosaic.TcCoe
open Cert.ReferenceIdeal (refE)

/-- A sum over the padded rows whose last eight terms vanish. -/
theorem sum_pad (f : Fin 384 → EReal) (h : ∀ q : Fin 384, 376 ≤ q.val → f q = 0) : ∑ q, f q = ∑ r : Fin 376, f ⟨r.val, by omega⟩ := by
  have e := Fin.sum_univ_add (a := 376) (b := 8) f
  rw [show ∑ i : Fin 8, f (Fin.natAdd 376 i) = 0 from Finset.sum_eq_zero fun i _ => h _ (by show 376 ≤ 376 + i.val; omega), add_zero] at e
  exact e

/-- A sum over all hidden units, in the kernel's four chunks. -/
theorem sum_chunks (f : Fin 1024 → EReal) :
    ∑ q, f q = (∑ x : Fin 256, f ⟨256 * (0 : Fin 4).val + x.val, by show 256 * 0 + x.val < 1024; omega⟩) + (∑ x : Fin 256, f ⟨256 * (1 : Fin 4).val + x.val, by show 256 * 1 + x.val < 1024; omega⟩)
      + (∑ x : Fin 256, f ⟨256 * (2 : Fin 4).val + x.val, by show 256 * 2 + x.val < 1024; omega⟩) + (∑ x : Fin 256, f ⟨256 * (3 : Fin 4).val + x.val, by show 256 * 3 + x.val < 1024; omega⟩) := by
  have e3 := Fin.sum_univ_add (a := 768) (b := 256) f
  have e2 := Fin.sum_univ_add (a := 512) (b := 256) fun i : Fin 768 => f (Fin.castAdd 256 i)
  have e1 := Fin.sum_univ_add (a := 256) (b := 256) fun i : Fin 512 => f (Fin.castAdd 256 (Fin.castAdd 256 i))
  refine e3.trans ?_
  refine congrArg₂ (· + ·) (e2.trans (congrArg₂ (· + ·) (e1.trans (congrArg₂ (· + ·) ?_ ?_)) ?_)) ?_ <;>
  · refine Finset.sum_congr rfl fun x _ => congrArg f (Fin.ext ?_)
    simp [Fin.natAdd, Fin.castAdd]

variable (m : (ℓ : Loc nD τ sig) → Buf (Elt Ideal) ℓ) (c : Dev nD)
variable (a0 : S128x376.Idx → EReal) (a1 : S376x1024.Idx → EReal) (a2 a3 : S1024.Idx → EReal) (a4 : S1024x17.Idx → EReal) (a5 a6 : S17.Idx → EReal)
variable (h0 : m (c, Proc.tc.devRef main_arg0) = a0) (h1 : m (c, Proc.tc.devRef main_arg1) = a1) (h2 : m (c, Proc.tc.devRef main_arg2) = a2) (h3 : m (c, Proc.tc.devRef main_arg3) = a3)
  (h4 : m (c, Proc.tc.devRef main_arg4) = a4) (h5 : m (c, Proc.tc.devRef main_arg5) = a5) (h6 : m (c, Proc.tc.devRef main_arg6) = a6)

/-- A hidden unit's number, from its chunk and its place there. -/
def unit (cc : Fin 4) (x : Fin 256) : Fin 1024 := ⟨256 * cc.val + x.val, by omega⟩

include h0 h1 h2 h3 in
theorem hid_eq (k : BitVec 32) (cc : Fin 4) (s : Fin 2) (y : Fin 128) (x : Fin 256) :
    hidE (X1 m c) (W1 (D1 m c) k cc) (X4 m c) cc s y x
      = Ideal.tanh (∑ r : Fin 376, a0 (ix2 y r) * sgn s.val (a1 (ix2 r (unit cc x)) * a2 (ix1 (unit cc x))) (nz 376 1024 k r.val (unit cc x).val) + a3 (ix1 (unit cc x))) := by
  unfold hidE
  rw [sum_pad _ fun q hq => ?_]
  · refine congrArg Ideal.tanh (congrArg₂ (· + ·) (Finset.sum_congr rfl fun r _ => ?_) ((X4_at m c cc x).trans (congrFun h3 _)))
    have hr : r.val < 376 := r.isLt
    refine congrArg₂ (· * ·) ((X1_at m c y (⟨r.val, by omega⟩ : Fin 384) hr).trans (congrFun h0 _)) ?_
    refine (if_pos hr).trans ?_
    exact congrArg (fun z => sgn s.val z (nz 376 1024 k r.val (unit cc x).val)) (congrArg₂ (· * ·) ((X2_at m c cc (⟨r.val, by omega⟩ : Fin 384) x hr).trans (congrFun h1 _)) ((X3_at m c cc x).trans (congrFun h2 _)))
  · have e : W1 (D1 m c) k cc (ix3 s q x) = 0 := if_neg (by show ¬ q.val < 376; omega)
    rw [e, mul_zero]

include h4 h5 in
theorem w2_eq (k : BitVec 32) (cc : Fin 4) (s : Fin 2) (a : Fin 17) (x : Fin 256) :
    W2 (D2 m c) k s cc ⟨a.val, by omega⟩ x = sgn s.val (a4 (ix2 (unit cc x) a) * a5 (ix1 a)) (nz 1024 17 k (unit cc x).val a.val) := by
  refine (if_pos (by show a.val < 24; omega)).trans ?_
  exact congrArg (fun z => sgn s.val z (nz 1024 17 k (unit cc x).val a.val)) (congrArg₂ (· * ·) ((X5_at m c (⟨a.val, by omega⟩ : Fin 32) (unit cc x) a.isLt).trans (congrFun h4 _)) ((X6_at m c (⟨a.val, by omega⟩ : Fin 32) a.isLt).trans (congrFun h5 _)))

include h0 h1 h2 h3 h4 h5 h6 in
/-- The kernel's output as the reference forms it. -/
theorem outB_eq (b2 b3 : ReferenceIdeal.S1x1024.Idx → EReal) (b5 b6 : ReferenceIdeal.S1x17.Idx → EReal) (e2 : ∀ q, b2 (ix2 0 q) = a2 (ix1 q)) (e3 : ∀ q, b3 (ix2 0 q) = a3 (ix1 q)) (e5 : ∀ q, b5 (ix2 0 q) = a5 (ix1 q)) (e6 : ∀ q, b6 (ix2 0 q) = a6 (ix1 q))
    (n : ℕ) (s : Fin 2) (y : Fin 128) (a : Fin 17) :
    refE s a0 a1 b2 b3 a4 b5 b6 (fun r q => nz 376 1024 (key m c n 0#32) r.val q.val) (fun q a => nz 1024 17 (key m c n 1#32) q.val a.val) y a = outB m c n s y a := by
  unfold refE outB
  simp only [e2, e3, e5, e6]
  refine congrArg Ideal.tanh (congrArg₂ (· + ·) ((sum_chunks _).trans ?_) ?_)
  · refine congrArg₂ (· + ·) (congrArg₂ (· + ·) (congrArg₂ (· + ·) ?_ ?_) ?_) ?_ <;>
    · refine Finset.sum_congr rfl fun x _ => ?_
      rw [hid_eq m c a0 a1 a2 a3 h0 h1 h2 h3, w2_eq m c a4 a5 h4 h5]
      rfl
  · exact ((X7_at m c (⟨a.val, by omega⟩ : Fin 32) a.isLt).trans (congrFun h6 _)).symm

end Cert.KernelIdeal

namespace Cert.Proof

open Idealize.ShloMosaic Idealize.ShloMosaic.TcCoe

/-- From equal arguments, the reference's result and the kernel's agree. -/
theorem value (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.outR m' c = KernelIdeal.outK m c := by
  funext (i : ReferenceIdeal.S512x2x128x17.Idx)
  obtain ⟨n, s, y, a, rfl⟩ : ∃ (n : Fin 512) (s : Fin 2) (y : Fin 128) (a : Fin 17), i = ix4 n s y a := ⟨i 0, i 1, i 2, i 3, by funext k; fin_cases k <;> rfl⟩
  have hk : ∀ l, ReferenceIdeal.keyR m' c n.val l = KernelIdeal.key m c n.val l := fun l => by
    unfold ReferenceIdeal.keyR KernelIdeal.key
    rw [KernelIdeal.X0_at]
    exact congrArg (fun z => KernelIdeal.lkey z _ _) (congrFun h7 (ix1 0))
  refine Eq.trans ?_ (KernelIdeal.outB_eq m c _ _ _ _ _ _ _ h0.symm h1.symm h2.symm h3.symm h4.symm h5.symm h6.symm (ReferenceIdeal.Gen.V m' c ReferenceIdeal.main_v232) (ReferenceIdeal.Gen.V m' c ReferenceIdeal.main_v233)
    (ReferenceIdeal.Gen.V m' c ReferenceIdeal.main_v234) (ReferenceIdeal.Gen.V m' c ReferenceIdeal.main_v235) (ReferenceIdeal.v232_at m' c) (ReferenceIdeal.v233_at m' c) (ReferenceIdeal.v234_at m' c) (ReferenceIdeal.v235_at m' c) n.val s y a)
  show ReferenceIdeal.refE s _ _ _ _ _ _ _ (fun r q => KernelIdeal.nz 376 1024 (ReferenceIdeal.keyR m' c n.val 0#32) r.val q.val) (fun q a => KernelIdeal.nz 1024 17 (ReferenceIdeal.keyR m' c n.val 1#32) q.val a.val) y a = _
  rw [hk, hk, ReferenceIdeal.Gen.V_main_arg0, ReferenceIdeal.Gen.V_main_arg1, ReferenceIdeal.Gen.V_main_arg4]

/-- Over the extended reals both runs end with the same result. -/
theorem algebraic : Cert.algebraic_KernelIdeal_ReferenceIdeal := by
  intro m g m' g' _ h
  refine ⟨fun c => KernelIdeal.outK m c, ?_, ?_⟩
  · refine (θ_run (KernelIdeal.defs (F := Ideal)) _ _).mono (fun r hr c => ?_) (θ_run_and (KernelIdeal.run_main (F := Ideal) m g) (KernelIdeal.frame (F := Ideal) m g))
    exact ⟨((hr.1.1 c).1 8).trans (KernelIdeal.arrAt_8 m c), hr.2.1 c⟩
  · refine (θ_run (ReferenceIdeal.defs (F := Ideal)) _ _).mono (fun r hr c => ?_) (θ_run_and (ReferenceIdeal.Gen.run_main (F := Ideal) m' g') (ReferenceIdeal.Gen.unchanged (F := Ideal) m' g'))
    obtain ⟨h0, h1, h2, h3, h4, h5, h6, h7⟩ := h c
    exact ⟨((hr.1 c).1 9).trans ((ReferenceIdeal.arrAt_9 m' c).trans (value m m' c h0 h1 h2 h3 h4 h5 h6 h7)), hr.2 c⟩

end Cert.Proof
-- ==== Proof.lean ====
/- The claims of this directory, from the modules under `Proof/`. -/
module

public import proofs.«01_k».proof.Defs
public import proofs.«01_k».proof.Proof.Run
public import proofs.«01_k».proof.Proof.RunB
public import proofs.«01_k».proof.Proof.Value
public import proofs.«01_k».proof.Proof.Gen.ReferenceIdeal.Frame

@[expose] public section

noncomputable section

namespace Cert.Proof

open Idealize.ShloMosaic

/-- Each of the three constants stands for the real number that it is named after. -/
theorem preserves : Cert.preserves_Kernel_KernelIdeal :=
  ⟨IdealRules.named_const.statement Cert.KernelIdeal.κ "inv_ln2" .f32 0x3FB8AA3B#32 (((Real.log 2)⁻¹ : ℝ) : EReal) rfl,
   IdealRules.named_const.statement Cert.KernelIdeal.κ "noise1" .f32 0xBA1AA45B#32 (((-1 / 1175) * (Real.log 2) : ℝ) : EReal) rfl,
   IdealRules.named_const.statement Cert.KernelIdeal.κ "noise2" .f32 0xB9632166#32 (((-1 / 3200) * (Real.log 2) : ℝ) : EReal) rfl⟩

theorem claim : Cert.Claim :=
  ⟨Cert.Kernel.Gen.facts, Cert.KernelIdeal.Gen.facts, Cert.ReferenceIdeal.Gen.facts,
    fun m ρ _ => Cert.Kernel.frame m ρ, fun m ρ _ => Cert.KernelIdeal.frame m ρ, fun m ρ _ => Cert.ReferenceIdeal.Gen.frame m ρ,
    preserves, algebraic⟩

end Cert.Proof

end
